-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "q_scale" .f32 0x3E0293EE#32 (((11863283 / 134217728) * (Real.log 2)⁻¹ : ℝ) : EReal)

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
-- ==== Pre_finite_scores.lean ====
abbrev S8x4352x1024 : Shape := ⟨3, ![8, 4352, 1024]⟩
abbrev S8x4352x256 : Shape := ⟨3, ![8, 4352, 256]⟩
abbrev S1024x1024 : Shape := ⟨2, ![1024, 1024]⟩
abbrev S8x2x6x1024 : Shape := ⟨4, ![8, 2, 6, 1024]⟩
abbrev S_ : Shape := ⟨0, ![]⟩

class Facts : Prop where
  bcast_S_S8x4352x1024 : S_.BroadcastsInDim S8x4352x1024 (![] : Fin 0 → Fin S8x4352x1024.rank)
  reducesTo_S8x4352x1024_S_d0_1_2 : S8x4352x1024.ReducesTo [0, 1, 2] S_
  h_S_ : 0 < S_.numel
  bcast_S_S8x4352x256 : S_.BroadcastsInDim S8x4352x256 (![] : Fin 0 → Fin S8x4352x256.rank)
  reducesTo_S8x4352x256_S_d0_1_2 : S8x4352x256.ReducesTo [0, 1, 2] S_

variable [Facts]

def fn {F : FTy → Type} [FloatOps F] (main_arg0 : FVec F S8x4352x1024 .f32) (main_arg1 : FVec F S8x4352x256 .f32) (main_arg2 : FVec F S8x4352x256 .f32) (main_arg3 : FVec F S1024x1024 .f32) (main_arg4 : FVec F S8x4352x1024 .f32) (main_arg5 : FVec F S8x2x6x1024 .f32) : IVec S_ 1 :=
  let main_v0 : FVec F S8x4352x1024 .f32 := Host.absf main_arg0
  let main_cst : FVec F S_ .f32 := constant S_ .f32 0x7F800000#32
  let main_v1 : FVec F S8x4352x1024 .f32 := broadcastInDim S8x4352x1024 ![] bcast_S_S8x4352x1024 main_cst
  let main_v2 : IVec S8x4352x1024 1 := cmpf .olt main_v0 main_v1
  let main_c : IVec S_ 1 := constantI S_ 1 1#1
  let main_v3 : IVec S_ 1 := (fun x v => Host.reduce IntOp.andi x v reducesTo_S8x4352x1024_S_d0_1_2 h_S_) main_v2 main_c
  let main_v4 : FVec F S8x4352x256 .f32 := Host.absf main_arg1
  let main_cst_0 : FVec F S_ .f32 := constant S_ .f32 0x7F800000#32
  let main_v5 : FVec F S8x4352x256 .f32 := broadcastInDim S8x4352x256 ![] bcast_S_S8x4352x256 main_cst_0
  let main_v6 : IVec S8x4352x256 1 := cmpf .olt main_v4 main_v5
  let main_c_1 : IVec S_ 1 := constantI S_ 1 1#1
  let main_v7 : IVec S_ 1 := (fun x v => Host.reduce IntOp.andi x v reducesTo_S8x4352x256_S_d0_1_2 h_S_) main_v6 main_c_1
  let main_v8 : IVec S_ 1 := andi main_v3 main_v7
  main_v8
-- ==== Kernel.lean ====
abbrev S16x8x544x1024 : Shape := ⟨4, ![16, 8, 544, 1024]⟩
abbrev S4x16x1024x2048 : Shape := ⟨4, ![4, 16, 1024, 2048]⟩
abbrev S4x16x2048x1024 : Shape := ⟨4, ![4, 16, 2048, 1024]⟩
abbrev S2x1024x2048 : Shape := ⟨3, ![2, 1024, 2048]⟩
abbrev S2 : Shape := ⟨1, ![2]⟩
abbrev S2x2048x1024 : Shape := ⟨3, ![2, 2048, 1024]⟩
abbrev S2x544x1024 : Shape := ⟨3, ![2, 544, 1024]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1x1024x2048 : Shape := ⟨4, ![1, 1, 1024, 2048]⟩
abbrev S1x2048x1024 : Shape := ⟨3, ![1, 2048, 1024]⟩
abbrev S2048x1024 : Shape := ⟨2, ![2048, 1024]⟩
abbrev S1x1x2048x1024 : Shape := ⟨4, ![1, 1, 2048, 1024]⟩
abbrev S1x544x1024 : Shape := ⟨3, ![1, 544, 1024]⟩
abbrev S544x1024 : Shape := ⟨2, ![544, 1024]⟩
abbrev S1x1x544x1024 : Shape := ⟨4, ![1, 1, 544, 1024]⟩
abbrev S544x2048 : Shape := ⟨2, ![544, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16x8x544x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x8x544x1024, .bf16⟩
  | .local _ .vmem, ⟨0, _⟩ => ⟨S2x1024x2048, .f32⟩
  | .local _ .vmem, ⟨1, _⟩ => ⟨S2x1024x2048, .f32⟩
  | .local _ .vmem, ⟨2, _⟩ => ⟨S2x2048x1024, .f32⟩
  | .local _ .vmem, ⟨3, _⟩ => ⟨S2x544x1024, .bf16⟩
  | .local _ .vmem, ⟨4, _⟩ => ⟨S2x544x1024, .bf16⟩
  | _, _ => ⟨S16x8x544x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩

abbrev nD : Nat := 1
abbrev τ : Topo := Topo.v7x

variable {F : FTy → Type} [FloatOps F]

abbrev grid0 : Pipeline.Grid := .none

def k0_off1 : Fin 1 → Nat :=
  let c0_i32_31_r0 : BitVec 32 := 0#32
  let c2_i32_r0 : BitVec 32 := 2#32
  let v33_r0 : BitVec 32 := Scalar.remui c0_i32_31_r0 c2_i32_r0
  ![v33_r0.toNat]
def k0_off2 : Fin 3 → Nat :=
  let c0_i32_31_r0 : BitVec 32 := 0#32
  let c2_i32_r0 : BitVec 32 := 2#32
  let v33_r0 : BitVec 32 := Scalar.remui c0_i32_31_r0 c2_i32_r0
  let c0_i32_33_r0 : BitVec 32 := 0#32
  let c0_i32_34_r0 : BitVec 32 := 0#32
  ![v33_r0.toNat, 0, 0]
def k0_off3 : Fin 4 → Nat :=
  let c0_i32_32_r0 : BitVec 32 := 0#32
  let c0_i32_27_r0 : BitVec 32 := 0#32
  let c0_i32_28_r0 : BitVec 32 := 0#32
  let v31_r0 : BitVec 32 := Scalar.addi c0_i32_27_r0 c0_i32_28_r0
  let c0_i32_35_r0 : BitVec 32 := 0#32
  let c0_i32_36_r0 : BitVec 32 := 0#32
  ![0, v31_r0.toNat, 0, 0]
def k0_off4 : Fin 3 → Nat :=
  let c0_i32_56_r0 : BitVec 32 := 0#32
  let c2_i32_57_r0 : BitVec 32 := 2#32
  let v53_r0 : BitVec 32 := Scalar.remui c0_i32_56_r0 c2_i32_57_r0
  let c0_i32_59_r0 : BitVec 32 := 0#32
  let c0_i32_60_r0 : BitVec 32 := 0#32
  ![v53_r0.toNat, 0, 0]
def k0_off5 : Fin 4 → Nat :=
  let c0_i32_58_r0 : BitVec 32 := 0#32
  let c0_i32_52_r0 : BitVec 32 := 0#32
  let c0_i32_53_r0 : BitVec 32 := 0#32
  let v51_r0 : BitVec 32 := Scalar.addi c0_i32_52_r0 c0_i32_53_r0
  let c0_i32_61_r0 : BitVec 32 := 0#32
  let c0_i32_62_r0 : BitVec 32 := 0#32
  ![0, v51_r0.toNat, 0, 0]
def k0_off6 : Fin 3 → Nat :=
  let c0_i32_65_r0 : BitVec 32 := 0#32
  let c2_i32_66_r0 : BitVec 32 := 2#32
  let v61_r0 : BitVec 32 := Scalar.remui c0_i32_65_r0 c2_i32_66_r0
  let c0_i32_69_r0 : BitVec 32 := 0#32
  let c0_i32_70_r0 : BitVec 32 := 0#32
  ![v61_r0.toNat, 0, 0]
@[reducible] def k0_t1_loop : Scf.Loop 32 :=
  let c0_i32_89_r0 : BitVec 32 := 0#32
  let c128_i32_r0 : BitVec 32 := 128#32
  let v69_r0 : BitVec 32 := Scalar.addi c0_i32_89_r0 c128_i32_r0
  let c1_i32_90_r0 : BitVec 32 := 1#32
  ⟨c0_i32_89_r0, v69_r0, c1_i32_90_r0⟩
def k0_off7 (arg28_r0 : BitVec 32) : Fin 1 → Nat :=
  let c2_i32_279_r0 : BitVec 32 := 2#32
  let v390_r0 : BitVec 32 := Scalar.remui arg28_r0 c2_i32_279_r0
  ![v390_r0.toNat]
def k0_cond1 (arg24_r0 : BitVec 32) (arg26_r0 : BitVec 32) : BitVec 1 :=
  let c0_i32_267_r0 : BitVec 32 := 0#32
  let v374_r0 : BitVec 32 := Scalar.addi arg24_r0 c0_i32_267_r0
  let c0_i32_269_r0 : BitVec 32 := 0#32
  let v376_r0 : BitVec 32 := Scalar.addi arg26_r0 c0_i32_269_r0
  let v378_r0 : BitVec 1 := Scalar.cmpi .ne v374_r0 v376_r0
  let v379_r0 : BitVec 32 := Scalar.extui v378_r0
  let c0_i32_271_r0 : BitVec 32 := 0#32
  let v380_r0 : BitVec 1 := Scalar.cmpi .ne v379_r0 c0_i32_271_r0
  v380_r0

def k0_off8 (arg28_r0 : BitVec 32) : Fin 3 → Nat :=
  let c2_i32_279_r0 : BitVec 32 := 2#32
  let v390_r0 : BitVec 32 := Scalar.remui arg28_r0 c2_i32_279_r0
  let c0_i32_281_r0 : BitVec 32 := 0#32
  let c0_i32_282_r0 : BitVec 32 := 0#32
  ![v390_r0.toNat, 0, 0]

def k0_chk1 (arg24_r0 : BitVec 32) (arg26_r0 : BitVec 32) (arg28_r0 : BitVec 32) : Prop :=
  (∀ (k0_h1 : k0_cond1 arg24_r0 arg26_r0 = 1#1), ∀ a, (k0_off7 arg28_r0) a + S1.size a ≤ S2.size a) ∧
  (∀ (k0_h1 : k0_cond1 arg24_r0 arg26_r0 = 1#1), ∀ a, (k0_off8 arg28_r0) a + S1x1024x2048.size a ≤ S2x1024x2048.size a)
theorem k0_off7_inb : ∀ (arg24_r0 : BitVec 32) (arg26_r0 : BitVec 32) (arg28_r0 : BitVec 32) (k0_hw1 : k0_chk1 arg24_r0 arg26_r0 arg28_r0), ∀ (k0_h1 : k0_cond1 arg24_r0 arg26_r0 = 1#1), ∀ a, (k0_off7 arg28_r0) a + S1.size a ≤ S2.size a := fun arg24_r0 arg26_r0 arg28_r0 k0_hw1 k0_h1 => k0_hw1.1 k0_h1
theorem k0_off8_inb : ∀ (arg24_r0 : BitVec 32) (arg26_r0 : BitVec 32) (arg28_r0 : BitVec 32) (k0_hw1 : k0_chk1 arg24_r0 arg26_r0 arg28_r0), ∀ (k0_h1 : k0_cond1 arg24_r0 arg26_r0 = 1#1), ∀ a, (k0_off8 arg28_r0) a + S1x1024x2048.size a ≤ S2x1024x2048.size a := fun arg24_r0 arg26_r0 arg28_r0 k0_hw1 k0_h1 => k0_hw1.2 k0_h1

def k0_off9 (arg26_r0 : BitVec 32) : Fin 4 → Nat :=
  let c0_i32_280_r0 : BitVec 32 := 0#32
  let c0_i32_269_r0 : BitVec 32 := 0#32
  let v376_r0 : BitVec 32 := Scalar.addi arg26_r0 c0_i32_269_r0
  let c0_i32_283_r0 : BitVec 32 := 0#32
  let c0_i32_284_r0 : BitVec 32 := 0#32
  ![0, v376_r0.toNat, 0, 0]

def k0_chk2 (arg24_r0 : BitVec 32) (arg26_r0 : BitVec 32) : Prop :=
  (∀ (k0_h1 : k0_cond1 arg24_r0 arg26_r0 = 1#1), ∀ a, (k0_off9 arg26_r0) a + S1x1x1024x2048.size a ≤ S4x16x1024x2048.size a)
theorem k0_off9_inb : ∀ (arg24_r0 : BitVec 32) (arg26_r0 : BitVec 32) (k0_hw2 : k0_chk2 arg24_r0 arg26_r0), ∀ (k0_h1 : k0_cond1 arg24_r0 arg26_r0 = 1#1), ∀ a, (k0_off9 arg26_r0) a + S1x1x1024x2048.size a ≤ S4x16x1024x2048.size a := fun arg24_r0 arg26_r0 k0_hw2 k0_h1 => k0_hw2 k0_h1

def k0_off10 (arg28_r0 : BitVec 32) : Fin 1 → Nat :=
  let c2_i32_279_r0 : BitVec 32 := 2#32
  let v390_r0 : BitVec 32 := Scalar.remui arg28_r0 c2_i32_279_r0
  ![v390_r0.toNat]
def k0_cond2 (arg24_r0 : BitVec 32) (arg26_r0 : BitVec 32) : BitVec 1 :=
  let c0_i32_267_r0 : BitVec 32 := 0#32
  let v374_r0 : BitVec 32 := Scalar.addi arg24_r0 c0_i32_267_r0
  let c0_i32_269_r0 : BitVec 32 := 0#32
  let v376_r0 : BitVec 32 := Scalar.addi arg26_r0 c0_i32_269_r0
  let v378_r0 : BitVec 1 := Scalar.cmpi .ne v374_r0 v376_r0
  let v379_r0 : BitVec 32 := Scalar.extui v378_r0
  let c0_i32_271_r0 : BitVec 32 := 0#32
  let v380_r0 : BitVec 1 := Scalar.cmpi .ne v379_r0 c0_i32_271_r0
  v380_r0

def k0_off11 (arg28_r0 : BitVec 32) : Fin 3 → Nat :=
  let c2_i32_279_r0 : BitVec 32 := 2#32
  let v390_r0 : BitVec 32 := Scalar.remui arg28_r0 c2_i32_279_r0
  let c0_i32_281_r0 : BitVec 32 := 0#32
  let c0_i32_282_r0 : BitVec 32 := 0#32
  ![v390_r0.toNat, 0, 0]

def k0_chk3 (arg24_r0 : BitVec 32) (arg26_r0 : BitVec 32) (arg28_r0 : BitVec 32) : Prop :=
  (∀ (k0_h2 : k0_cond2 arg24_r0 arg26_r0 = 1#1), ∀ a, (k0_off10 arg28_r0) a + S1.size a ≤ S2.size a) ∧
  (∀ (k0_h2 : k0_cond2 arg24_r0 arg26_r0 = 1#1), ∀ a, (k0_off11 arg28_r0) a + S1x1024x2048.size a ≤ S2x1024x2048.size a)
theorem k0_off10_inb : ∀ (arg24_r0 : BitVec 32) (arg26_r0 : BitVec 32) (arg28_r0 : BitVec 32) (k0_hw3 : k0_chk3 arg24_r0 arg26_r0 arg28_r0), ∀ (k0_h2 : k0_cond2 arg24_r0 arg26_r0 = 1#1), ∀ a, (k0_off10 arg28_r0) a + S1.size a ≤ S2.size a := fun arg24_r0 arg26_r0 arg28_r0 k0_hw3 k0_h2 => k0_hw3.1 k0_h2
theorem k0_off11_inb : ∀ (arg24_r0 : BitVec 32) (arg26_r0 : BitVec 32) (arg28_r0 : BitVec 32) (k0_hw3 : k0_chk3 arg24_r0 arg26_r0 arg28_r0), ∀ (k0_h2 : k0_cond2 arg24_r0 arg26_r0 = 1#1), ∀ a, (k0_off11 arg28_r0) a + S1x1024x2048.size a ≤ S2x1024x2048.size a := fun arg24_r0 arg26_r0 arg28_r0 k0_hw3 k0_h2 => k0_hw3.2 k0_h2

def k0_off12 (arg26_r0 : BitVec 32) : Fin 4 → Nat :=
  let c0_i32_280_r0 : BitVec 32 := 0#32
  let c0_i32_269_r0 : BitVec 32 := 0#32
  let v376_r0 : BitVec 32 := Scalar.addi arg26_r0 c0_i32_269_r0
  let c0_i32_283_r0 : BitVec 32 := 0#32
  let c0_i32_284_r0 : BitVec 32 := 0#32
  ![0, v376_r0.toNat, 0, 0]

def k0_chk4 (arg24_r0 : BitVec 32) (arg26_r0 : BitVec 32) : Prop :=
  (∀ (k0_h2 : k0_cond2 arg24_r0 arg26_r0 = 1#1), ∀ a, (k0_off12 arg26_r0) a + S1x1x1024x2048.size a ≤ S4x16x1024x2048.size a)
theorem k0_off12_inb : ∀ (arg24_r0 : BitVec 32) (arg26_r0 : BitVec 32) (k0_hw4 : k0_chk4 arg24_r0 arg26_r0), ∀ (k0_h2 : k0_cond2 arg24_r0 arg26_r0 = 1#1), ∀ a, (k0_off12 arg26_r0) a + S1x1x1024x2048.size a ≤ S4x16x1024x2048.size a := fun arg24_r0 arg26_r0 k0_hw4 k0_h2 => k0_hw4 k0_h2

def k0_off13 (arg28_r0 : BitVec 32) : Fin 1 → Nat :=
  let c2_i32_279_r0 : BitVec 32 := 2#32
  let v390_r0 : BitVec 32 := Scalar.remui arg28_r0 c2_i32_279_r0
  ![v390_r0.toNat]
def k0_cond3 (arg24_r0 : BitVec 32) (arg26_r0 : BitVec 32) : BitVec 1 :=
  let c0_i32_267_r0 : BitVec 32 := 0#32
  let v374_r0 : BitVec 32 := Scalar.addi arg24_r0 c0_i32_267_r0
  let c0_i32_269_r0 : BitVec 32 := 0#32
  let v376_r0 : BitVec 32 := Scalar.addi arg26_r0 c0_i32_269_r0
  let v378_r0 : BitVec 1 := Scalar.cmpi .ne v374_r0 v376_r0
  let v379_r0 : BitVec 32 := Scalar.extui v378_r0
  let c0_i32_271_r0 : BitVec 32 := 0#32
  let v380_r0 : BitVec 1 := Scalar.cmpi .ne v379_r0 c0_i32_271_r0
  v380_r0

def k0_off14 (arg28_r0 : BitVec 32) : Fin 3 → Nat :=
  let c2_i32_279_r0 : BitVec 32 := 2#32
  let v390_r0 : BitVec 32 := Scalar.remui arg28_r0 c2_i32_279_r0
  let c0_i32_281_r0 : BitVec 32 := 0#32
  let c0_i32_282_r0 : BitVec 32 := 0#32
  ![v390_r0.toNat, 0, 0]

def k0_chk5 (arg24_r0 : BitVec 32) (arg26_r0 : BitVec 32) (arg28_r0 : BitVec 32) : Prop :=
  (∀ (k0_h3 : k0_cond3 arg24_r0 arg26_r0 = 1#1), ∀ a, (k0_off13 arg28_r0) a + S1.size a ≤ S2.size a) ∧
  (∀ (k0_h3 : k0_cond3 arg24_r0 arg26_r0 = 1#1), ∀ a, (k0_off14 arg28_r0) a + S1x2048x1024.size a ≤ S2x2048x1024.size a)
theorem k0_off13_inb : ∀ (arg24_r0 : BitVec 32) (arg26_r0 : BitVec 32) (arg28_r0 : BitVec 32) (k0_hw5 : k0_chk5 arg24_r0 arg26_r0 arg28_r0), ∀ (k0_h3 : k0_cond3 arg24_r0 arg26_r0 = 1#1), ∀ a, (k0_off13 arg28_r0) a + S1.size a ≤ S2.size a := fun arg24_r0 arg26_r0 arg28_r0 k0_hw5 k0_h3 => k0_hw5.1 k0_h3
theorem k0_off14_inb : ∀ (arg24_r0 : BitVec 32) (arg26_r0 : BitVec 32) (arg28_r0 : BitVec 32) (k0_hw5 : k0_chk5 arg24_r0 arg26_r0 arg28_r0), ∀ (k0_h3 : k0_cond3 arg24_r0 arg26_r0 = 1#1), ∀ a, (k0_off14 arg28_r0) a + S1x2048x1024.size a ≤ S2x2048x1024.size a := fun arg24_r0 arg26_r0 arg28_r0 k0_hw5 k0_h3 => k0_hw5.2 k0_h3

def k0_off15 (arg26_r0 : BitVec 32) : Fin 4 → Nat :=
  let c0_i32_280_r0 : BitVec 32 := 0#32
  let c0_i32_269_r0 : BitVec 32 := 0#32
  let v376_r0 : BitVec 32 := Scalar.addi arg26_r0 c0_i32_269_r0
  let c0_i32_283_r0 : BitVec 32 := 0#32
  let c0_i32_284_r0 : BitVec 32 := 0#32
  ![0, v376_r0.toNat, 0, 0]

def k0_chk6 (arg24_r0 : BitVec 32) (arg26_r0 : BitVec 32) : Prop :=
  (∀ (k0_h3 : k0_cond3 arg24_r0 arg26_r0 = 1#1), ∀ a, (k0_off15 arg26_r0) a + S1x1x2048x1024.size a ≤ S4x16x2048x1024.size a)
theorem k0_off15_inb : ∀ (arg24_r0 : BitVec 32) (arg26_r0 : BitVec 32) (k0_hw6 : k0_chk6 arg24_r0 arg26_r0), ∀ (k0_h3 : k0_cond3 arg24_r0 arg26_r0 = 1#1), ∀ a, (k0_off15 arg26_r0) a + S1x1x2048x1024.size a ≤ S4x16x2048x1024.size a := fun arg24_r0 arg26_r0 k0_hw6 k0_h3 => k0_hw6 k0_h3

def k0_off16 (arg18_r0 : BitVec 32) : Fin 1 → Nat :=
  let c2_i32_267_r0 : BitVec 32 := 2#32
  let v374_r0 : BitVec 32 := Scalar.remui arg18_r0 c2_i32_267_r0
  ![v374_r0.toNat]
def k0_cond4 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_146_r0 : BitVec 1 := 1#1
  let c1_i32_145_r0 : BitVec 32 := 1#32
  let v132_r0 : BitVec 32 := Scalar.addi arg23_r0 c1_i32_145_r0
  let v133_r0 : BitVec 32 := Scalar.select true_146_r0 v132_r0 arg23_r0
  let c8_i32_147_r0 : BitVec 32 := 8#32
  let v134_r0 : BitVec 1 := Scalar.cmpi .eq v133_r0 c8_i32_147_r0
  let c1_i32_149_r0 : BitVec 32 := 1#32
  let v136_r0 : BitVec 32 := Scalar.addi arg22_r0 c1_i32_149_r0
  let v137_r0 : BitVec 32 := Scalar.select v134_r0 v136_r0 arg22_r0
  let c16_i32_150_r0 : BitVec 32 := 16#32
  let v138_r0 : BitVec 1 := Scalar.cmpi .eq v137_r0 c16_i32_150_r0
  let c0_i32_151_r0 : BitVec 32 := 0#32
  let v139_r0 : BitVec 32 := Scalar.select v138_r0 c0_i32_151_r0 v137_r0
  let c0_i32_152_r0 : BitVec 32 := 0#32
  let v140_r0 : BitVec 32 := Scalar.addi v139_r0 c0_i32_152_r0
  let v191_r0 : BitVec 1 := Scalar.cmpi .ne v120_r0 v140_r0
  let c0_i32_135_r0 : BitVec 32 := 0#32
  let v121_r0 : BitVec 32 := Scalar.addi arg23_r0 c0_i32_135_r0
  let c0_i32_148_r0 : BitVec 32 := 0#32
  let v135_r0 : BitVec 32 := Scalar.select v134_r0 c0_i32_148_r0 v133_r0
  let c0_i32_153_r0 : BitVec 32 := 0#32
  let v141_r0 : BitVec 32 := Scalar.addi v135_r0 c0_i32_153_r0
  let v192_r0 : BitVec 1 := Scalar.cmpi .ne v121_r0 v141_r0
  let v193_r0 : BitVec 1 := Scalar.ori v191_r0 v192_r0
  let c0_i32_89_r0 : BitVec 32 := 0#32
  let c1_i32_90_r0 : BitVec 32 := 1#32
  let arg5_r0 : BitVec 32 := Scf.iv c0_i32_89_r0 c1_i32_90_r0 k0_t1
  let c127_i32_192_r0 : BitVec 32 := 127#32
  let v194_r0 : BitVec 1 := Scalar.cmpi .sge arg5_r0 c127_i32_192_r0
  let true_193_r0 : BitVec 1 := 1#1
  let v195_r0 : BitVec 1 := Scalar.xori v194_r0 true_193_r0
  let v196_r0 : BitVec 1 := Scalar.andi v193_r0 v195_r0
  let true_194_r0 : BitVec 1 := 1#1
  let v197_r0 : BitVec 1 := Scalar.andi v196_r0 true_194_r0
  let v198_r0 : BitVec 32 := Scalar.extui v197_r0
  let c0_i32_195_r0 : BitVec 32 := 0#32
  let v199_r0 : BitVec 1 := Scalar.cmpi .ne v198_r0 c0_i32_195_r0
  v199_r0

def k0_off17 (arg18_r0 : BitVec 32) : Fin 3 → Nat :=
  let c2_i32_267_r0 : BitVec 32 := 2#32
  let v374_r0 : BitVec 32 := Scalar.remui arg18_r0 c2_i32_267_r0
  let c0_i32_268_r0 : BitVec 32 := 0#32
  let c0_i32_269_r0 : BitVec 32 := 0#32
  ![v374_r0.toNat, 0, 0]
def k0_off18 (arg22_r0 : BitVec 32) (arg23_r0 : BitVec 32) : Fin 4 → Nat :=
  let true_146_r0 : BitVec 1 := 1#1
  let c1_i32_145_r0 : BitVec 32 := 1#32
  let v132_r0 : BitVec 32 := Scalar.addi arg23_r0 c1_i32_145_r0
  let v133_r0 : BitVec 32 := Scalar.select true_146_r0 v132_r0 arg23_r0
  let c8_i32_147_r0 : BitVec 32 := 8#32
  let v134_r0 : BitVec 1 := Scalar.cmpi .eq v133_r0 c8_i32_147_r0
  let c1_i32_149_r0 : BitVec 32 := 1#32
  let v136_r0 : BitVec 32 := Scalar.addi arg22_r0 c1_i32_149_r0
  let v137_r0 : BitVec 32 := Scalar.select v134_r0 v136_r0 arg22_r0
  let c16_i32_150_r0 : BitVec 32 := 16#32
  let v138_r0 : BitVec 1 := Scalar.cmpi .eq v137_r0 c16_i32_150_r0
  let c0_i32_151_r0 : BitVec 32 := 0#32
  let v139_r0 : BitVec 32 := Scalar.select v138_r0 c0_i32_151_r0 v137_r0
  let c0_i32_152_r0 : BitVec 32 := 0#32
  let v140_r0 : BitVec 32 := Scalar.addi v139_r0 c0_i32_152_r0
  let c0_i32_148_r0 : BitVec 32 := 0#32
  let v135_r0 : BitVec 32 := Scalar.select v134_r0 c0_i32_148_r0 v133_r0
  let c0_i32_153_r0 : BitVec 32 := 0#32
  let v141_r0 : BitVec 32 := Scalar.addi v135_r0 c0_i32_153_r0
  let c0_i32_270_r0 : BitVec 32 := 0#32
  let c0_i32_271_r0 : BitVec 32 := 0#32
  ![v140_r0.toNat, v141_r0.toNat, 0, 0]
def k0_off19 (arg7_r0 : BitVec 32) : Fin 1 → Nat :=
  let c2_i32_267_r0 : BitVec 32 := 2#32
  let v374_r0 : BitVec 32 := Scalar.remui arg7_r0 c2_i32_267_r0
  ![v374_r0.toNat]
def k0_cond5 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let v209_r0 : BitVec 1 := Scalar.cmpi .ne v120_r0 v130_r0
  let c0_i32_89_r0 : BitVec 32 := 0#32
  let c1_i32_90_r0 : BitVec 32 := 1#32
  let arg5_r0 : BitVec 32 := Scf.iv c0_i32_89_r0 c1_i32_90_r0 k0_t1
  let c0_i32_133_r0 : BitVec 32 := 0#32
  let v118_r0 : BitVec 1 := Scalar.cmpi .eq arg5_r0 c0_i32_133_r0
  let v210_r0 : BitVec 1 := Scalar.ori v209_r0 v118_r0
  let c0_i32_200_r0 : BitVec 32 := 0#32
  let v211_r0 : BitVec 1 := Scalar.cmpi .sge arg5_r0 c0_i32_200_r0
  let v212_r0 : BitVec 1 := Scalar.andi v210_r0 v211_r0
  let v213_r0 : BitVec 32 := Scalar.extui v212_r0
  let c0_i32_201_r0 : BitVec 32 := 0#32
  let v214_r0 : BitVec 1 := Scalar.cmpi .ne v213_r0 c0_i32_201_r0
  v214_r0

def k0_off20 (arg7_r0 : BitVec 32) : Fin 3 → Nat :=
  let c2_i32_267_r0 : BitVec 32 := 2#32
  let v374_r0 : BitVec 32 := Scalar.remui arg7_r0 c2_i32_267_r0
  let c0_i32_269_r0 : BitVec 32 := 0#32
  let c0_i32_270_r0 : BitVec 32 := 0#32
  ![v374_r0.toNat, 0, 0]
def k0_off21 (arg22_r0 : BitVec 32) : Fin 4 → Nat :=
  let c0_i32_268_r0 : BitVec 32 := 0#32
  let c0_i32_134_r0 : BitVec 32 := 0#32
  let v120_r0 : BitVec 32 := Scalar.addi arg22_r0 c0_i32_134_r0
  let c0_i32_271_r0 : BitVec 32 := 0#32
  let c0_i32_272_r0 : BitVec 32 := 0#32
  ![0, v120_r0.toNat, 0, 0]
def k0_off22 (arg11_r0 : BitVec 32) : Fin 1 → Nat :=
  let c2_i32_267_r0 : BitVec 32 := 2#32
  let v374_r0 : BitVec 32 := Scalar.remui arg11_r0 c2_i32_267_r0
  ![v374_r0.toNat]
def k0_cond6 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let v215_r0 : BitVec 1 := Scalar.cmpi .ne v120_r0 v130_r0
  let c0_i32_89_r0 : BitVec 32 := 0#32
  let c1_i32_90_r0 : BitVec 32 := 1#32
  let arg5_r0 : BitVec 32 := Scf.iv c0_i32_89_r0 c1_i32_90_r0 k0_t1
  let c0_i32_133_r0 : BitVec 32 := 0#32
  let v118_r0 : BitVec 1 := Scalar.cmpi .eq arg5_r0 c0_i32_133_r0
  let v216_r0 : BitVec 1 := Scalar.ori v215_r0 v118_r0
  let c0_i32_202_r0 : BitVec 32 := 0#32
  let v217_r0 : BitVec 1 := Scalar.cmpi .sge arg5_r0 c0_i32_202_r0
  let v218_r0 : BitVec 1 := Scalar.andi v216_r0 v217_r0
  let v219_r0 : BitVec 32 := Scalar.extui v218_r0
  let c0_i32_203_r0 : BitVec 32 := 0#32
  let v220_r0 : BitVec 1 := Scalar.cmpi .ne v219_r0 c0_i32_203_r0
  v220_r0

def k0_off23 (arg11_r0 : BitVec 32) : Fin 3 → Nat :=
  let c2_i32_267_r0 : BitVec 32 := 2#32
  let v374_r0 : BitVec 32 := Scalar.remui arg11_r0 c2_i32_267_r0
  let c0_i32_269_r0 : BitVec 32 := 0#32
  let c0_i32_270_r0 : BitVec 32 := 0#32
  ![v374_r0.toNat, 0, 0]
def k0_off24 (arg22_r0 : BitVec 32) : Fin 4 → Nat :=
  let c0_i32_268_r0 : BitVec 32 := 0#32
  let c0_i32_134_r0 : BitVec 32 := 0#32
  let v120_r0 : BitVec 32 := Scalar.addi arg22_r0 c0_i32_134_r0
  let c0_i32_271_r0 : BitVec 32 := 0#32
  let c0_i32_272_r0 : BitVec 32 := 0#32
  ![0, v120_r0.toNat, 0, 0]
def k0_off25 (arg15_r0 : BitVec 32) : Fin 1 → Nat :=
  let c2_i32_267_r0 : BitVec 32 := 2#32
  let v374_r0 : BitVec 32 := Scalar.remui arg15_r0 c2_i32_267_r0
  ![v374_r0.toNat]
def k0_cond7 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let v221_r0 : BitVec 1 := Scalar.cmpi .ne v120_r0 v130_r0
  let c0_i32_89_r0 : BitVec 32 := 0#32
  let c1_i32_90_r0 : BitVec 32 := 1#32
  let arg5_r0 : BitVec 32 := Scf.iv c0_i32_89_r0 c1_i32_90_r0 k0_t1
  let c0_i32_133_r0 : BitVec 32 := 0#32
  let v118_r0 : BitVec 1 := Scalar.cmpi .eq arg5_r0 c0_i32_133_r0
  let v222_r0 : BitVec 1 := Scalar.ori v221_r0 v118_r0
  let c0_i32_204_r0 : BitVec 32 := 0#32
  let v223_r0 : BitVec 1 := Scalar.cmpi .sge arg5_r0 c0_i32_204_r0
  let v224_r0 : BitVec 1 := Scalar.andi v222_r0 v223_r0
  let v225_r0 : BitVec 32 := Scalar.extui v224_r0
  let c0_i32_205_r0 : BitVec 32 := 0#32
  let v226_r0 : BitVec 1 := Scalar.cmpi .ne v225_r0 c0_i32_205_r0
  v226_r0

def k0_off26 (arg15_r0 : BitVec 32) : Fin 3 → Nat :=
  let c2_i32_267_r0 : BitVec 32 := 2#32
  let v374_r0 : BitVec 32 := Scalar.remui arg15_r0 c2_i32_267_r0
  let c0_i32_269_r0 : BitVec 32 := 0#32
  let c0_i32_270_r0 : BitVec 32 := 0#32
  ![v374_r0.toNat, 0, 0]
def k0_off27 (arg22_r0 : BitVec 32) : Fin 4 → Nat :=
  let c0_i32_268_r0 : BitVec 32 := 0#32
  let c0_i32_134_r0 : BitVec 32 := 0#32
  let v120_r0 : BitVec 32 := Scalar.addi arg22_r0 c0_i32_134_r0
  let c0_i32_271_r0 : BitVec 32 := 0#32
  let c0_i32_272_r0 : BitVec 32 := 0#32
  ![0, v120_r0.toNat, 0, 0]
def k0_off28 (arg19_r0 : BitVec 32) : Fin 1 → Nat :=
  let c2_i32_267_r0 : BitVec 32 := 2#32
  let v374_r0 : BitVec 32 := Scalar.remui arg19_r0 c2_i32_267_r0
  ![v374_r0.toNat]
def k0_cond8 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let v227_r0 : BitVec 1 := Scalar.cmpi .ne v120_r0 v130_r0
  let c0_i32_135_r0 : BitVec 32 := 0#32
  let v121_r0 : BitVec 32 := Scalar.addi arg23_r0 c0_i32_135_r0
  let c7_i32_139_r0 : BitVec 32 := 7#32
  let v125_r0 : BitVec 32 := Scalar.select v124_r0 c7_i32_139_r0 v123_r0
  let c0_i32_144_r0 : BitVec 32 := 0#32
  let v131_r0 : BitVec 32 := Scalar.addi v125_r0 c0_i32_144_r0
  let v228_r0 : BitVec 1 := Scalar.cmpi .ne v121_r0 v131_r0
  let v229_r0 : BitVec 1 := Scalar.ori v227_r0 v228_r0
  let c0_i32_89_r0 : BitVec 32 := 0#32
  let c1_i32_90_r0 : BitVec 32 := 1#32
  let arg5_r0 : BitVec 32 := Scf.iv c0_i32_89_r0 c1_i32_90_r0 k0_t1
  let c0_i32_133_r0 : BitVec 32 := 0#32
  let v118_r0 : BitVec 1 := Scalar.cmpi .eq arg5_r0 c0_i32_133_r0
  let v230_r0 : BitVec 1 := Scalar.ori v229_r0 v118_r0
  let c0_i32_206_r0 : BitVec 32 := 0#32
  let v231_r0 : BitVec 1 := Scalar.cmpi .sge arg5_r0 c0_i32_206_r0
  let v232_r0 : BitVec 1 := Scalar.andi v230_r0 v231_r0
  let v233_r0 : BitVec 32 := Scalar.extui v232_r0
  let c0_i32_207_r0 : BitVec 32 := 0#32
  let v234_r0 : BitVec 1 := Scalar.cmpi .ne v233_r0 c0_i32_207_r0
  v234_r0

def k0_off29 (arg19_r0 : BitVec 32) : Fin 3 → Nat :=
  let c2_i32_267_r0 : BitVec 32 := 2#32
  let v374_r0 : BitVec 32 := Scalar.remui arg19_r0 c2_i32_267_r0
  let c0_i32_268_r0 : BitVec 32 := 0#32
  let c0_i32_269_r0 : BitVec 32 := 0#32
  ![v374_r0.toNat, 0, 0]
def k0_off30 (arg22_r0 : BitVec 32) (arg23_r0 : BitVec 32) : Fin 4 → Nat :=
  let c0_i32_134_r0 : BitVec 32 := 0#32
  let v120_r0 : BitVec 32 := Scalar.addi arg22_r0 c0_i32_134_r0
  let c0_i32_135_r0 : BitVec 32 := 0#32
  let v121_r0 : BitVec 32 := Scalar.addi arg23_r0 c0_i32_135_r0
  let c0_i32_270_r0 : BitVec 32 := 0#32
  let c0_i32_271_r0 : BitVec 32 := 0#32
  ![v120_r0.toNat, v121_r0.toNat, 0, 0]
def k0_off31 (arg19_r0 : BitVec 32) : Fin 3 → Nat :=
  let c2_i32_213_r0 : BitVec 32 := 2#32
  let v246_r0 : BitVec 32 := Scalar.remui arg19_r0 c2_i32_213_r0
  let v248_r0 : Index := Scalar.indexCast v246_r0
  let c0_r0 : Index := 0#32
  let c0_215_r0 : Index := 0#32
  ![v248_r0.toNat, 0, 0]

def k0_chk8 (arg19_r0 : BitVec 32) : Prop :=
  (∀ a, (k0_off31 arg19_r0) a + S1x544x1024.size a ≤ S2x544x1024.size a)
theorem k0_off31_inb : ∀ (arg19_r0 : BitVec 32) (k0_hw8 : k0_chk8 arg19_r0), ∀ a, (k0_off31 arg19_r0) a + S1x544x1024.size a ≤ S2x544x1024.size a := fun arg19_r0 k0_hw8 => k0_hw8

def k0_off32 (arg7_r0 : BitVec 32) : Fin 3 → Nat :=
  let c2_i32_210_r0 : BitVec 32 := 2#32
  let v243_r0 : BitVec 32 := Scalar.remui arg7_r0 c2_i32_210_r0
  let v251_r0 : Index := Scalar.indexCast v243_r0
  let c0_216_r0 : Index := 0#32
  let c0_217_r0 : Index := 0#32
  ![v251_r0.toNat, 0, 0]

def k0_chk9 (arg7_r0 : BitVec 32) : Prop :=
  (∀ a, (k0_off32 arg7_r0) a + S1x1024x2048.size a ≤ S2x1024x2048.size a)
theorem k0_off32_inb : ∀ (arg7_r0 : BitVec 32) (k0_hw9 : k0_chk9 arg7_r0), ∀ a, (k0_off32 arg7_r0) a + S1x1024x2048.size a ≤ S2x1024x2048.size a := fun arg7_r0 k0_hw9 => k0_hw9

def k0_off33 (arg11_r0 : BitVec 32) : Fin 3 → Nat :=
  let c2_i32_211_r0 : BitVec 32 := 2#32
  let v244_r0 : BitVec 32 := Scalar.remui arg11_r0 c2_i32_211_r0
  let v256_r0 : Index := Scalar.indexCast v244_r0
  let c0_218_r0 : Index := 0#32
  let c0_219_r0 : Index := 0#32
  ![v256_r0.toNat, 0, 0]

def k0_chk10 (arg11_r0 : BitVec 32) : Prop :=
  (∀ a, (k0_off33 arg11_r0) a + S1x1024x2048.size a ≤ S2x1024x2048.size a)
theorem k0_off33_inb : ∀ (arg11_r0 : BitVec 32) (k0_hw10 : k0_chk10 arg11_r0), ∀ a, (k0_off33 arg11_r0) a + S1x1024x2048.size a ≤ S2x1024x2048.size a := fun arg11_r0 k0_hw10 => k0_hw10

def k0_off34 (arg15_r0 : BitVec 32) : Fin 3 → Nat :=
  let c2_i32_212_r0 : BitVec 32 := 2#32
  let v245_r0 : BitVec 32 := Scalar.remui arg15_r0 c2_i32_212_r0
  let v270_r0 : Index := Scalar.indexCast v245_r0
  let c0_224_r0 : Index := 0#32
  let c0_225_r0 : Index := 0#32
  ![v270_r0.toNat, 0, 0]

def k0_chk11 (arg15_r0 : BitVec 32) : Prop :=
  (∀ a, (k0_off34 arg15_r0) a + S1x2048x1024.size a ≤ S2x2048x1024.size a)
theorem k0_off34_inb : ∀ (arg15_r0 : BitVec 32) (k0_hw11 : k0_chk11 arg15_r0), ∀ a, (k0_off34 arg15_r0) a + S1x2048x1024.size a ≤ S2x2048x1024.size a := fun arg15_r0 k0_hw11 => k0_hw11

def k0_off35 (arg20_r0 : BitVec 32) : Fin 3 → Nat :=
  let c2_i32_214_r0 : BitVec 32 := 2#32
  let v247_r0 : BitVec 32 := Scalar.remui arg20_r0 c2_i32_214_r0
  let v277_r0 : Index := Scalar.indexCast v247_r0
  let c0_227_r0 : Index := 0#32
  let c0_228_r0 : Index := 0#32
  ![v277_r0.toNat, 0, 0]

def k0_chk12 (arg20_r0 : BitVec 32) : Prop :=
  (∀ a, (k0_off35 arg20_r0) a + S1x544x1024.size a ≤ S2x544x1024.size a) ∧
  (∀ (hinb : ∀ a, (k0_off35 arg20_r0) a + S1x544x1024.size a ≤ S2x544x1024.size a), (Rect.unit (s := S2x544x1024) (k0_off35 arg20_r0) S1x544x1024.size hinb).PackedRows (EltTy.packing .bf16))
theorem k0_off35_inb : ∀ (arg20_r0 : BitVec 32) (k0_hw12 : k0_chk12 arg20_r0), ∀ a, (k0_off35 arg20_r0) a + S1x544x1024.size a ≤ S2x544x1024.size a := fun arg20_r0 k0_hw12 => k0_hw12.1
theorem k0_off35_packedbf16 : ∀ (arg20_r0 : BitVec 32) (k0_hw12 : k0_chk12 arg20_r0), (Rect.unit (s := S2x544x1024) (k0_off35 arg20_r0) S1x544x1024.size (k0_off35_inb arg20_r0 k0_hw12)).PackedRows (EltTy.packing .bf16) := fun arg20_r0 k0_hw12 => k0_hw12.2 (k0_off35_inb arg20_r0 k0_hw12)

def k0_off36 (arg20_r0 : BitVec 32) : Fin 1 → Nat :=
  let c2_i32_267_r0 : BitVec 32 := 2#32
  let v374_r0 : BitVec 32 := Scalar.remui arg20_r0 c2_i32_267_r0
  ![v374_r0.toNat]
def k0_cond14 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_146_r0 : BitVec 1 := 1#1
  let c1_i32_145_r0 : BitVec 32 := 1#32
  let v132_r0 : BitVec 32 := Scalar.addi arg23_r0 c1_i32_145_r0
  let v133_r0 : BitVec 32 := Scalar.select true_146_r0 v132_r0 arg23_r0
  let c8_i32_147_r0 : BitVec 32 := 8#32
  let v134_r0 : BitVec 1 := Scalar.cmpi .eq v133_r0 c8_i32_147_r0
  let c1_i32_149_r0 : BitVec 32 := 1#32
  let v136_r0 : BitVec 32 := Scalar.addi arg22_r0 c1_i32_149_r0
  let v137_r0 : BitVec 32 := Scalar.select v134_r0 v136_r0 arg22_r0
  let c16_i32_150_r0 : BitVec 32 := 16#32
  let v138_r0 : BitVec 1 := Scalar.cmpi .eq v137_r0 c16_i32_150_r0
  let c0_i32_151_r0 : BitVec 32 := 0#32
  let v139_r0 : BitVec 32 := Scalar.select v138_r0 c0_i32_151_r0 v137_r0
  let c0_i32_152_r0 : BitVec 32 := 0#32
  let v140_r0 : BitVec 32 := Scalar.addi v139_r0 c0_i32_152_r0
  let v303_r0 : BitVec 1 := Scalar.cmpi .ne v120_r0 v140_r0
  let c0_i32_135_r0 : BitVec 32 := 0#32
  let v121_r0 : BitVec 32 := Scalar.addi arg23_r0 c0_i32_135_r0
  let c0_i32_148_r0 : BitVec 32 := 0#32
  let v135_r0 : BitVec 32 := Scalar.select v134_r0 c0_i32_148_r0 v133_r0
  let c0_i32_153_r0 : BitVec 32 := 0#32
  let v141_r0 : BitVec 32 := Scalar.addi v135_r0 c0_i32_153_r0
  let v304_r0 : BitVec 1 := Scalar.cmpi .ne v121_r0 v141_r0
  let v305_r0 : BitVec 1 := Scalar.ori v303_r0 v304_r0
  let c0_i32_89_r0 : BitVec 32 := 0#32
  let c1_i32_90_r0 : BitVec 32 := 1#32
  let arg5_r0 : BitVec 32 := Scf.iv c0_i32_89_r0 c1_i32_90_r0 k0_t1
  let c127_i32_r0 : BitVec 32 := 127#32
  let v119_r0 : BitVec 1 := Scalar.cmpi .eq arg5_r0 c127_i32_r0
  let v306_r0 : BitVec 1 := Scalar.ori v305_r0 v119_r0
  let v307_r0 : BitVec 32 := Scalar.extui v306_r0
  let c0_i32_237_r0 : BitVec 32 := 0#32
  let v308_r0 : BitVec 1 := Scalar.cmpi .ne v307_r0 c0_i32_237_r0
  v308_r0

def k0_off37 (arg22_r0 : BitVec 32) (arg23_r0 : BitVec 32) : Fin 4 → Nat :=
  let c0_i32_134_r0 : BitVec 32 := 0#32
  let v120_r0 : BitVec 32 := Scalar.addi arg22_r0 c0_i32_134_r0
  let c0_i32_135_r0 : BitVec 32 := 0#32
  let v121_r0 : BitVec 32 := Scalar.addi arg23_r0 c0_i32_135_r0
  let c0_i32_268_r0 : BitVec 32 := 0#32
  let c0_i32_269_r0 : BitVec 32 := 0#32
  ![v120_r0.toNat, v121_r0.toNat, 0, 0]
def k0_off38 (arg20_r0 : BitVec 32) : Fin 3 → Nat :=
  let c2_i32_267_r0 : BitVec 32 := 2#32
  let v374_r0 : BitVec 32 := Scalar.remui arg20_r0 c2_i32_267_r0
  let c0_i32_270_r0 : BitVec 32 := 0#32
  let c0_i32_271_r0 : BitVec 32 := 0#32
  ![v374_r0.toNat, 0, 0]
def k0_off39 (arg21_r0 : BitVec 32) : Fin 1 → Nat :=
  let c2_i32_267_r0 : BitVec 32 := 2#32
  let v374_r0 : BitVec 32 := Scalar.remui arg21_r0 c2_i32_267_r0
  ![v374_r0.toNat]
def k0_cond19 (k0_t1 : Fin k0_t1_loop.trips) (arg22_r0 : BitVec 32) (arg23_r0 : BitVec 32) : BitVec 1 :=
  let c0_i32_134_r0 : BitVec 32 := 0#32
  let v120_r0 : BitVec 32 := Scalar.addi arg22_r0 c0_i32_134_r0
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let v338_r0 : BitVec 1 := Scalar.cmpi .ne v120_r0 v130_r0
  let c0_i32_135_r0 : BitVec 32 := 0#32
  let v121_r0 : BitVec 32 := Scalar.addi arg23_r0 c0_i32_135_r0
  let c7_i32_139_r0 : BitVec 32 := 7#32
  let v125_r0 : BitVec 32 := Scalar.select v124_r0 c7_i32_139_r0 v123_r0
  let c0_i32_144_r0 : BitVec 32 := 0#32
  let v131_r0 : BitVec 32 := Scalar.addi v125_r0 c0_i32_144_r0
  let v339_r0 : BitVec 1 := Scalar.cmpi .ne v121_r0 v131_r0
  let v340_r0 : BitVec 1 := Scalar.ori v338_r0 v339_r0
  let c0_i32_89_r0 : BitVec 32 := 0#32
  let c1_i32_90_r0 : BitVec 32 := 1#32
  let arg5_r0 : BitVec 32 := Scf.iv c0_i32_89_r0 c1_i32_90_r0 k0_t1
  let c0_i32_133_r0 : BitVec 32 := 0#32
  let v118_r0 : BitVec 1 := Scalar.cmpi .eq arg5_r0 c0_i32_133_r0
  let true_252_r0 : BitVec 1 := 1#1
  let v341_r0 : BitVec 1 := Scalar.xori v118_r0 true_252_r0
  let v342_r0 : BitVec 1 := Scalar.andi v340_r0 v341_r0
  let v343_r0 : BitVec 32 := Scalar.extui v342_r0
  let c0_i32_253_r0 : BitVec 32 := 0#32
  let v344_r0 : BitVec 1 := Scalar.cmpi .ne v343_r0 c0_i32_253_r0
  v344_r0

def k0_off40 (arg22_r0 : BitVec 32) (arg23_r0 : BitVec 32) : Fin 4 → Nat :=
  let true_137_r0 : BitVec 1 := 1#1
  let c1_i32_136_r0 : BitVec 32 := 1#32
  let v122_r0 : BitVec 32 := Scalar.subi arg23_r0 c1_i32_136_r0
  let v123_r0 : BitVec 32 := Scalar.select true_137_r0 v122_r0 arg23_r0
  let c_m1_i32_138_r0 : BitVec 32 := 4294967295#32
  let v124_r0 : BitVec 1 := Scalar.cmpi .eq v123_r0 c_m1_i32_138_r0
  let c1_i32_140_r0 : BitVec 32 := 1#32
  let v126_r0 : BitVec 32 := Scalar.subi arg22_r0 c1_i32_140_r0
  let v127_r0 : BitVec 32 := Scalar.select v124_r0 v126_r0 arg22_r0
  let c_m1_i32_141_r0 : BitVec 32 := 4294967295#32
  let v128_r0 : BitVec 1 := Scalar.cmpi .eq v127_r0 c_m1_i32_141_r0
  let c15_i32_142_r0 : BitVec 32 := 15#32
  let v129_r0 : BitVec 32 := Scalar.select v128_r0 c15_i32_142_r0 v127_r0
  let c0_i32_143_r0 : BitVec 32 := 0#32
  let v130_r0 : BitVec 32 := Scalar.addi v129_r0 c0_i32_143_r0
  let c7_i32_139_r0 : BitVec 32 := 7#32
  let v125_r0 : BitVec 32 := Scalar.select v124_r0 c7_i32_139_r0 v123_r0
  let c0_i32_144_r0 : BitVec 32 := 0#32
  let v131_r0 : BitVec 32 := Scalar.addi v125_r0 c0_i32_144_r0
  let c0_i32_268_r0 : BitVec 32 := 0#32
  let c0_i32_269_r0 : BitVec 32 := 0#32
  ![v130_r0.toNat, v131_r0.toNat, 0, 0]
def k0_off41 (arg21_r0 : BitVec 32) : Fin 3 → Nat :=
  let c2_i32_267_r0 : BitVec 32 := 2#32
  let v374_r0 : BitVec 32 := Scalar.remui arg21_r0 c2_i32_267_r0
  let c0_i32_270_r0 : BitVec 32 := 0#32
  let c0_i32_271_r0 : BitVec 32 := 0#32
  ![v374_r0.toNat, 0, 0]

def k0_chk7 (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) : Prop :=
  (∀ (k0_h4 : k0_cond4 k0_t1 arg22_r0 arg23_r0 = 1#1), ∀ a, (k0_off16 arg18_r0) a + S1.size a ≤ S2.size a) ∧
  (∀ (k0_h4 : k0_cond4 k0_t1 arg22_r0 arg23_r0 = 1#1), ∀ a, (k0_off17 arg18_r0) a + S1x544x1024.size a ≤ S2x544x1024.size a) ∧
  (∀ (k0_h4 : k0_cond4 k0_t1 arg22_r0 arg23_r0 = 1#1), ∀ a, (k0_off18 arg22_r0 arg23_r0) a + S1x1x544x1024.size a ≤ S16x8x544x1024.size a) ∧
  (∀ (k0_h4 : k0_cond4 k0_t1 arg22_r0 arg23_r0 = 1#1), ∀ (hinb : ∀ a, (k0_off18 arg22_r0 arg23_r0) a + S1x1x544x1024.size a ≤ S16x8x544x1024.size a), (Rect.unit (s := S16x8x544x1024) (k0_off18 arg22_r0 arg23_r0) S1x1x544x1024.size hinb).WholeWords (EltTy.packing .bf16)) ∧
  (∀ (k0_h4 : k0_cond4 k0_t1 arg22_r0 arg23_r0 = 1#1), ∀ (hinb : ∀ a, (k0_off17 arg18_r0) a + S1x544x1024.size a ≤ S2x544x1024.size a), (Rect.unit (s := S2x544x1024) (k0_off17 arg18_r0) S1x544x1024.size hinb).WholeWords (EltTy.packing .bf16)) ∧
  (∀ (k0_h5 : k0_cond5 k0_t1 arg22_r0 arg23_r0 = 1#1), ∀ a, (k0_off19 arg7_r0) a + S1.size a ≤ S2.size a) ∧
  (∀ (k0_h5 : k0_cond5 k0_t1 arg22_r0 arg23_r0 = 1#1), ∀ a, (k0_off20 arg7_r0) a + S1x1024x2048.size a ≤ S2x1024x2048.size a) ∧
  (∀ (k0_h5 : k0_cond5 k0_t1 arg22_r0 arg23_r0 = 1#1), ∀ a, (k0_off21 arg22_r0) a + S1x1x1024x2048.size a ≤ S4x16x1024x2048.size a) ∧
  (∀ (k0_h6 : k0_cond6 k0_t1 arg22_r0 arg23_r0 = 1#1), ∀ a, (k0_off22 arg11_r0) a + S1.size a ≤ S2.size a) ∧
  (∀ (k0_h6 : k0_cond6 k0_t1 arg22_r0 arg23_r0 = 1#1), ∀ a, (k0_off23 arg11_r0) a + S1x1024x2048.size a ≤ S2x1024x2048.size a) ∧
  (∀ (k0_h6 : k0_cond6 k0_t1 arg22_r0 arg23_r0 = 1#1), ∀ a, (k0_off24 arg22_r0) a + S1x1x1024x2048.size a ≤ S4x16x1024x2048.size a) ∧
  (∀ (k0_h7 : k0_cond7 k0_t1 arg22_r0 arg23_r0 = 1#1), ∀ a, (k0_off25 arg15_r0) a + S1.size a ≤ S2.size a) ∧
  (∀ (k0_h7 : k0_cond7 k0_t1 arg22_r0 arg23_r0 = 1#1), ∀ a, (k0_off26 arg15_r0) a + S1x2048x1024.size a ≤ S2x2048x1024.size a) ∧
  (∀ (k0_h7 : k0_cond7 k0_t1 arg22_r0 arg23_r0 = 1#1), ∀ a, (k0_off27 arg22_r0) a + S1x1x2048x1024.size a ≤ S4x16x2048x1024.size a) ∧
  (∀ (k0_h8 : k0_cond8 k0_t1 arg22_r0 arg23_r0 = 1#1), ∀ a, (k0_off28 arg19_r0) a + S1.size a ≤ S2.size a) ∧
  (∀ (k0_h8 : k0_cond8 k0_t1 arg22_r0 arg23_r0 = 1#1), ∀ a, (k0_off29 arg19_r0) a + S1x544x1024.size a ≤ S2x544x1024.size a) ∧
  (∀ (k0_h8 : k0_cond8 k0_t1 arg22_r0 arg23_r0 = 1#1), ∀ a, (k0_off30 arg22_r0 arg23_r0) a + S1x1x544x1024.size a ≤ S16x8x544x1024.size a) ∧
  (∀ (k0_h8 : k0_cond8 k0_t1 arg22_r0 arg23_r0 = 1#1), ∀ (hinb : ∀ a, (k0_off30 arg22_r0 arg23_r0) a + S1x1x544x1024.size a ≤ S16x8x544x1024.size a), (Rect.unit (s := S16x8x544x1024) (k0_off30 arg22_r0 arg23_r0) S1x1x544x1024.size hinb).WholeWords (EltTy.packing .bf16)) ∧
  (∀ (k0_h8 : k0_cond8 k0_t1 arg22_r0 arg23_r0 = 1#1), ∀ (hinb : ∀ a, (k0_off29 arg19_r0) a + S1x544x1024.size a ≤ S2x544x1024.size a), (Rect.unit (s := S2x544x1024) (k0_off29 arg19_r0) S1x544x1024.size hinb).WholeWords (EltTy.packing .bf16)) ∧
  (∀ (k0_h14 : k0_cond14 k0_t1 arg22_r0 arg23_r0 = 1#1), ∀ a, (k0_off36 arg20_r0) a + S1.size a ≤ S2.size a) ∧
  (∀ (k0_h14 : k0_cond14 k0_t1 arg22_r0 arg23_r0 = 1#1), ∀ a, (k0_off37 arg22_r0 arg23_r0) a + S1x1x544x1024.size a ≤ S16x8x544x1024.size a) ∧
  (∀ (k0_h14 : k0_cond14 k0_t1 arg22_r0 arg23_r0 = 1#1), ∀ a, (k0_off38 arg20_r0) a + S1x544x1024.size a ≤ S2x544x1024.size a) ∧
  (∀ (k0_h14 : k0_cond14 k0_t1 arg22_r0 arg23_r0 = 1#1), ∀ (hinb : ∀ a, (k0_off38 arg20_r0) a + S1x544x1024.size a ≤ S2x544x1024.size a), (Rect.unit (s := S2x544x1024) (k0_off38 arg20_r0) S1x544x1024.size hinb).WholeWords (EltTy.packing .bf16)) ∧
  (∀ (k0_h14 : k0_cond14 k0_t1 arg22_r0 arg23_r0 = 1#1), ∀ (hinb : ∀ a, (k0_off37 arg22_r0 arg23_r0) a + S1x1x544x1024.size a ≤ S16x8x544x1024.size a), (Rect.unit (s := S16x8x544x1024) (k0_off37 arg22_r0 arg23_r0) S1x1x544x1024.size hinb).WholeWords (EltTy.packing .bf16)) ∧
  (∀ (k0_h19 : k0_cond19 k0_t1 arg22_r0 arg23_r0 = 1#1), ∀ a, (k0_off39 arg21_r0) a + S1.size a ≤ S2.size a) ∧
  (∀ (k0_h19 : k0_cond19 k0_t1 arg22_r0 arg23_r0 = 1#1), ∀ a, (k0_off40 arg22_r0 arg23_r0) a + S1x1x544x1024.size a ≤ S16x8x544x1024.size a) ∧
  (∀ (k0_h19 : k0_cond19 k0_t1 arg22_r0 arg23_r0 = 1#1), ∀ a, (k0_off41 arg21_r0) a + S1x544x1024.size a ≤ S2x544x1024.size a) ∧
  (∀ (k0_h19 : k0_cond19 k0_t1 arg22_r0 arg23_r0 = 1#1), ∀ (hinb : ∀ a, (k0_off41 arg21_r0) a + S1x544x1024.size a ≤ S2x544x1024.size a), (Rect.unit (s := S2x544x1024) (k0_off41 arg21_r0) S1x544x1024.size hinb).WholeWords (EltTy.packing .bf16)) ∧
  (∀ (k0_h19 : k0_cond19 k0_t1 arg22_r0 arg23_r0 = 1#1), ∀ (hinb : ∀ a, (k0_off40 arg22_r0 arg23_r0) a + S1x1x544x1024.size a ≤ S16x8x544x1024.size a), (Rect.unit (s := S16x8x544x1024) (k0_off40 arg22_r0 arg23_r0) S1x1x544x1024.size hinb).WholeWords (EltTy.packing .bf16))
theorem k0_off16_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h4 : k0_cond4 k0_t1 arg22_r0 arg23_r0 = 1#1), ∀ a, (k0_off16 arg18_r0) a + S1.size a ≤ S2.size a := fun k0_t1 arg7_r0 arg11_r0 arg15_r0 arg18_r0 arg19_r0 arg20_r0 arg21_r0 arg22_r0 arg23_r0 k0_hw7 k0_h4 => k0_hw7.1 k0_h4
theorem k0_off17_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h4 : k0_cond4 k0_t1 arg22_r0 arg23_r0 = 1#1), ∀ a, (k0_off17 arg18_r0) a + S1x544x1024.size a ≤ S2x544x1024.size a := fun k0_t1 arg7_r0 arg11_r0 arg15_r0 arg18_r0 arg19_r0 arg20_r0 arg21_r0 arg22_r0 arg23_r0 k0_hw7 k0_h4 => k0_hw7.2.1 k0_h4
theorem k0_off18_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h4 : k0_cond4 k0_t1 arg22_r0 arg23_r0 = 1#1), ∀ a, (k0_off18 arg22_r0 arg23_r0) a + S1x1x544x1024.size a ≤ S16x8x544x1024.size a := fun k0_t1 arg7_r0 arg11_r0 arg15_r0 arg18_r0 arg19_r0 arg20_r0 arg21_r0 arg22_r0 arg23_r0 k0_hw7 k0_h4 => k0_hw7.2.2.1 k0_h4
theorem k0_off18_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h4 : k0_cond4 k0_t1 arg22_r0 arg23_r0 = 1#1), (Rect.unit (s := S16x8x544x1024) (k0_off18 arg22_r0 arg23_r0) S1x1x544x1024.size (k0_off18_inb k0_t1 arg7_r0 arg11_r0 arg15_r0 arg18_r0 arg19_r0 arg20_r0 arg21_r0 arg22_r0 arg23_r0 k0_hw7 k0_h4)).WholeWords (EltTy.packing .bf16) := fun k0_t1 arg7_r0 arg11_r0 arg15_r0 arg18_r0 arg19_r0 arg20_r0 arg21_r0 arg22_r0 arg23_r0 k0_hw7 k0_h4 => k0_hw7.2.2.2.1 k0_h4 (k0_off18_inb k0_t1 arg7_r0 arg11_r0 arg15_r0 arg18_r0 arg19_r0 arg20_r0 arg21_r0 arg22_r0 arg23_r0 k0_hw7 k0_h4)
theorem k0_off17_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h4 : k0_cond4 k0_t1 arg22_r0 arg23_r0 = 1#1), (Rect.unit (s := S2x544x1024) (k0_off17 arg18_r0) S1x544x1024.size (k0_off17_inb k0_t1 arg7_r0 arg11_r0 arg15_r0 arg18_r0 arg19_r0 arg20_r0 arg21_r0 arg22_r0 arg23_r0 k0_hw7 k0_h4)).WholeWords (EltTy.packing .bf16) := fun k0_t1 arg7_r0 arg11_r0 arg15_r0 arg18_r0 arg19_r0 arg20_r0 arg21_r0 arg22_r0 arg23_r0 k0_hw7 k0_h4 => k0_hw7.2.2.2.2.1 k0_h4 (k0_off17_inb k0_t1 arg7_r0 arg11_r0 arg15_r0 arg18_r0 arg19_r0 arg20_r0 arg21_r0 arg22_r0 arg23_r0 k0_hw7 k0_h4)
theorem k0_off19_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h5 : k0_cond5 k0_t1 arg22_r0 arg23_r0 = 1#1), ∀ a, (k0_off19 arg7_r0) a + S1.size a ≤ S2.size a := fun k0_t1 arg7_r0 arg11_r0 arg15_r0 arg18_r0 arg19_r0 arg20_r0 arg21_r0 arg22_r0 arg23_r0 k0_hw7 k0_h5 => k0_hw7.2.2.2.2.2.1 k0_h5
theorem k0_off20_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h5 : k0_cond5 k0_t1 arg22_r0 arg23_r0 = 1#1), ∀ a, (k0_off20 arg7_r0) a + S1x1024x2048.size a ≤ S2x1024x2048.size a := fun k0_t1 arg7_r0 arg11_r0 arg15_r0 arg18_r0 arg19_r0 arg20_r0 arg21_r0 arg22_r0 arg23_r0 k0_hw7 k0_h5 => k0_hw7.2.2.2.2.2.2.1 k0_h5
theorem k0_off21_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h5 : k0_cond5 k0_t1 arg22_r0 arg23_r0 = 1#1), ∀ a, (k0_off21 arg22_r0) a + S1x1x1024x2048.size a ≤ S4x16x1024x2048.size a := fun k0_t1 arg7_r0 arg11_r0 arg15_r0 arg18_r0 arg19_r0 arg20_r0 arg21_r0 arg22_r0 arg23_r0 k0_hw7 k0_h5 => k0_hw7.2.2.2.2.2.2.2.1 k0_h5
theorem k0_off22_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h6 : k0_cond6 k0_t1 arg22_r0 arg23_r0 = 1#1), ∀ a, (k0_off22 arg11_r0) a + S1.size a ≤ S2.size a := fun k0_t1 arg7_r0 arg11_r0 arg15_r0 arg18_r0 arg19_r0 arg20_r0 arg21_r0 arg22_r0 arg23_r0 k0_hw7 k0_h6 => k0_hw7.2.2.2.2.2.2.2.2.1 k0_h6
theorem k0_off23_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h6 : k0_cond6 k0_t1 arg22_r0 arg23_r0 = 1#1), ∀ a, (k0_off23 arg11_r0) a + S1x1024x2048.size a ≤ S2x1024x2048.size a := fun k0_t1 arg7_r0 arg11_r0 arg15_r0 arg18_r0 arg19_r0 arg20_r0 arg21_r0 arg22_r0 arg23_r0 k0_hw7 k0_h6 => k0_hw7.2.2.2.2.2.2.2.2.2.1 k0_h6
theorem k0_off24_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h6 : k0_cond6 k0_t1 arg22_r0 arg23_r0 = 1#1), ∀ a, (k0_off24 arg22_r0) a + S1x1x1024x2048.size a ≤ S4x16x1024x2048.size a := fun k0_t1 arg7_r0 arg11_r0 arg15_r0 arg18_r0 arg19_r0 arg20_r0 arg21_r0 arg22_r0 arg23_r0 k0_hw7 k0_h6 => k0_hw7.2.2.2.2.2.2.2.2.2.2.1 k0_h6
theorem k0_off25_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h7 : k0_cond7 k0_t1 arg22_r0 arg23_r0 = 1#1), ∀ a, (k0_off25 arg15_r0) a + S1.size a ≤ S2.size a := fun k0_t1 arg7_r0 arg11_r0 arg15_r0 arg18_r0 arg19_r0 arg20_r0 arg21_r0 arg22_r0 arg23_r0 k0_hw7 k0_h7 => k0_hw7.2.2.2.2.2.2.2.2.2.2.2.1 k0_h7
theorem k0_off26_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h7 : k0_cond7 k0_t1 arg22_r0 arg23_r0 = 1#1), ∀ a, (k0_off26 arg15_r0) a + S1x2048x1024.size a ≤ S2x2048x1024.size a := fun k0_t1 arg7_r0 arg11_r0 arg15_r0 arg18_r0 arg19_r0 arg20_r0 arg21_r0 arg22_r0 arg23_r0 k0_hw7 k0_h7 => k0_hw7.2.2.2.2.2.2.2.2.2.2.2.2.1 k0_h7
theorem k0_off27_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h7 : k0_cond7 k0_t1 arg22_r0 arg23_r0 = 1#1), ∀ a, (k0_off27 arg22_r0) a + S1x1x2048x1024.size a ≤ S4x16x2048x1024.size a := fun k0_t1 arg7_r0 arg11_r0 arg15_r0 arg18_r0 arg19_r0 arg20_r0 arg21_r0 arg22_r0 arg23_r0 k0_hw7 k0_h7 => k0_hw7.2.2.2.2.2.2.2.2.2.2.2.2.2.1 k0_h7
theorem k0_off28_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h8 : k0_cond8 k0_t1 arg22_r0 arg23_r0 = 1#1), ∀ a, (k0_off28 arg19_r0) a + S1.size a ≤ S2.size a := fun k0_t1 arg7_r0 arg11_r0 arg15_r0 arg18_r0 arg19_r0 arg20_r0 arg21_r0 arg22_r0 arg23_r0 k0_hw7 k0_h8 => k0_hw7.2.2.2.2.2.2.2.2.2.2.2.2.2.2.1 k0_h8
theorem k0_off29_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h8 : k0_cond8 k0_t1 arg22_r0 arg23_r0 = 1#1), ∀ a, (k0_off29 arg19_r0) a + S1x544x1024.size a ≤ S2x544x1024.size a := fun k0_t1 arg7_r0 arg11_r0 arg15_r0 arg18_r0 arg19_r0 arg20_r0 arg21_r0 arg22_r0 arg23_r0 k0_hw7 k0_h8 => k0_hw7.2.2.2.2.2.2.2.2.2.2.2.2.2.2.2.1 k0_h8
theorem k0_off30_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h8 : k0_cond8 k0_t1 arg22_r0 arg23_r0 = 1#1), ∀ a, (k0_off30 arg22_r0 arg23_r0) a + S1x1x544x1024.size a ≤ S16x8x544x1024.size a := fun k0_t1 arg7_r0 arg11_r0 arg15_r0 arg18_r0 arg19_r0 arg20_r0 arg21_r0 arg22_r0 arg23_r0 k0_hw7 k0_h8 => k0_hw7.2.2.2.2.2.2.2.2.2.2.2.2.2.2.2.2.1 k0_h8
theorem k0_off30_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h8 : k0_cond8 k0_t1 arg22_r0 arg23_r0 = 1#1), (Rect.unit (s := S16x8x544x1024) (k0_off30 arg22_r0 arg23_r0) S1x1x544x1024.size (k0_off30_inb k0_t1 arg7_r0 arg11_r0 arg15_r0 arg18_r0 arg19_r0 arg20_r0 arg21_r0 arg22_r0 arg23_r0 k0_hw7 k0_h8)).WholeWords (EltTy.packing .bf16) := fun k0_t1 arg7_r0 arg11_r0 arg15_r0 arg18_r0 arg19_r0 arg20_r0 arg21_r0 arg22_r0 arg23_r0 k0_hw7 k0_h8 => k0_hw7.2.2.2.2.2.2.2.2.2.2.2.2.2.2.2.2.2.1 k0_h8 (k0_off30_inb k0_t1 arg7_r0 arg11_r0 arg15_r0 arg18_r0 arg19_r0 arg20_r0 arg21_r0 arg22_r0 arg23_r0 k0_hw7 k0_h8)
theorem k0_off29_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h8 : k0_cond8 k0_t1 arg22_r0 arg23_r0 = 1#1), (Rect.unit (s := S2x544x1024) (k0_off29 arg19_r0) S1x544x1024.size (k0_off29_inb k0_t1 arg7_r0 arg11_r0 arg15_r0 arg18_r0 arg19_r0 arg20_r0 arg21_r0 arg22_r0 arg23_r0 k0_hw7 k0_h8)).WholeWords (EltTy.packing .bf16) := fun k0_t1 arg7_r0 arg11_r0 arg15_r0 arg18_r0 arg19_r0 arg20_r0 arg21_r0 arg22_r0 arg23_r0 k0_hw7 k0_h8 => k0_hw7.2.2.2.2.2.2.2.2.2.2.2.2.2.2.2.2.2.2.1 k0_h8 (k0_off29_inb k0_t1 arg7_r0 arg11_r0 arg15_r0 arg18_r0 arg19_r0 arg20_r0 arg21_r0 arg22_r0 arg23_r0 k0_hw7 k0_h8)
theorem k0_off36_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h14 : k0_cond14 k0_t1 arg22_r0 arg23_r0 = 1#1), ∀ a, (k0_off36 arg20_r0) a + S1.size a ≤ S2.size a := fun k0_t1 arg7_r0 arg11_r0 arg15_r0 arg18_r0 arg19_r0 arg20_r0 arg21_r0 arg22_r0 arg23_r0 k0_hw7 k0_h14 => k0_hw7.2.2.2.2.2.2.2.2.2.2.2.2.2.2.2.2.2.2.2.1 k0_h14
theorem k0_off37_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h14 : k0_cond14 k0_t1 arg22_r0 arg23_r0 = 1#1), ∀ a, (k0_off37 arg22_r0 arg23_r0) a + S1x1x544x1024.size a ≤ S16x8x544x1024.size a := fun k0_t1 arg7_r0 arg11_r0 arg15_r0 arg18_r0 arg19_r0 arg20_r0 arg21_r0 arg22_r0 arg23_r0 k0_hw7 k0_h14 => k0_hw7.2.2.2.2.2.2.2.2.2.2.2.2.2.2.2.2.2.2.2.2.1 k0_h14
theorem k0_off38_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h14 : k0_cond14 k0_t1 arg22_r0 arg23_r0 = 1#1), ∀ a, (k0_off38 arg20_r0) a + S1x544x1024.size a ≤ S2x544x1024.size a := fun k0_t1 arg7_r0 arg11_r0 arg15_r0 arg18_r0 arg19_r0 arg20_r0 arg21_r0 arg22_r0 arg23_r0 k0_hw7 k0_h14 => k0_hw7.2.2.2.2.2.2.2.2.2.2.2.2.2.2.2.2.2.2.2.2.2.1 k0_h14
theorem k0_off38_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h14 : k0_cond14 k0_t1 arg22_r0 arg23_r0 = 1#1), (Rect.unit (s := S2x544x1024) (k0_off38 arg20_r0) S1x544x1024.size (k0_off38_inb k0_t1 arg7_r0 arg11_r0 arg15_r0 arg18_r0 arg19_r0 arg20_r0 arg21_r0 arg22_r0 arg23_r0 k0_hw7 k0_h14)).WholeWords (EltTy.packing .bf16) := fun k0_t1 arg7_r0 arg11_r0 arg15_r0 arg18_r0 arg19_r0 arg20_r0 arg21_r0 arg22_r0 arg23_r0 k0_hw7 k0_h14 => k0_hw7.2.2.2.2.2.2.2.2.2.2.2.2.2.2.2.2.2.2.2.2.2.2.1 k0_h14 (k0_off38_inb k0_t1 arg7_r0 arg11_r0 arg15_r0 arg18_r0 arg19_r0 arg20_r0 arg21_r0 arg22_r0 arg23_r0 k0_hw7 k0_h14)
theorem k0_off37_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h14 : k0_cond14 k0_t1 arg22_r0 arg23_r0 = 1#1), (Rect.unit (s := S16x8x544x1024) (k0_off37 arg22_r0 arg23_r0) S1x1x544x1024.size (k0_off37_inb k0_t1 arg7_r0 arg11_r0 arg15_r0 arg18_r0 arg19_r0 arg20_r0 arg21_r0 arg22_r0 arg23_r0 k0_hw7 k0_h14)).WholeWords (EltTy.packing .bf16) := fun k0_t1 arg7_r0 arg11_r0 arg15_r0 arg18_r0 arg19_r0 arg20_r0 arg21_r0 arg22_r0 arg23_r0 k0_hw7 k0_h14 => k0_hw7.2.2.2.2.2.2.2.2.2.2.2.2.2.2.2.2.2.2.2.2.2.2.2.1 k0_h14 (k0_off37_inb k0_t1 arg7_r0 arg11_r0 arg15_r0 arg18_r0 arg19_r0 arg20_r0 arg21_r0 arg22_r0 arg23_r0 k0_hw7 k0_h14)
theorem k0_off39_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h19 : k0_cond19 k0_t1 arg22_r0 arg23_r0 = 1#1), ∀ a, (k0_off39 arg21_r0) a + S1.size a ≤ S2.size a := fun k0_t1 arg7_r0 arg11_r0 arg15_r0 arg18_r0 arg19_r0 arg20_r0 arg21_r0 arg22_r0 arg23_r0 k0_hw7 k0_h19 => k0_hw7.2.2.2.2.2.2.2.2.2.2.2.2.2.2.2.2.2.2.2.2.2.2.2.2.1 k0_h19
theorem k0_off40_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h19 : k0_cond19 k0_t1 arg22_r0 arg23_r0 = 1#1), ∀ a, (k0_off40 arg22_r0 arg23_r0) a + S1x1x544x1024.size a ≤ S16x8x544x1024.size a := fun k0_t1 arg7_r0 arg11_r0 arg15_r0 arg18_r0 arg19_r0 arg20_r0 arg21_r0 arg22_r0 arg23_r0 k0_hw7 k0_h19 => k0_hw7.2.2.2.2.2.2.2.2.2.2.2.2.2.2.2.2.2.2.2.2.2.2.2.2.2.1 k0_h19
theorem k0_off41_inb : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h19 : k0_cond19 k0_t1 arg22_r0 arg23_r0 = 1#1), ∀ a, (k0_off41 arg21_r0) a + S1x544x1024.size a ≤ S2x544x1024.size a := fun k0_t1 arg7_r0 arg11_r0 arg15_r0 arg18_r0 arg19_r0 arg20_r0 arg21_r0 arg22_r0 arg23_r0 k0_hw7 k0_h19 => k0_hw7.2.2.2.2.2.2.2.2.2.2.2.2.2.2.2.2.2.2.2.2.2.2.2.2.2.2.1 k0_h19
theorem k0_off41_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h19 : k0_cond19 k0_t1 arg22_r0 arg23_r0 = 1#1), (Rect.unit (s := S2x544x1024) (k0_off41 arg21_r0) S1x544x1024.size (k0_off41_inb k0_t1 arg7_r0 arg11_r0 arg15_r0 arg18_r0 arg19_r0 arg20_r0 arg21_r0 arg22_r0 arg23_r0 k0_hw7 k0_h19)).WholeWords (EltTy.packing .bf16) := fun k0_t1 arg7_r0 arg11_r0 arg15_r0 arg18_r0 arg19_r0 arg20_r0 arg21_r0 arg22_r0 arg23_r0 k0_hw7 k0_h19 => k0_hw7.2.2.2.2.2.2.2.2.2.2.2.2.2.2.2.2.2.2.2.2.2.2.2.2.2.2.2.1 k0_h19 (k0_off41_inb k0_t1 arg7_r0 arg11_r0 arg15_r0 arg18_r0 arg19_r0 arg20_r0 arg21_r0 arg22_r0 arg23_r0 k0_hw7 k0_h19)
theorem k0_off40_wordsbf16 : ∀ (k0_t1 : Fin k0_t1_loop.trips) (arg7_r0 : BitVec 32) (arg11_r0 : BitVec 32) (arg15_r0 : BitVec 32) (arg18_r0 : BitVec 32) (arg19_r0 : BitVec 32) (arg20_r0 : BitVec 32) (arg21_r0 : BitVec 32) (arg22_r0 : BitVec 32) (arg23_r0 : BitVec 32) (k0_hw7 : k0_chk7 k0_t1 arg7_r0 arg11_r0 arg15_r0 arg18_r0 arg19_r0 arg20_r0 arg21_r0 arg22_r0 arg23_r0), ∀ (k0_h19 : k0_cond19 k0_t1 arg22_r0 arg23_r0 = 1#1), (Rect.unit (s := S16x8x544x1024) (k0_off40 arg22_r0 arg23_r0) S1x1x544x1024.size (k0_off40_inb k0_t1 arg7_r0 arg11_r0 arg15_r0 arg18_r0 arg19_r0 arg20_r0 arg21_r0 arg22_r0 arg23_r0 k0_hw7 k0_h19)).WholeWords (EltTy.packing .bf16) := fun k0_t1 arg7_r0 arg11_r0 arg15_r0 arg18_r0 arg19_r0 arg20_r0 arg21_r0 arg22_r0 arg23_r0 k0_hw7 k0_h19 => k0_hw7.2.2.2.2.2.2.2.2.2.2.2.2.2.2.2.2.2.2.2.2.2.2.2.2.2.2.2.2 k0_h19 (k0_off40_inb k0_t1 arg7_r0 arg11_r0 arg15_r0 arg18_r0 arg19_r0 arg20_r0 arg21_r0 arg22_r0 arg23_r0 k0_hw7 k0_h19)

def k0_off42 (v70_15_r0 : BitVec 32) : Fin 1 → Nat :=
  let c2_i32_128_r0 : BitVec 32 := 2#32
  let v111_r0 : BitVec 32 := Scalar.remui v70_15_r0 c2_i32_128_r0
  ![v111_r0.toNat]

def k0_off43 (v70_17_r0 : BitVec 32) (v70_16_r0 : BitVec 32) : Fin 4 → Nat :=
  let true_93_r0 : BitVec 1 := 1#1
  let c1_i32_92_r0 : BitVec 32 := 1#32
  let v71_r0 : BitVec 32 := Scalar.subi v70_17_r0 c1_i32_92_r0
  let v72_r0 : BitVec 32 := Scalar.select true_93_r0 v71_r0 v70_17_r0
  let c_m1_i32_94_r0 : BitVec 32 := 4294967295#32
  let v73_r0 : BitVec 1 := Scalar.cmpi .eq v72_r0 c_m1_i32_94_r0
  let c1_i32_96_r0 : BitVec 32 := 1#32
  let v75_r0 : BitVec 32 := Scalar.subi v70_16_r0 c1_i32_96_r0
  let v76_r0 : BitVec 32 := Scalar.select v73_r0 v75_r0 v70_16_r0
  let c_m1_i32_97_r0 : BitVec 32 := 4294967295#32
  let v77_r0 : BitVec 1 := Scalar.cmpi .eq v76_r0 c_m1_i32_97_r0
  let c15_i32_98_r0 : BitVec 32 := 15#32
  let v78_r0 : BitVec 32 := Scalar.select v77_r0 c15_i32_98_r0 v76_r0
  let c0_i32_99_r0 : BitVec 32 := 0#32
  let v79_r0 : BitVec 32 := Scalar.addi v78_r0 c0_i32_99_r0
  let c7_i32_95_r0 : BitVec 32 := 7#32
  let v74_r0 : BitVec 32 := Scalar.select v73_r0 c7_i32_95_r0 v72_r0
  let c0_i32_100_r0 : BitVec 32 := 0#32
  let v80_r0 : BitVec 32 := Scalar.addi v74_r0 c0_i32_100_r0
  let c0_i32_129_r0 : BitVec 32 := 0#32
  let c0_i32_130_r0 : BitVec 32 := 0#32
  ![v79_r0.toNat, v80_r0.toNat, 0, 0]

def k0_off44 (v70_15_r0 : BitVec 32) : Fin 3 → Nat :=
  let c2_i32_128_r0 : BitVec 32 := 2#32
  let v111_r0 : BitVec 32 := Scalar.remui v70_15_r0 c2_i32_128_r0
  let c0_i32_131_r0 : BitVec 32 := 0#32
  let c0_i32_132_r0 : BitVec 32 := 0#32
  ![v111_r0.toNat, 0, 0]

def k0_chk13 (v70_15_r0 : BitVec 32) : Prop :=
  (∀ a, (k0_off42 v70_15_r0) a + S1.size a ≤ S2.size a) ∧
  (∀ a, (k0_off44 v70_15_r0) a + S1x544x1024.size a ≤ S2x544x1024.size a) ∧
  (∀ (hinb : ∀ a, (k0_off44 v70_15_r0) a + S1x544x1024.size a ≤ S2x544x1024.size a), (Rect.unit (s := S2x544x1024) (k0_off44 v70_15_r0) S1x544x1024.size hinb).WholeWords (EltTy.packing .bf16))
theorem k0_off42_inb : ∀ (v70_15_r0 : BitVec 32) (k0_hw13 : k0_chk13 v70_15_r0), ∀ a, (k0_off42 v70_15_r0) a + S1.size a ≤ S2.size a := fun v70_15_r0 k0_hw13 => k0_hw13.1
theorem k0_off44_inb : ∀ (v70_15_r0 : BitVec 32) (k0_hw13 : k0_chk13 v70_15_r0), ∀ a, (k0_off44 v70_15_r0) a + S1x544x1024.size a ≤ S2x544x1024.size a := fun v70_15_r0 k0_hw13 => k0_hw13.2.1
theorem k0_off44_wordsbf16 : ∀ (v70_15_r0 : BitVec 32) (k0_hw13 : k0_chk13 v70_15_r0), (Rect.unit (s := S2x544x1024) (k0_off44 v70_15_r0) S1x544x1024.size (k0_off44_inb v70_15_r0 k0_hw13)).WholeWords (EltTy.packing .bf16) := fun v70_15_r0 k0_hw13 => k0_hw13.2.2 (k0_off44_inb v70_15_r0 k0_hw13)

def k0_chk14 (v70_17_r0 : BitVec 32) (v70_16_r0 : BitVec 32) : Prop :=
  (∀ a, (k0_off43 v70_17_r0 v70_16_r0) a + S1x1x544x1024.size a ≤ S16x8x544x1024.size a) ∧
  (∀ (hinb : ∀ a, (k0_off43 v70_17_r0 v70_16_r0) a + S1x1x544x1024.size a ≤ S16x8x544x1024.size a), (Rect.unit (s := S16x8x544x1024) (k0_off43 v70_17_r0 v70_16_r0) S1x1x544x1024.size hinb).WholeWords (EltTy.packing .bf16))
theorem k0_off43_inb : ∀ (v70_17_r0 : BitVec 32) (v70_16_r0 : BitVec 32) (k0_hw14 : k0_chk14 v70_17_r0 v70_16_r0), ∀ a, (k0_off43 v70_17_r0 v70_16_r0) a + S1x1x544x1024.size a ≤ S16x8x544x1024.size a := fun v70_17_r0 v70_16_r0 k0_hw14 => k0_hw14.1
theorem k0_off43_wordsbf16 : ∀ (v70_17_r0 : BitVec 32) (v70_16_r0 : BitVec 32) (k0_hw14 : k0_chk14 v70_17_r0 v70_16_r0), (Rect.unit (s := S16x8x544x1024) (k0_off43 v70_17_r0 v70_16_r0) S1x1x544x1024.size (k0_off43_inb v70_17_r0 v70_16_r0 k0_hw14)).WholeWords (EltTy.packing .bf16) := fun v70_17_r0 v70_16_r0 k0_hw14 => k0_hw14.2 (k0_off43_inb v70_17_r0 v70_16_r0 k0_hw14)
-- ==== ReferenceIdeal.lean ====
abbrev S16x8x544x1024 : Shape := ⟨4, ![16, 8, 544, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S16x8x544x2048 : Shape := ⟨4, ![16, 8, 544, 2048]⟩
abbrev S_ : Shape := ⟨0, ![]⟩
abbrev S1x16x2048x1024 : Shape := ⟨4, ![1, 16, 2048, 1024]⟩
abbrev S16x2048x1024 : Shape := ⟨3, ![16, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x8x544x1024, .bf16⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x8x544x1024, .f32⟩
  | .hbm, ⟨5, _⟩ => ⟨S1x16x1024x2048, .f32⟩
  | .hbm, ⟨6, _⟩ => ⟨S16x1024x2048, .f32⟩
  | .hbm, ⟨7, _⟩ => ⟨S16x8x544x2048, .f32⟩
  | .hbm, ⟨8, _⟩ => ⟨S16x8x544x2048, .f32⟩
  | .hbm, ⟨9, _⟩ => ⟨S16x8x544x2048, .f32⟩
  | .hbm, ⟨10, _⟩ => ⟨S_, .f32⟩
  | .hbm, ⟨11, _⟩ => ⟨S16x8x544x2048, .f32⟩
  | .hbm, ⟨12, _⟩ => ⟨S16x8x544x2048, .f32⟩
  | .hbm, ⟨13, _⟩ => ⟨S_, .f32⟩
  | .hbm, ⟨14, _⟩ => ⟨S16x8x544x2048, .f32⟩
  | .hbm, ⟨15, _⟩ => ⟨S16x8x544x2048, .f32⟩
  | .hbm, ⟨16, _⟩ => ⟨S16x8x544x2048, .f32⟩
  | .hbm, ⟨17, _⟩ => ⟨S1x16x1024x2048, .f32⟩
  | .hbm, ⟨18, _⟩ => ⟨S16x1024x2048, .f32⟩
  | .hbm, ⟨19, _⟩ => ⟨S16x8x544x2048, .f32⟩
  | .hbm, ⟨20, _⟩ => ⟨S16x8x544x2048, .f32⟩
  | .hbm, ⟨21, _⟩ => ⟨S1x16x2048x1024, .f32⟩
  | .hbm, ⟨22, _⟩ => ⟨S16x2048x1024, .f32⟩
  | .hbm, ⟨23, _⟩ => ⟨S16x8x544x1024, .f32⟩
  | .hbm, ⟨24, _⟩ => ⟨S16x8x544x1024, .bf16⟩
  | _, _ => ⟨S16x8x544x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel2.lean ====
abbrev S8x4352x1024 : Shape := ⟨3, ![8, 4352, 1024]⟩
abbrev S8x4352x256 : Shape := ⟨3, ![8, 4352, 256]⟩
abbrev S1024x1024 : Shape := ⟨2, ![1024, 1024]⟩
abbrev S8x2x6x1024 : Shape := ⟨4, ![8, 2, 6, 1024]⟩
abbrev S1x256x1024 : Shape := ⟨3, ![1, 256, 1024]⟩
abbrev S1x4352x256 : Shape := ⟨3, ![1, 4352, 256]⟩
abbrev S1x1x6x1024 : Shape := ⟨4, ![1, 1, 6, 1024]⟩
abbrev S256x1024 : Shape := ⟨2, ![256, 1024]⟩
abbrev S1x256x128 : Shape := ⟨3, ![1, 256, 128]⟩
abbrev S256x128 : Shape := ⟨2, ![256, 128]⟩
abbrev S1024x128 : Shape := ⟨2, ![1024, 128]⟩
abbrev S1024x1 : Shape := ⟨2, ![1024, 1]⟩
abbrev S1024x256 : Shape := ⟨2, ![1024, 256]⟩
abbrev S1024 : Shape := ⟨1, ![1024]⟩
abbrev S1x2048x128 : Shape := ⟨3, ![1, 2048, 128]⟩
abbrev S2048x128 : Shape := ⟨2, ![2048, 128]⟩
abbrev S1024x2048 : Shape := ⟨2, ![1024, 2048]⟩
abbrev S1x1x1x1024 : Shape := ⟨4, ![1, 1, 1, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S1024x1024, .f32⟩
  | .hbm, ⟨4, _⟩ => ⟨S8x4352x1024, .f32⟩
  | .hbm, ⟨5, _⟩ => ⟨S8x2x6x1024, .f32⟩
  | .hbm, ⟨6, _⟩ => ⟨S8x4352x256, .bf16⟩
  | .hbm, ⟨7, _⟩ => ⟨S8x4352x256, .bf16⟩
  | .hbm, ⟨8, _⟩ => ⟨S1024x1024, .bf16⟩
  | .hbm, ⟨9, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1x256x1024, .f32⟩
  | .local _ .vmem, ⟨12, _⟩ => ⟨S1x256x1024, .f32⟩
  | .local _ .vmem, ⟨13, _⟩ => ⟨S256x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_cond2 (i : grid0.Coords) : BitVec 1 :=
  let arg1 : BitVec 32 := BitVec.ofNat 32 (i 1).val
  let c16_i32 : BitVec 32 := 16#32
  let v71 : BitVec 1 := Scalar.cmpi .sge arg1 c16_i32
  let v_true : BitVec 1 := 1#1
  let v74 : BitVec 1 := Scalar.xori v71 v_true
  let v75 : BitVec 32 := Scalar.extui v74
  let c0_i32_39 : BitVec 32 := 0#32
  let v76 : BitVec 1 := Scalar.cmpi .ne v75 c0_i32_39
  v76

@[reducible] def k0_t1_loop : Scf.Loop 32 :=
  let c0_i32_54 : BitVec 32 := 0#32
  let c2_i32 : BitVec 32 := 2#32
  let v91 : BitVec 32 := Scalar.addi c0_i32_54 c2_i32
  let c1_i32 : BitVec 32 := 1#32
  ⟨c0_i32_54, v91, c1_i32⟩
def k0_mult1 (k0_t1 : Fin k0_t1_loop.trips) : BitVec 32 :=
  let c0_i32_54 : BitVec 32 := 0#32
  let c1_i32 : BitVec 32 := 1#32
  let arg10 : BitVec 32 := Scf.iv c0_i32_54 c1_i32 k0_t1
  let c2048_i32 : BitVec 32 := 2048#32
  let v131 : BitVec 32 := Scalar.muli arg10 c2048_i32
  v131
def k0_off1 (k0_t1 : Fin k0_t1_loop.trips) : Fin 3 → Nat :=
  let c0_73 : Index := 0#32
  let c0_i32_54 : BitVec 32 := 0#32
  let c1_i32 : BitVec 32 := 1#32
  let arg10 : BitVec 32 := Scf.iv c0_i32_54 c1_i32 k0_t1
  let c2048_i32 : BitVec 32 := 2048#32
  let v131 : BitVec 32 := Scalar.muli arg10 c2048_i32
  let v132 : BitVec 32 := v131
  let v136 : Index := Scalar.indexCast v132
  let c0_74 : Index := 0#32
  ![0, v136.toNat, 0]
def k0_off2 (k0_t1 : Fin k0_t1_loop.trips) : Fin 3 → Nat :=
  let c0_82 : Index := 0#32
  let c0_i32_54 : BitVec 32 := 0#32
  let c1_i32 : BitVec 32 := 1#32
  let arg10 : BitVec 32 := Scf.iv c0_i32_54 c1_i32 k0_t1
  let c2048_i32 : BitVec 32 := 2048#32
  let v131 : BitVec 32 := Scalar.muli arg10 c2048_i32
  let v132 : BitVec 32 := v131
  let v163 : Index := Scalar.indexCast v132
  let c128_83 : Index := 128#32
  ![0, v163.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "q_scale" => some (((11863283 / 134217728) * (Real.log 2)⁻¹ : ℝ) : EReal)
  | _ => none
-- ==== Reference2Ideal.lean ====
abbrev S8x4352x1024 : Shape := ⟨3, ![8, 4352, 1024]⟩
abbrev S8x4352x256 : Shape := ⟨3, ![8, 4352, 256]⟩
abbrev S1024x1024 : Shape := ⟨2, ![1024, 1024]⟩
abbrev S8x2x6x1024 : Shape := ⟨4, ![8, 2, 6, 1024]⟩
abbrev S8x4352x2x4x128 : Shape := ⟨5, ![8, 4352, 2, 4, 128]⟩
abbrev S8x4352x2x128 : Shape := ⟨4, ![8, 4352, 2, 128]⟩
abbrev S8x4096x2x4x128 : Shape := ⟨5, ![8, 4096, 2, 4, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩
abbrev S8x256x2x4x128 : Shape := ⟨5, ![8, 256, 2, 4, 128]⟩
abbrev S8x256x2x128 : Shape := ⟨4, ![8, 256, 2, 128]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x128x4x256 : Shape := ⟨5, ![8, 2, 128, 4, 256]⟩
abbrev S8x256x1024 : Shape := ⟨3, ![8, 256, 1024]⟩
abbrev S8x1x1x1024 : Shape := ⟨4, ![8, 1, 1, 1024]⟩
abbrev S8x1024 : Shape := ⟨2, ![8, 1024]⟩
abbrev S8x1x1024 : Shape := ⟨3, ![8, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x256, .f32⟩
  | .hbm, ⟨2, _⟩ => ⟨S8x4352x256, .f32⟩
  | .hbm, ⟨3, _⟩ => ⟨S1024x1024, .f32⟩
  | .hbm, ⟨4, _⟩ => ⟨S8x4352x1024, .f32⟩
  | .hbm, ⟨5, _⟩ => ⟨S8x2x6x1024, .f32⟩
  | .hbm, ⟨6, _⟩ => ⟨S8x4352x2x4x128, .f32⟩
  | .hbm, ⟨7, _⟩ => ⟨S8x4352x2x128, .f32⟩
  | .hbm, ⟨8, _⟩ => ⟨S8x4352x2x128, .f32⟩
  | .hbm, ⟨9, _⟩ => ⟨S8x4096x2x4x128, .f32⟩
  | .hbm, ⟨10, _⟩ => ⟨S8x2x4352x4096x4, .f32⟩
  | .hbm, ⟨11, _⟩ => ⟨S8x2x4x4096x4352, .f32⟩
  | .hbm, ⟨12, _⟩ => ⟨S_, .f32⟩
  | .hbm, ⟨13, _⟩ => ⟨S8x2x4x4096x4352, .f32⟩
  | .hbm, ⟨14, _⟩ => ⟨S8x2x4x4096x4352, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x4x4096x4352, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4352, .f32⟩
  | .hbm, ⟨28, _⟩ => ⟨S8x2x4x4096x4352, .f32⟩
  | .hbm, ⟨29, _⟩ => ⟨S8x2x128x4x4096, .f32⟩
  | .hbm, ⟨30, _⟩ => ⟨S8x4096x2x4x128, .f32⟩
  | .hbm, ⟨31, _⟩ => ⟨S8x4096x1024, .f32⟩
  | .hbm, ⟨32, _⟩ => ⟨S8x4096x1024, .f32⟩
  | .hbm, ⟨33, _⟩ => ⟨S8x256x2x4x128, .f32⟩
  | .hbm, ⟨34, _⟩ => ⟨S8x256x2x128, .f32⟩
  | .hbm, ⟨35, _⟩ => ⟨S8x256x2x128, .f32⟩
  | .hbm, ⟨36, _⟩ => ⟨S8x2x256x256x4, .f32⟩
  | .hbm, ⟨37, _⟩ => ⟨S8x2x4x256x256, .f32⟩
  | .hbm, ⟨38, _⟩ => ⟨S_, .f32⟩
  | .hbm, ⟨39, _⟩ => ⟨S8x2x4x256x256, .f32⟩
  | .hbm, ⟨40, _⟩ => ⟨S8x2x4x256x256, .f32⟩
  | .hbm, ⟨41, _⟩ => ⟨S_, .f32⟩
  | .hbm, ⟨42, _⟩ => ⟨S8x2x4x256, .f32⟩
  | .hbm, ⟨43, _⟩ => ⟨S_, .f32⟩
  | .hbm, ⟨44, _⟩ => ⟨S8x2x4x256, .f32⟩
  | .hbm, ⟨45, _⟩ => ⟨S8x2x4x256, .f32⟩
  | .hbm, ⟨46, _⟩ => ⟨S8x2x4x256x1, .f32⟩
  | .hbm, ⟨47, _⟩ => ⟨S8x2x4x256x256, .f32⟩
  | .hbm, ⟨48, _⟩ => ⟨S8x2x4x256x256, .f32⟩
  | .hbm, ⟨49, _⟩ => ⟨S8x2x4x256x256, .f32⟩
  | .hbm, ⟨50, _⟩ => ⟨S_, .f32⟩
  | .hbm, ⟨51, _⟩ => ⟨S8x2x4x256, .f32⟩
  | .hbm, ⟨52, _⟩ => ⟨S8x2x4x256x1, .f32⟩
  | .hbm, ⟨53, _⟩ => ⟨S8x2x4x256x256, .f32⟩
  | .hbm, ⟨54, _⟩ => ⟨S8x2x4x256x256, .f32⟩
  | .hbm, ⟨55, _⟩ => ⟨S8x2x128x4x256, .f32⟩
  | .hbm, ⟨56, _⟩ => ⟨S8x256x2x4x128, .f32⟩
  | .hbm, ⟨57, _⟩ => ⟨S8x256x1024, .f32⟩
  | .hbm, ⟨58, _⟩ => ⟨S8x256x1024, .f32⟩
  | .hbm, ⟨59, _⟩ => ⟨S8x4096x1024, .f32⟩
  | .hbm, ⟨60, _⟩ => ⟨S8x1x1x1024, .f32⟩
  | .hbm, ⟨61, _⟩ => ⟨S8x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x256x1024, .f32⟩
  | .hbm, ⟨67, _⟩ => ⟨S8x1x1x1024, .f32⟩
  | .hbm, ⟨68, _⟩ => ⟨S8x1024, .f32⟩
  | .hbm, ⟨69, _⟩ => ⟨S8x1x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | .hbm, ⟨73, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Names.lean ====
/-
  The names the proof uses for what the expert feed-forward's pipeline touches: the blocks of the five
  arrays in HBM, the two slots of each VMEM buffer, the slots' DMA semaphores, and the words the loop carries
  before each of its 128 trips, in closed form.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Tactic

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
abbrev EP : Emb (UR sig nD τ) (MT nD τ sig Unit (Elt F) ℕ (UU nD τ) ℕ) := embL
abbrev 𝒱₀ : Variants := Variants.nat

/-! ## The arrays, the buffers, and their pieces -/

abbrev xsM : Memref sig .tc .hbm S16x8x544x1024 .bf16 := Memref.whole main_arg0
abbrev w1M : Memref sig .tc .hbm S4x16x1024x2048 .f32 := Memref.whole main_arg1
abbrev w3M : Memref sig .tc .hbm S4x16x1024x2048 .f32 := Memref.whole main_arg2
abbrev w2M : Memref sig .tc .hbm S4x16x2048x1024 .f32 := Memref.whole main_arg3
abbrev yM : Memref sig .tc .hbm S16x8x544x1024 .bf16 := Memref.whole main_v0
abbrev w1B : Memref sig .tc .vmem S2x1024x2048 .f32 := Memref.whole cc0_scoped0
abbrev w3B : Memref sig .tc .vmem S2x1024x2048 .f32 := Memref.whole cc0_scoped2
abbrev w2B : Memref sig .tc .vmem S2x2048x1024 .f32 := Memref.whole cc0_scoped4
abbrev xsB : Memref sig .tc .vmem S2x544x1024 .bf16 := Memref.whole cc0_scoped6
abbrev yB : Memref sig .tc .vmem S2x544x1024 .bf16 := Memref.whole cc0_scoped8

abbrev slOff (s : Fin 2) : Fin 3 → Nat := ![s.val, 0, 0]
abbrev smOff (s : Fin 2) : Fin 1 → Nat := ![s.val]
abbrev wOff (e : Fin 16) : Fin 4 → Nat := ![0, e.val, 0, 0]
abbrev tOff (e : Fin 16) (b : Fin 8) : Fin 4 → Nat := ![e.val, b.val, 0, 0]

theorem smOff_inb (s : Fin 2) : ∀ a, smOff s a + S1.size a ≤ S2.size a := by revert s; decide +kernel
theorem slOff_inbW (s : Fin 2) : ∀ a, slOff s a + S1x1024x2048.size a ≤ S2x1024x2048.size a := by revert s; decide +kernel
theorem slOff_inbV (s : Fin 2) : ∀ a, slOff s a + S1x2048x1024.size a ≤ S2x2048x1024.size a := by revert s; decide +kernel
theorem slOff_inbX (s : Fin 2) : ∀ a, slOff s a + S1x544x1024.size a ≤ S2x544x1024.size a := by revert s; decide +kernel
theorem wOff_inbW (e : Fin 16) : ∀ a, wOff e a + S1x1x1024x2048.size a ≤ S4x16x1024x2048.size a := by revert e; decide +kernel
theorem wOff_inbV (e : Fin 16) : ∀ a, wOff e a + S1x1x2048x1024.size a ≤ S4x16x2048x1024.size a := by revert e; decide +kernel
theorem tOff_inb (e : Fin 16) (b : Fin 8) : ∀ a, tOff e b a + S1x1x544x1024.size a ≤ S16x8x544x1024.size a := by revert e b; decide +kernel

/-- A weight's block: expert `e` of layer 0, as the kernel slices and squeezes it. -/
def w1b (e : Fin 16) : Memref sig .tc .hbm S1024x2048 .f32 :=
  (w1M.slice (Rect.unit (s := S4x16x1024x2048) (wOff e) S1x1x1024x2048.size (wOff_inbW e)) (fun _ => rfl)).squeeze S1024x2048 squeezes_S1x1x1024x2048_S1024x2048
def w3b (e : Fin 16) : Memref sig .tc .hbm S1024x2048 .f32 :=
  (w3M.slice (Rect.unit (s := S4x16x1024x2048) (wOff e) S1x1x1024x2048.size (wOff_inbW e)) (fun _ => rfl)).squeeze S1024x2048 squeezes_S1x1x1024x2048_S1024x2048
def w2b (e : Fin 16) : Memref sig .tc .hbm S2048x1024 .f32 :=
  (w2M.slice (Rect.unit (s := S4x16x2048x1024) (wOff e) S1x1x2048x1024.size (wOff_inbV e)) (fun _ => rfl)).squeeze S2048x1024 squeezes_S1x1x2048x1024_S2048x1024
/-- A block of the tokens, and of the result: expert `e`, batch row `b`. -/
def xsb (e : Fin 16) (b : Fin 8) : Memref sig .tc .hbm S544x1024 .bf16 :=
  (xsM.slice (Rect.unit (s := S16x8x544x1024) (tOff e b) S1x1x544x1024.size (tOff_inb e b)) (fun _ => rfl)).squeeze S544x1024 squeezes_S1x1x544x1024_S544x1024
def yb (e : Fin 16) (b : Fin 8) : Memref sig .tc .hbm S544x1024 .bf16 :=
  (yM.slice (Rect.unit (s := S16x8x544x1024) (tOff e b) S1x1x544x1024.size (tOff_inb e b)) (fun _ => rfl)).squeeze S544x1024 squeezes_S1x1x544x1024_S544x1024

/-- The slots. -/
def w1s (s : Fin 2) : Memref sig .tc .vmem S1024x2048 .f32 :=
  (w1B.slice (Rect.unit (s := S2x1024x2048) (slOff s) S1x1024x2048.size (slOff_inbW s)) (fun _ => rfl)).squeeze S1024x2048 squeezes_S1x1024x2048_S1024x2048
def w3s (s : Fin 2) : Memref sig .tc .vmem S1024x2048 .f32 :=
  (w3B.slice (Rect.unit (s := S2x1024x2048) (slOff s) S1x1024x2048.size (slOff_inbW s)) (fun _ => rfl)).squeeze S1024x2048 squeezes_S1x1024x2048_S1024x2048
def w2s (s : Fin 2) : Memref sig .tc .vmem S2048x1024 .f32 :=
  (w2B.slice (Rect.unit (s := S2x2048x1024) (slOff s) S1x2048x1024.size (slOff_inbV s)) (fun _ => rfl)).squeeze S2048x1024 squeezes_S1x2048x1024_S2048x1024
def xss (s : Fin 2) : Memref sig .tc .vmem S544x1024 .bf16 :=
  (xsB.slice (Rect.unit (s := S2x544x1024) (slOff s) S1x544x1024.size (slOff_inbX s)) (fun _ => rfl)).squeeze S544x1024 squeezes_S1x544x1024_S544x1024
def ys (s : Fin 2) : Memref sig .tc .vmem S544x1024 .bf16 :=
  (yB.slice (Rect.unit (s := S2x544x1024) (slOff s) S1x544x1024.size (slOff_inbX s)) (fun _ => rfl)).squeeze S544x1024 squeezes_S1x544x1024_S544x1024

/-- The slots' semaphores. -/
def w1c (s : Fin 2) : DmaSems sig S_ := (cc0_scoped1.slice (Rect.unit (s := S2) (smOff s) S1.size (smOff_inb s))).squeeze S_ squeezes_S1_S_
def w3c (s : Fin 2) : DmaSems sig S_ := (cc0_scoped3.slice (Rect.unit (s := S2) (smOff s) S1.size (smOff_inb s))).squeeze S_ squeezes_S1_S_
def w2c (s : Fin 2) : DmaSems sig S_ := (cc0_scoped5.slice (Rect.unit (s := S2) (smOff s) S1.size (smOff_inb s))).squeeze S_ squeezes_S1_S_
def xsc (s : Fin 2) : DmaSems sig S_ := (cc0_scoped7.slice (Rect.unit (s := S2) (smOff s) S1.size (smOff_inb s))).squeeze S_ squeezes_S1_S_
def yc (s : Fin 2) : DmaSems sig S_ := (cc0_scoped9.slice (Rect.unit (s := S2) (smOff s) S1.size (smOff_inb s))).squeeze S_ squeezes_S1_S_

instance (s : Fin 2) : ClosedOff (slOff s) := ⟨slOff s, rfl⟩
instance (e : Fin 16) : ClosedOff (wOff e) := ⟨wOff e, rfl⟩
instance (e : Fin 16) (b : Fin 8) : ClosedOff (tOff e b) := ⟨tOff e b, rfl⟩

/-! ## A slice at an offset equal to a named one is the named piece -/

theorem w1b_congr {off : Fin 4 → Nat} {e : Fin 16} (h : off = wOff e) (hh hs) :
    (w1M.slice (Rect.unit (s := S4x16x1024x2048) off S1x1x1024x2048.size hh) hs).squeeze S1024x2048 squeezes_S1x1x1024x2048_S1024x2048 = w1b e :=
  congrArg (fun M : Memref sig .tc .hbm S1x1x1024x2048 .f32 => M.squeeze S1024x2048 squeezes_S1x1x1024x2048_S1024x2048) (Memref.slice_unit_congr _ h _ _ _ _)
theorem w3b_congr {off : Fin 4 → Nat} {e : Fin 16} (h : off = wOff e) (hh hs) :
    (w3M.slice (Rect.unit (s := S4x16x1024x2048) off S1x1x1024x2048.size hh) hs).squeeze S1024x2048 squeezes_S1x1x1024x2048_S1024x2048 = w3b e :=
  congrArg (fun M : Memref sig .tc .hbm S1x1x1024x2048 .f32 => M.squeeze S1024x2048 squeezes_S1x1x1024x2048_S1024x2048) (Memref.slice_unit_congr _ h _ _ _ _)
theorem w2b_congr {off : Fin 4 → Nat} {e : Fin 16} (h : off = wOff e) (hh hs) :
    (w2M.slice (Rect.unit (s := S4x16x2048x1024) off S1x1x2048x1024.size hh) hs).squeeze S2048x1024 squeezes_S1x1x2048x1024_S2048x1024 = w2b e :=
  congrArg (fun M : Memref sig .tc .hbm S1x1x2048x1024 .f32 => M.squeeze S2048x1024 squeezes_S1x1x2048x1024_S2048x1024) (Memref.slice_unit_congr _ h _ _ _ _)
theorem xsb_congr {off : Fin 4 → Nat} {e : Fin 16} {b : Fin 8} (h : off = tOff e b) (hh hs) :
    (xsM.slice (Rect.unit (s := S16x8x544x1024) off S1x1x544x1024.size hh) hs).squeeze S544x1024 squeezes_S1x1x544x1024_S544x1024 = xsb e b :=
  congrArg (fun M : Memref sig .tc .hbm S1x1x544x1024 .bf16 => M.squeeze S544x1024 squeezes_S1x1x544x1024_S544x1024) (Memref.slice_unit_congr _ h _ _ _ _)
theorem yb_congr {off : Fin 4 → Nat} {e : Fin 16} {b : Fin 8} (h : off = tOff e b) (hh hs) :
    (yM.slice (Rect.unit (s := S16x8x544x1024) off S1x1x544x1024.size hh) hs).squeeze S544x1024 squeezes_S1x1x544x1024_S544x1024 = yb e b :=
  congrArg (fun M : Memref sig .tc .hbm S1x1x544x1024 .bf16 => M.squeeze S544x1024 squeezes_S1x1x544x1024_S544x1024) (Memref.slice_unit_congr _ h _ _ _ _)

theorem w1s_congr {off : Fin 3 → Nat} {s : Fin 2} (h : off = slOff s) (hh hs) :
    (w1B.slice (Rect.unit (s := S2x1024x2048) off S1x1024x2048.size hh) hs).squeeze S1024x2048 squeezes_S1x1024x2048_S1024x2048 = w1s s :=
  congrArg (fun M : Memref sig .tc .vmem S1x1024x2048 .f32 => M.squeeze S1024x2048 squeezes_S1x1024x2048_S1024x2048) (Memref.slice_unit_congr _ h _ _ _ _)
theorem w3s_congr {off : Fin 3 → Nat} {s : Fin 2} (h : off = slOff s) (hh hs) :
    (w3B.slice (Rect.unit (s := S2x1024x2048) off S1x1024x2048.size hh) hs).squeeze S1024x2048 squeezes_S1x1024x2048_S1024x2048 = w3s s :=
  congrArg (fun M : Memref sig .tc .vmem S1x1024x2048 .f32 => M.squeeze S1024x2048 squeezes_S1x1024x2048_S1024x2048) (Memref.slice_unit_congr _ h _ _ _ _)
theorem w2s_congr {off : Fin 3 → Nat} {s : Fin 2} (h : off = slOff s) (hh hs) :
    (w2B.slice (Rect.unit (s := S2x2048x1024) off S1x2048x1024.size hh) hs).squeeze S2048x1024 squeezes_S1x2048x1024_S2048x1024 = w2s s :=
  congrArg (fun M : Memref sig .tc .vmem S1x2048x1024 .f32 => M.squeeze S2048x1024 squeezes_S1x2048x1024_S2048x1024) (Memref.slice_unit_congr _ h _ _ _ _)
theorem xss_congr {off : Fin 3 → Nat} {s : Fin 2} (h : off = slOff s) (hh hs) :
    (xsB.slice (Rect.unit (s := S2x544x1024) off S1x544x1024.size hh) hs).squeeze S544x1024 squeezes_S1x544x1024_S544x1024 = xss s :=
  congrArg (fun M : Memref sig .tc .vmem S1x544x1024 .bf16 => M.squeeze S544x1024 squeezes_S1x544x1024_S544x1024) (Memref.slice_unit_congr _ h _ _ _ _)
theorem ys_congr {off : Fin 3 → Nat} {s : Fin 2} (h : off = slOff s) (hh hs) :
    (yB.slice (Rect.unit (s := S2x544x1024) off S1x544x1024.size hh) hs).squeeze S544x1024 squeezes_S1x544x1024_S544x1024 = ys s :=
  congrArg (fun M : Memref sig .tc .vmem S1x544x1024 .bf16 => M.squeeze S544x1024 squeezes_S1x544x1024_S544x1024) (Memref.slice_unit_congr _ h _ _ _ _)

theorem sem_congr {A : DmaSems sig S2} {off : Fin 1 → Nat} {s : Fin 2} (h : off = smOff s) (hh) :
    (A.slice (Rect.unit (s := S2) off S1.size hh)).squeeze S_ squeezes_S1_S_
      = (A.slice (Rect.unit (s := S2) (smOff s) S1.size (smOff_inb s))).squeeze S_ squeezes_S1_S_ :=
  congrArg (fun A : DmaSems sig S1 => A.squeeze S_ squeezes_S1_S_) (SemArray.slice_unit_congr _ h _ _)

/-! ## The words the loop carries before trip `k` -/

abbrev TT : Type := Fin k0_t1_loop.trips
theorem trips_eq : k0_t1_loop.trips = 128 := by decide +kernel

abbrev wd (n : ℕ) : BitVec 32 := BitVec.ofNat 32 n
/-- The expert and the batch row of trip `k`. -/
abbrev eOf (k : ℕ) : Fin 16 := Fin.ofNat 16 (k / 8)
abbrev bOf (k : ℕ) : Fin 8 := Fin.ofNat 8 k
/-- Weight blocks waited, copies started, and the look-ahead's cursor. -/
def nW (k : ℕ) : BitVec 32 := wd (k / 8)
def nC (k : ℕ) : BitVec 32 := wd (if k % 8 = 0 then min (k / 8 + 1) 16 else min (k / 8 + 2) 16)
def cE (k : ℕ) : BitVec 32 := wd (if k % 8 = 0 ∧ k < 128 then k / 8 else if k / 8 < 15 then k / 8 + 1 else 15)
def cI (k : ℕ) : BitVec 32 := wd (if k % 8 = 0 ∧ k < 128 then 0 else if k / 8 < 15 then 0 else 7)
/-- The same, once trip `k`'s look-ahead has run. -/
def nC' (k : ℕ) : BitVec 32 := wd (min (k / 8 + 2) 16)
def cE' (k : ℕ) : BitVec 32 := wd (if k / 8 < 15 then k / 8 + 1 else 15)
def cI' (k : ℕ) : BitVec 32 := wd (if k / 8 < 15 then 0 else 7)
def dE' (k : ℕ) : BitVec 32 := wd (if k / 8 < 15 then k / 8 + 1 else 16)
def dI' (k : ℕ) : BitVec 32 := wd (if k / 8 < 15 then 1 else 0)
/-- Token blocks started; blocks of the result waited. -/
def nX (k : ℕ) : BitVec 32 := wd (min (k + 1) 128)
def nY (k : ℕ) : BitVec 32 := wd (k - 1)
/-- The grid's two indices. -/
def gE (k : ℕ) : BitVec 32 := wd (k / 8 % 16)
def gB (k : ℕ) : BitVec 32 := wd (k % 8)

/-- All eighteen, as the loop carries them. -/
abbrev wordsAt (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  (nC k, nW k, cE k, cI k, nC k, nW k, cE k, cI k, nC k, nW k, cE k, cI k, nX k, wd k, wd k, nY k, gE k, gB k)

end Cert.Proof.Ffn
-- ==== Proof.Rings.lean ====
/-
  One slot of a double buffer fed from HBM: idle, in flight with a block, landed with it; and the two steps that
  move it between these, starting the copy and waiting for it. Every slot keeps a share of the whole source array,
  lends its block's elements to the copy and gets them back at the wait.
-/
module

public import proofs.«01_k».proof.Proof.Names

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Slot

variable {s : Shape} {e : EltTy} {sp sp' : Space}
variable (c : Dev nD) (src : Memref sig .tc sp s e) (dst : Memref sig .tc sp' s e) (sm : DmaSems sig S_)
  (q : PosShare TreeShare) (XA : Buf (Elt F) (src.view.loc (c : Thread nD τ)))

/-- The slot's elements at some contents. -/
def Free (dst : Memref sig .tc sp' s e) : sProp 𝕄 :=
  iprop(∃ f : Buf (Elt F) (dst.view.loc (c : Thread nD τ)), dst.view.loc (c : Thread nD τ) ↦[dst.view.set]{fullShare} f)
/-- The slot's elements at contents that read as the vector `v`. -/
def Holds (dst : Memref sig .tc sp' s e) (v : s.Idx → Elt F e) : sProp 𝕄 :=
  iprop(∃ f : Buf (Elt F) (dst.view.loc (c : Thread nD τ)), ⌜dst.view.read (Elt F) f = v⌝ ∗ (dst.view.loc (c : Thread nD τ) ↦[dst.view.set]{fullShare} f))
/-- The semaphore at zero. -/
def Zero (sm : DmaSems sig S_) : sProp 𝕄 := semVal ((c : Thread nD τ), SemLoc.dma sm.sem) 0

/-- A copy in flight, to deliver the slot holding the block and the block's elements back; the array's other
    elements stay behind. -/
def Fly : sProp 𝕄 :=
  iprop(∃ f : Buf (Elt F) (dst.view.loc (c : Thread nD τ)), ⌜dst.view.read (Elt F) f = src.view.read (Elt F) XA⌝
    ∗ Transfers.Flight countersEmb (c : Thread nD τ) (SemLoc.dma sm.sem) () dst.view.dmaCredit
        iprop((dst.view.loc (c : Thread nD τ) ↦[dst.view.set]{fullShare} f) ∗ (src.view.loc (c : Thread nD τ) ↦[src.view.set]{q} XA))
    ∗ (src.view.loc (c : Thread nD τ) ↦[Finset.univ \ src.view.set]{q} XA))

theorem holds_some (v : s.Idx → Elt F e) : Holds (F := F) c dst v ⊢ Free (F := F) c dst := by
  unfold Holds Free
  iintro ⟨%f, -, H⟩; iexists f; iexact H

variable {α : Type} {K : α → sProp (MT nD τ sig Unit (Elt F) ℕ (UU nD τ) ℕ)} (bd : Option ℕ)

/-- Starting a copy from an idle slot. -/
theorem start {src' : Memref sig .tc sp s e} {dst' : Memref sig .tc sp' s e} {sem' : DmaSem sig}
    {hsrc : src'.view.WordExact} {hdst : dst'.view.WordExact} {hsem : DmaTarget.Typed (nD := nD) (p := (.tc : Proc τ)) sp (SemLoc.dma sem') (DmaTarget.here (p := (.tc : Proc τ)) dst')}
    {k : PUnit → Prog (TpuEff nD τ sig (Elt F) (Λ₀ F) .tc) α}
    (h1 : src' = src) (h2 : dst' = dst) (h3 : sem' = sm.sem) (hN : 0 < dst.view.dmaCredit) :
    iprop(Free (F := F) c dst ∗ Zero (F := F) c sm ∗ (src.view.loc (c : Thread nD τ) ↦{q} XA))
      ⊢ iprop((Fly c src dst sm q XA -∗ wp frame (wpE (defs₀ (F := F)) 𝒱₀ (c : Thread nD τ) bd) Set.univ (k ⟨⟩) K)
          -∗ wp frame (wpE (defs₀ (F := F)) 𝒱₀ (c : Thread nD τ) bd) Set.univ (.op (.enqueueDmaAs src' (.here dst') ReadAs.same (SemLoc.dma sem') hsrc hdst hsem) k) K) := by
  subst h1 h2 h3
  unfold Free Zero Fly
  iintro ⟨⟨%f, Hd⟩, Hz, Hs⟩ Hk
  ihave Hs' := (pointsTo_split_subset (Finset.subset_univ src'.view.set)).1 $$ Hs
  icases Hs' with ⟨Hs, Hrest⟩
  iapply (Transfers.wp_dmaLocal countersEmb 𝒱₀ (c : Thread nD τ) bd () dst'.view.dmaCredit rfl hN subset_rfl) $$ [Hs Hd Hz]
  · isplitl [Hs]; · iexact Hs
    isplitl [Hd] <;> iassumption
  iintro Hf
  iapply Hk
  iexists (dst'.view.write (Elt F) f (ReadAs.same.apply (src'.view.read (Elt F) XA)) Finset.univ)
  isplitr
  · ipureintro; exact View.read_write_univ _ _
  isplitl [Hf] <;> iassumption

/-- Waiting for it. -/
theorem await {s' s'' : Shape} {e' e'' : EltTy} {q1 q2 : Space} {sem' : DmaSem sig} {srcw : Memref sig .tc q1 s' e'} {dstw : Memref sig .tc q2 s'' e''}
    {hsrc : srcw.view.WordExact} {hdst : dstw.view.WordExact}
    {k : PUnit → Prog (TpuEff nD τ sig (Elt F) (Λ₀ F) .tc) α}
    (h3 : sem' = sm.sem) (hN : dstw.view.dmaCredit = dst.view.dmaCredit) :
    iprop(Fly c src dst sm q XA ∗ (∃ W, owes (c : Thread nD τ) 0 W))
      ⊢ iprop((iprop(Holds c dst (src.view.read (Elt F) XA) ∗ Zero (F := F) c sm ∗ (src.view.loc (c : Thread nD τ) ↦{q} XA) ∗ (∃ W, owes (c : Thread nD τ) 0 W))
              -∗ wp frame (wpE (defs₀ (F := F)) 𝒱₀ (c : Thread nD τ) bd) Set.univ (k ⟨⟩) K)
          -∗ wp frame (wpE (defs₀ (F := F)) 𝒱₀ (c : Thread nD τ) bd) Set.univ (.op (.waitDma2 sem' srcw dstw hsrc hdst) k) K) := by
  subst h3
  unfold Holds Zero Fly
  iintro ⟨⟨%f, %hf, Hf, Hrest⟩, ⟨%W, HO⟩⟩ Hk
  iapply (Transfers.wp_waitLocal countersEmb 𝒱₀ (c : Thread nD τ) bd () hN) $$ [Hf HO]
  · isplitl [Hf] <;> iassumption
  iintro ⟨⟨Hd, Hs⟩, Hv, HO⟩
  iapply Hk
  isplitl [Hd]
  · iexists f
    isplitr; · ipureintro; exact hf
    iexact Hd
  isplitl [Hv]; · iexact Hv
  isplitl [Hs Hrest]
  · iapply (pointsTo_split_subset (Finset.subset_univ src.view.set)).2
    isplitl [Hs] <;> iassumption
  iexists _; iexact HO

end Slot

end Cert.Proof.Ffn
-- ==== Proof.Whiles.lean ====
/-
  The three look-ahead loops of a trip, one per weight: each walks its cursor over the grid until it meets the next
  expert, starts that expert's copy into the other slot, and stops; or, past the last expert, stops at the grid's end.
-/
module

public import proofs.«01_k».proof.Proof.Rings

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ
local notation "W5" => BitVec 32 × BitVec 32 × BitVec 32 × BitVec 32 × BitVec 32

/-! ## The ring of a weight, over its slots' states -/

section Ring

variable (I : Fin 2 → sProp (MT nD τ sig Unit (Elt F) ℕ (UU nD τ) ℕ)) (Fl L : Fin 2 → Fin 16 → sProp (MT nD τ sig Unit (Elt F) ℕ (UU nD τ) ℕ))

/-- The next expert's slot before trip `k`'s look-ahead, and after it. -/
def look (k : ℕ) : sProp 𝕄 := if k % 8 = 0 ∨ 15 ≤ k / 8 then I (Ring.sl 2 (k / 8 + 1)) else Fl (Ring.sl 2 (k / 8 + 1)) (Fin.ofNat 16 (k / 8 + 1))
def look' (k : ℕ) : sProp 𝕄 := if 15 ≤ k / 8 then I (Ring.sl 2 (k / 8 + 1)) else Fl (Ring.sl 2 (k / 8 + 1)) (Fin.ofNat 16 (k / 8 + 1))
/-- The expert's slot before trip `k`'s wait, and after it. -/
def main (k : ℕ) : sProp 𝕄 := if k % 8 = 0 then Fl (Ring.sl 2 (k / 8)) (eOf k) else L (Ring.sl 2 (k / 8)) (eOf k)
def main' (k : ℕ) : sProp 𝕄 := L (Ring.sl 2 (k / 8)) (eOf k)
/-- The ring before trip `k`: past the last trip both slots are idle. -/
def ring (k : ℕ) : sProp 𝕄 := if k < 128 then iprop(main Fl L k ∗ look I Fl k) else iprop(I 0 ∗ I 1)

theorem ring_lt {k : ℕ} (h : k < 128) : ring I Fl L k = iprop(main Fl L k ∗ look I Fl k) := by unfold ring; rw [if_pos h]

/-- After a trip the ring is as before the next. -/
theorem ring_next (hLI : ∀ s e, L s e ⊢ I s) (k : ℕ) (hk : k < 128) :
    iprop(main' L k ∗ look' I Fl k) ⊢ ring I Fl L (k + 1) := by
  unfold ring main' look'
  by_cases h7 : k % 8 = 7
  · by_cases h15 : 15 ≤ k / 8
    · have hk' : k = 127 := by omega
      subst hk'
      rw [if_pos h15, if_neg (by decide)]
      have e1 : Ring.sl 2 (127 / 8) = 1 := Fin.ext (by rfl)
      have e0 : Ring.sl 2 (127 / 8 + 1) = 0 := Fin.ext (by rfl)
      rw [e1, e0]
      exact sep_comm.1.trans (sep_mono_right (hLI _ _))
    · have hd : (k + 1) / 8 = k / 8 + 1 := by omega
      rw [if_neg h15, if_pos (by omega : k + 1 < 128)]
      unfold main look eOf
      rw [if_pos (by omega : (k + 1) % 8 = 0), if_pos (Or.inl (by omega : (k + 1) % 8 = 0)), hd, Ring.sl_add]
      exact sep_comm.1.trans (sep_mono_right (hLI _ _))
  · have hd : (k + 1) / 8 = k / 8 := by omega
    rw [if_pos (by omega : k + 1 < 128)]
    unfold main look eOf
    rw [if_neg (by omega : ¬(k + 1) % 8 = 0), hd]
    by_cases h15 : 15 ≤ k / 8
    · rw [if_pos h15, if_pos (Or.inr h15)]
    · rw [if_neg h15, if_neg (by omega)]

end Ring

/-! ## The words of a look-ahead -/

/-- Whether the look-ahead goes on. -/
abbrev goOn (lim a26 a27 a28 : BitVec 32) : BitVec 1 :=
  Scalar.andi (Scalar.andi 1#1 (Scalar.cmpi .ult a28 lim)) (Scalar.andi (Scalar.andi 1#1 (Scalar.cmpi .slt a26 16#32)) (Scalar.cmpi .slt a27 8#32))
/-- The cursor after `(e, j)`. -/
abbrev sE (e : Fin 16) (j : Fin 8) : BitVec 32 := wd (if j.val = 7 then e.val + 1 else e.val)
abbrev sI (j : Fin 8) : BitVec 32 := wd (if j.val = 7 then 0 else j.val + 1)
abbrev aI (a27 : BitVec 32) : BitVec 32 := Scalar.select (Scalar.cmpi .eq (Scalar.select 1#1 (Scalar.addi a27 1#32) a27) 8#32) 0#32 (Scalar.select 1#1 (Scalar.addi a27 1#32) a27)
abbrev aE (a26 a27 : BitVec 32) : BitVec 32 := Scalar.select 0#1 0#32 (Scalar.select (Scalar.cmpi .eq (Scalar.select 1#1 (Scalar.addi a27 1#32) a27) 8#32) (Scalar.addi a26 1#32) a26)
abbrev aC (a24 a26 a28 : BitVec 32) : BitVec 32 := Scalar.addi a28 (Scalar.extui (Scalar.cmpi .ne (Scalar.addi a24 0#32) (Scalar.addi a26 0#32)))
/-- What a look-ahead of trip `k` returns. -/
abbrev lookOut (k : ℕ) : W5 := (cE' k, cI' k, dE' k, dI' k, nC' k)

theorem go_mid (e : Fin 16) (j : Fin 8) (hj : j.val < 7) : goOn (wd (e.val + 2)) (sE e j) (sI j) (wd (e.val + 1)) = 1#1 := by revert e j; decide +kernel
theorem go_last (e : Fin 16) (he : e.val < 15) : goOn (wd (e.val + 2)) (wd (e.val + 1)) 0#32 (wd (e.val + 1)) = 1#1 := by revert e; decide +kernel
theorem stop_lim (e : Fin 16) (he : e.val < 15) : ¬goOn (wd (e.val + 2)) (wd (e.val + 1)) 1#32 (wd (e.val + 2)) = 1#1 := by revert e; decide +kernel
theorem stop_end : ¬goOn 17#32 16#32 0#32 16#32 = 1#1 := by decide +kernel

theorem step_mid (e : Fin 16) (j : Fin 8) (hj : j.val < 7) :
    sE e j = wd e.val ∧ sI j = wd (j.val + 1) ∧ aE (sE e j) (sI j) = sE e (Fin.ofNat 8 (j.val + 1)) ∧ aI (sI j) = sI (Fin.ofNat 8 (j.val + 1)) ∧ aC (wd e.val) (sE e j) (wd (e.val + 1)) = wd (e.val + 1) := by
  revert e j; decide +kernel
theorem step_last (e : Fin 16) (he : e.val < 15) :
    aE (wd (e.val + 1)) 0#32 = wd (e.val + 1) ∧ aI 0#32 = 1#32 ∧ aC (wd e.val) (wd (e.val + 1)) (wd (e.val + 1)) = wd (e.val + 2) := by
  revert e; decide +kernel

section Walk

variable (c : Dev nD) (I : Fin 2 → sProp (MT nD τ sig Unit (Elt F) ℕ (UU nD τ) ℕ)) (Fl : Fin 2 → Fin 16 → sProp (MT nD τ sig Unit (Elt F) ℕ (UU nD τ) ℕ))
variable (W : TT → BitVec 32 → BitVec 32 → BitVec 32 → BitVec 32 → BitVec 32 → BitVec 32 → Prog (TpuEff nD τ sig (Elt F) (Λ₀ F) .tc) (BitVec 32 × BitVec 32 × BitVec 32 × BitVec 32 × BitVec 32))

/-- What a look-ahead's function does at its three kinds of entry: it stops; it moves its cursor within an expert; it
    moves it to the next expert, whose copy it starts. -/
structure Walks : Prop where
  stop : ∀ (k : TT) {lim a24 a25 a26 a27 a28 : BitVec 32}, ¬goOn lim a26 a27 a28 = 1#1 → ∀ (bd : Option ℕ) (K : W5 → sProp 𝕄),
    K (a24, a25, a26, a27, a28) ⊢ wp frame (wpE (defs₀ (F := F)) 𝒱₀ (c : Thread nD τ) bd) Set.univ (W k lim a24 a25 a26 a27 a28) K
  skip : ∀ (k : TT) (n : ℕ) (e : Fin 16) (j : Fin 8), j.val < 7 → ∀ (P : sProp 𝕄) (K : W5 → sProp 𝕄),
    (P ⊢ wp frame (wpE (defs₀ (F := F)) 𝒱₀ (c : Thread nD τ) (some n)) Set.univ
      (W k (wd (e.val + 2)) (sE e j) (sI j) (aE (sE e j) (sI j)) (aI (sI j)) (aC (wd e.val) (sE e j) (wd (e.val + 1)))) K) →
    P ⊢ wp frame (wpE (defs₀ (F := F)) 𝒱₀ (c : Thread nD τ) (some (n + 1))) Set.univ (W k (wd (e.val + 2)) (wd e.val) (wd j.val) (sE e j) (sI j) (wd (e.val + 1))) K
  start : ∀ (k : TT) (n : ℕ) (e : Fin 16), e.val < 15 → ∀ (P : sProp 𝕄) (K : W5 → sProp 𝕄),
    (iprop(Fl (Ring.sl 2 (e.val + 1)) (Fin.ofNat 16 (e.val + 1)) ∗ P) ⊢ wp frame (wpE (defs₀ (F := F)) 𝒱₀ (c : Thread nD τ) (some n)) Set.univ
      (W k (wd (e.val + 2)) (wd (e.val + 1)) 0#32 (aE (wd (e.val + 1)) 0#32) (aI 0#32) (aC (wd e.val) (wd (e.val + 1)) (wd (e.val + 1)))) K) →
    iprop(I (Ring.sl 2 (e.val + 1)) ∗ P) ⊢ wp frame (wpE (defs₀ (F := F)) 𝒱₀ (c : Thread nD τ) (some (n + 1))) Set.univ
      (W k (wd (e.val + 2)) (wd e.val) 7#32 (wd (e.val + 1)) 0#32 (wd (e.val + 1))) K

variable {c I Fl W}

/-- The walk from `(e, j)`. -/
theorem Walks.walk (h : Walks c I Fl W) (k : TT) (e : Fin 16) (he : k.val / 8 = e.val) (K : W5 → sProp 𝕄) (n : ℕ) : ∀ j : Fin 8, j.val + n = 7 →
    iprop(I (Ring.sl 2 (e.val + 1)) ∗ (look' I Fl k.val -∗ K (lookOut k.val)))
      ⊢ wp frame (wpE (defs₀ (F := F)) 𝒱₀ (c : Thread nD τ) (some (n + 1))) Set.univ (W k (wd (e.val + 2)) (wd e.val) (wd j.val) (sE e j) (sI j) (wd (e.val + 1))) K := by
  induction n with
  | zero =>
    intro j hj
    have hj7 : j = 7 := Fin.ext (by simpa using hj)
    subst hj7
    unfold look' lookOut cE' cI' dE' dI' nC'
    rw [he]
    by_cases h15 : e.val < 15
    · have h15' : ¬15 ≤ e.val := by omega
      have hm : min (e.val + 2) 16 = e.val + 2 := by omega
      simp only [h15, h15', ↓reduceIte, hm]
      refine h.start k 0 e h15 _ K ?_
      obtain ⟨e1, e2, e3⟩ := step_last e h15
      rw [e1, e2, e3]
      refine BIBase.Entails.trans ?_ (h.stop k (stop_lim e h15) _ K)
      exact wand_elim_right
    · have e15 : e = 15 := Fin.ext (by show e.val = 15; omega)
      subst e15
      refine BIBase.Entails.trans ?_ (h.stop k (lim := wd 17) (a26 := 16#32) (a27 := 0#32) (a28 := 16#32) stop_end _ K)
      exact wand_elim_right
  | succ n ih =>
    intro j hj
    have hj7 : j.val < 7 := by omega
    refine h.skip k (n + 1) e j hj7 _ K ?_
    obtain ⟨e1, e2, e3, e4, e5⟩ := step_mid e j hj7
    have hv : (Fin.ofNat 8 (j.val + 1)).val = j.val + 1 := by show (j.val + 1) % 8 = _; omega
    rw [e3, e4, e5]
    have := ih (Fin.ofNat 8 (j.val + 1)) (by rw [hv]; omega)
    rw [hv] at this
    rw [e1, e2]; exact this

/-- The cursor's successor, as the trip computes it before the look-ahead. -/
def dE (k : ℕ) : BitVec 32 := wd (if k % 8 = 0 then k / 8 else if k / 8 < 15 then k / 8 + 1 else 16)
def dI (k : ℕ) : BitVec 32 := wd (if k % 8 = 0 then 1 else if k / 8 < 15 then 1 else 0)

/-- A trip's look-ahead, whole. -/
theorem Walks.all (h : Walks c I Fl W) (k : TT) (K : W5 → sProp 𝕄) :
    iprop(look I Fl k.val ∗ (look' I Fl k.val -∗ K (lookOut k.val)))
      ⊢ wp frame (wpE (defs₀ (F := F)) 𝒱₀ (c : Thread nD τ) (some 8)) Set.univ (W k (wd (k.val / 8 + 2)) (cE k.val) (cI k.val) (dE k.val) (dI k.val) (nC k.val)) K := by
  have hk : k.val < 128 := Nat.lt_of_lt_of_eq k.isLt trips_eq
  have he : (eOf k.val).val = k.val / 8 := by show k.val / 8 % 16 = _; omega
  by_cases h0 : k.val % 8 = 0
  · have hw := h.walk k (eOf k.val) he.symm K 7 0 rfl
    have hm : min (k.val / 8 + 1) 16 = k.val / 8 + 1 := by omega
    unfold look cE cI dE dI nC
    simp only [h0, hk, and_self, true_or, ↓reduceIte, hm]
    rw [he] at hw
    have h16 : k.val / 8 % 16 = k.val / 8 := by omega
    simpa [sE, sI, he, h16] using hw
  · unfold look look' lookOut cE cI dE dI nC cE' cI' dE' dI' nC'
    by_cases h15 : k.val / 8 < 15
    · have h15' : ¬15 ≤ k.val / 8 := by omega
      have hm : min (k.val / 8 + 2) 16 = k.val / 8 + 2 := by omega
      simp only [h0, h15, h15', _root_.false_and, _root_.or_self, ↓reduceIte, hm]
      refine BIBase.Entails.trans ?_ (h.stop k (by have := stop_lim (eOf k.val) (by omega); rw [he] at this; exact this) _ K)
      exact wand_elim_right
    · have h15' : k.val / 8 = 15 := by omega
      simp only [h0, h15', _root_.false_and, _root_.or_true, ↓reduceIte, Nat.lt_irrefl, le_refl]
      refine BIBase.Entails.trans ?_ (h.stop k (lim := wd 17) (a26 := 16#32) (a27 := 0#32) (a28 := 16#32) stop_end _ K)
      exact wand_elim_right

end Walk

theorem chkA (e : Fin 16) (j : Fin 8) (hj : j.val < 7) : k0_chk2 (wd e.val) (sE e j) ∧ k0_chk1 (wd e.val) (sE e j) (wd (e.val + 1)) ∧ ¬k0_cond1 (wd e.val) (sE e j) = 1#1 := by
  revert e j; decide +kernel
theorem chkA' (e : Fin 16) (he : e.val < 15) : k0_chk2 (wd e.val) (wd (e.val + 1)) ∧ k0_chk1 (wd e.val) (wd (e.val + 1)) (wd (e.val + 1)) ∧ k0_cond1 (wd e.val) (wd (e.val + 1)) = 1#1
    ∧ k0_off7 (wd (e.val + 1)) = smOff (Ring.sl 2 (e.val + 1)) ∧ k0_off8 (wd (e.val + 1)) = slOff (Ring.sl 2 (e.val + 1)) ∧ k0_off9 (wd (e.val + 1)) = wOff (Fin.ofNat 16 (e.val + 1)) := by
  revert e; decide +kernel
theorem chkB (e : Fin 16) (j : Fin 8) (hj : j.val < 7) : k0_chk4 (wd e.val) (sE e j) ∧ k0_chk3 (wd e.val) (sE e j) (wd (e.val + 1)) ∧ ¬k0_cond2 (wd e.val) (sE e j) = 1#1 := by
  revert e j; decide +kernel
theorem chkB' (e : Fin 16) (he : e.val < 15) : k0_chk4 (wd e.val) (wd (e.val + 1)) ∧ k0_chk3 (wd e.val) (wd (e.val + 1)) (wd (e.val + 1)) ∧ k0_cond2 (wd e.val) (wd (e.val + 1)) = 1#1
    ∧ k0_off10 (wd (e.val + 1)) = smOff (Ring.sl 2 (e.val + 1)) ∧ k0_off11 (wd (e.val + 1)) = slOff (Ring.sl 2 (e.val + 1)) ∧ k0_off12 (wd (e.val + 1)) = wOff (Fin.ofNat 16 (e.val + 1)) := by
  revert e; decide +kernel
theorem chkC (e : Fin 16) (j : Fin 8) (hj : j.val < 7) : k0_chk6 (wd e.val) (sE e j) ∧ k0_chk5 (wd e.val) (sE e j) (wd (e.val + 1)) ∧ ¬k0_cond3 (wd e.val) (sE e j) = 1#1 := by
  revert e j; decide +kernel
theorem chkC' (e : Fin 16) (he : e.val < 15) : k0_chk6 (wd e.val) (wd (e.val + 1)) ∧ k0_chk5 (wd e.val) (wd (e.val + 1)) (wd (e.val + 1)) ∧ k0_cond3 (wd e.val) (wd (e.val + 1)) = 1#1
    ∧ k0_off13 (wd (e.val + 1)) = smOff (Ring.sl 2 (e.val + 1)) ∧ k0_off14 (wd (e.val + 1)) = slOff (Ring.sl 2 (e.val + 1)) ∧ k0_off15 (wd (e.val + 1)) = wOff (Fin.ofNat 16 (e.val + 1)) := by
  revert e; decide +kernel

/-- Which half of a source array a slot keeps. -/
def sh (s : Fin 2) : PosShare TreeShare := if s.val = 0 then fullShare.left else fullShare.right

section Loops

variable (c : Dev nD)

/-! ### The first weight's look-ahead -/

section
variable (X : Buf (Elt F) (w1M.view.loc (c : Thread nD τ)))

/-- A slot of this weight's buffer: idle, in flight with an expert's block, holding it. -/
def I1 (s : Fin 2) : sProp 𝕄 := iprop(Free (F := F) c (w1s s) ∗ Zero (F := F) c (w1c s) ∗ (w1M.view.loc (c : Thread nD τ) ↦{sh s} X))
def F1 (s : Fin 2) (e : Fin 16) : sProp 𝕄 := Fly c (w1b e) (w1s s) (w1c s) (sh s) X
def L1 (s : Fin 2) (e : Fin 16) : sProp 𝕄 :=
  iprop(Holds c (w1s s) ((w1b e).view.read (Elt F) X) ∗ Zero (F := F) c (w1c s) ∗ (w1M.view.loc (c : Thread nD τ) ↦{sh s} X))
theorem L1_I1 (s : Fin 2) (e : Fin 16) : L1 c X s e ⊢ I1 c X s := by unfold L1 I1; exact sep_mono_left (holds_some c _ _)

theorem credit1 (s : Fin 2) : 0 < (w1s s).view.dmaCredit := by revert s; decide +kernel

theorem start1 (bd : Option ℕ) {α : Type} {K : α → sProp (MT nD τ sig Unit (Elt F) ℕ (UU nD τ) ℕ)} {src' : Memref sig .tc .hbm S1024x2048 .f32}
    {dst' : Memref sig .tc .vmem S1024x2048 .f32} {sem' : DmaSem sig} {hsrc : src'.view.WordExact} {hdst : dst'.view.WordExact}
    {hsem : DmaTarget.Typed (nD := nD) (p := (.tc : Proc τ)) .hbm (SemLoc.dma sem') (DmaTarget.here (p := (.tc : Proc τ)) dst')}
    {k : PUnit → Prog (TpuEff nD τ sig (Elt F) (Λ₀ F) .tc) α} (s : Fin 2) (e : Fin 16)
    (h1 : src' = w1b e) (h2 : dst' = w1s s) (h3 : sem' = (w1c s).sem) :
    I1 c X s ⊢ iprop((F1 c X s e -∗ wp frame (wpE (defs₀ (F := F)) 𝒱₀ (c : Thread nD τ) bd) Set.univ (k ⟨⟩) K)
          -∗ wp frame (wpE (defs₀ (F := F)) 𝒱₀ (c : Thread nD τ) bd) Set.univ (.op (.enqueueDmaAs src' (.here dst') ReadAs.same (SemLoc.dma sem') hsrc hdst hsem) k) K) :=
  start c (w1b e) (w1s s) (w1c s) (sh s) X bd h1 h2 h3 (credit1 s)

theorem await1 (bd : Option ℕ) {α : Type} {K : α → sProp (MT nD τ sig Unit (Elt F) ℕ (UU nD τ) ℕ)} {s' s'' : Shape} {e' e'' : EltTy} {q1 q2 : Space} {sem' : DmaSem sig}
    {srcw : Memref sig .tc q1 s' e'} {dstw : Memref sig .tc q2 s'' e''} {hsrc : srcw.view.WordExact} {hdst : dstw.view.WordExact}
    {k : PUnit → Prog (TpuEff nD τ sig (Elt F) (Λ₀ F) .tc) α} (s : Fin 2) (e : Fin 16)
    (h3 : sem' = (w1c s).sem) (hN : dstw.view.dmaCredit = (w1s s).view.dmaCredit) :
    iprop(F1 c X s e ∗ (∃ W, owes (c : Thread nD τ) 0 W))
      ⊢ iprop((iprop(L1 c X s e ∗ (∃ W, owes (c : Thread nD τ) 0 W)) -∗ wp frame (wpE (defs₀ (F := F)) 𝒱₀ (c : Thread nD τ) bd) Set.univ (k ⟨⟩) K)
          -∗ wp frame (wpE (defs₀ (F := F)) 𝒱₀ (c : Thread nD τ) bd) Set.univ (.op (.waitDma2 sem' srcw dstw hsrc hdst) k) K) := by
  unfold F1 L1
  iintro H Hk
  iapply (await c (w1b e) (w1s s) (w1c s) (sh s) X bd (k := k) (srcw := srcw) (hsrc := hsrc) (hdst := hdst) h3 hN) $$ H
  iintro ⟨Ha, Hb, Hc, Hd⟩
  iapply Hk
  isplitr [Hd]
  · isplitl [Ha]; · iexact Ha
    isplitl [Hb]; · iexact Hb
    iexact Hc
  iexact Hd

/-- The look-ahead of this weight, its operands in place. -/
def W1 (k : TT) (lim a24 a25 a26 a27 a28 : BitVec 32) : Prog (TpuEff nD τ sig (Elt F) (Λ₀ F) .tc) W5 :=
  cc0_while1 (F := F) k lim cc0_scoped1 w1B (Memref.isWhole_whole _) w1M (Memref.isWhole_whole _) a24 a25 a26 a27 a28

theorem walks1 : Walks c (I1 c X) (F1 c X) (W1 (F := F)) where
  stop k lim a24 a25 a26 a27 a28 h bd K := by
    unfold W1
    simp only [cc0_while1_eq_skeleton]; unfold cc0_while1_skel
    simp only [h, ↓reduceIte, Prog.pure_eq_ret]
    iintro H; rw [wp_ret]; imodintro; iexact H
  skip k n e j hj P K hn := by
    unfold W1 at hn ⊢
    simp only [cc0_while1_eq_skeleton]; unfold cc0_while1_skel
    have h := go_mid e j hj
    obtain ⟨hc2, hc1, hc⟩ := chkA e j hj
    simp only [h, hc, ↓reduceIte, ↓reduceDIte, Prog.lift, Prog.bind_op, Prog.bind_ret, Prog.pure_eq_ret]
    iintro H
    iapply (wp_assume 𝒱₀ (c : Thread nD τ) (some (n + 1)) Set.univ hc2)
    iapply (wp_assume 𝒱₀ (c : Thread nD τ) (some (n + 1)) Set.univ hc1)
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H]
    · iapply hn; iexact H
    iintro %r H
    rw [wp_ret]; imodintro; iexact H
  start k n e he P K hn := by
    unfold W1 at hn ⊢
    simp only [cc0_while1_eq_skeleton]; unfold cc0_while1_skel
    have h := go_last e he
    obtain ⟨hc2, hc1, hc, o7, o8, o9⟩ := chkA' e he
    simp only [h, hc, ↓reduceIte, ↓reduceDIte, Prog.lift, Prog.bind_op, Prog.bind_ret, Prog.pure_eq_ret]
    iintro ⟨H, HP⟩
    iapply (wp_assume 𝒱₀ (c : Thread nD τ) (some (n + 1)) Set.univ hc2)
    iapply (wp_assume 𝒱₀ (c : Thread nD τ) (some (n + 1)) Set.univ hc1)
    iapply (start1 c X (some (n + 1)) _ _ (w1b_congr o9 _ _) (w1s_congr o8 _ _) (congrArg SemArray.sem (sem_congr o7 _))) $$ H
    iintro H
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H HP]
    · iapply hn
      isplitl [H] <;> iassumption
    iintro %r H
    rw [wp_ret]; imodintro; iexact H

/-- The call of the look-ahead in trip `k`. -/
theorem call1 (k : TT) {α : Type} {K : α → sProp (MT nD τ sig Unit (Elt F) ℕ (UU nD τ) ℕ)} {κ : W5 → Prog (TpuEff nD τ sig (Elt F) (Λ₀ F) .tc) α} {lim a26 a27 : BitVec 32}
    (hl : lim = wd (k.val / 8 + 2)) (hE : a26 = dE k.val) (hI : a27 = dI k.val) :
    look (I1 c X) (F1 c X) k.val ⊢ iprop((look' (I1 c X) (F1 c X) k.val -∗ wp frame (wpE (defs₀ (F := F)) 𝒱₀ (c : Thread nD τ) none) Set.univ (κ (lookOut k.val)) K)
      -∗ wp frame (wpE (defs₀ (F := F)) 𝒱₀ (c : Thread nD τ) none) Set.univ
          (.op (.call (1 : (Λ₀ F).Label) ⟨k, lim, cc0_scoped1, w1B, Memref.isWhole_whole _, w1M, Memref.isWhole_whole _, cE k.val, cI k.val, a26, a27, nC k.val⟩) κ) K) := by
  subst hl hE hI
  iintro H Hk
  iapply (wp_call 𝒱₀ (c : Thread nD τ) none Set.univ 8 (fun u hu => nomatch hu))
  iapply ((walks1 c X).all k _)
  isplitl [H]; · iexact H
  iexact Hk

end

/-! ### The gate weight's look-ahead -/

section
variable (X : Buf (Elt F) (w3M.view.loc (c : Thread nD τ)))

/-- A slot of this weight's buffer: idle, in flight with an expert's block, holding it. -/
def I3 (s : Fin 2) : sProp 𝕄 := iprop(Free (F := F) c (w3s s) ∗ Zero (F := F) c (w3c s) ∗ (w3M.view.loc (c : Thread nD τ) ↦{sh s} X))
def F3 (s : Fin 2) (e : Fin 16) : sProp 𝕄 := Fly c (w3b e) (w3s s) (w3c s) (sh s) X
def L3 (s : Fin 2) (e : Fin 16) : sProp 𝕄 :=
  iprop(Holds c (w3s s) ((w3b e).view.read (Elt F) X) ∗ Zero (F := F) c (w3c s) ∗ (w3M.view.loc (c : Thread nD τ) ↦{sh s} X))
theorem L3_I3 (s : Fin 2) (e : Fin 16) : L3 c X s e ⊢ I3 c X s := by unfold L3 I3; exact sep_mono_left (holds_some c _ _)

theorem credit3 (s : Fin 2) : 0 < (w3s s).view.dmaCredit := by revert s; decide +kernel

theorem start3 (bd : Option ℕ) {α : Type} {K : α → sProp (MT nD τ sig Unit (Elt F) ℕ (UU nD τ) ℕ)} {src' : Memref sig .tc .hbm S1024x2048 .f32}
    {dst' : Memref sig .tc .vmem S1024x2048 .f32} {sem' : DmaSem sig} {hsrc : src'.view.WordExact} {hdst : dst'.view.WordExact}
    {hsem : DmaTarget.Typed (nD := nD) (p := (.tc : Proc τ)) .hbm (SemLoc.dma sem') (DmaTarget.here (p := (.tc : Proc τ)) dst')}
    {k : PUnit → Prog (TpuEff nD τ sig (Elt F) (Λ₀ F) .tc) α} (s : Fin 2) (e : Fin 16)
    (h1 : src' = w3b e) (h2 : dst' = w3s s) (h3 : sem' = (w3c s).sem) :
    I3 c X s ⊢ iprop((F3 c X s e -∗ wp frame (wpE (defs₀ (F := F)) 𝒱₀ (c : Thread nD τ) bd) Set.univ (k ⟨⟩) K)
          -∗ wp frame (wpE (defs₀ (F := F)) 𝒱₀ (c : Thread nD τ) bd) Set.univ (.op (.enqueueDmaAs src' (.here dst') ReadAs.same (SemLoc.dma sem') hsrc hdst hsem) k) K) :=
  start c (w3b e) (w3s s) (w3c s) (sh s) X bd h1 h2 h3 (credit3 s)

theorem await3 (bd : Option ℕ) {α : Type} {K : α → sProp (MT nD τ sig Unit (Elt F) ℕ (UU nD τ) ℕ)} {s' s'' : Shape} {e' e'' : EltTy} {q1 q2 : Space} {sem' : DmaSem sig}
    {srcw : Memref sig .tc q1 s' e'} {dstw : Memref sig .tc q2 s'' e''} {hsrc : srcw.view.WordExact} {hdst : dstw.view.WordExact}
    {k : PUnit → Prog (TpuEff nD τ sig (Elt F) (Λ₀ F) .tc) α} (s : Fin 2) (e : Fin 16)
    (h3 : sem' = (w3c s).sem) (hN : dstw.view.dmaCredit = (w3s s).view.dmaCredit) :
    iprop(F3 c X s e ∗ (∃ W, owes (c : Thread nD τ) 0 W))
      ⊢ iprop((iprop(L3 c X s e ∗ (∃ W, owes (c : Thread nD τ) 0 W)) -∗ wp frame (wpE (defs₀ (F := F)) 𝒱₀ (c : Thread nD τ) bd) Set.univ (k ⟨⟩) K)
          -∗ wp frame (wpE (defs₀ (F := F)) 𝒱₀ (c : Thread nD τ) bd) Set.univ (.op (.waitDma2 sem' srcw dstw hsrc hdst) k) K) := by
  unfold F3 L3
  iintro H Hk
  iapply (await c (w3b e) (w3s s) (w3c s) (sh s) X bd (k := k) (srcw := srcw) (hsrc := hsrc) (hdst := hdst) h3 hN) $$ H
  iintro ⟨Ha, Hb, Hc, Hd⟩
  iapply Hk
  isplitr [Hd]
  · isplitl [Ha]; · iexact Ha
    isplitl [Hb]; · iexact Hb
    iexact Hc
  iexact Hd

/-- The look-ahead of this weight, its operands in place. -/
def W3 (k : TT) (lim a24 a25 a26 a27 a28 : BitVec 32) : Prog (TpuEff nD τ sig (Elt F) (Λ₀ F) .tc) W5 :=
  cc0_while2 (F := F) k lim cc0_scoped3 w3B (Memref.isWhole_whole _) w3M (Memref.isWhole_whole _) a24 a25 a26 a27 a28

theorem walks3 : Walks c (I3 c X) (F3 c X) (W3 (F := F)) where
  stop k lim a24 a25 a26 a27 a28 h bd K := by
    unfold W3
    simp only [cc0_while2_eq_skeleton]; unfold cc0_while2_skel
    simp only [h, ↓reduceIte, Prog.pure_eq_ret]
    iintro H; rw [wp_ret]; imodintro; iexact H
  skip k n e j hj P K hn := by
    unfold W3 at hn ⊢
    simp only [cc0_while2_eq_skeleton]; unfold cc0_while2_skel
    have h := go_mid e j hj
    obtain ⟨hc2, hc1, hc⟩ := chkB e j hj
    simp only [h, hc, ↓reduceIte, ↓reduceDIte, Prog.lift, Prog.bind_op, Prog.bind_ret, Prog.pure_eq_ret]
    iintro H
    iapply (wp_assume 𝒱₀ (c : Thread nD τ) (some (n + 1)) Set.univ hc2)
    iapply (wp_assume 𝒱₀ (c : Thread nD τ) (some (n + 1)) Set.univ hc1)
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H]
    · iapply hn; iexact H
    iintro %r H
    rw [wp_ret]; imodintro; iexact H
  start k n e he P K hn := by
    unfold W3 at hn ⊢
    simp only [cc0_while2_eq_skeleton]; unfold cc0_while2_skel
    have h := go_last e he
    obtain ⟨hc2, hc1, hc, o7, o8, o9⟩ := chkB' e he
    simp only [h, hc, ↓reduceIte, ↓reduceDIte, Prog.lift, Prog.bind_op, Prog.bind_ret, Prog.pure_eq_ret]
    iintro ⟨H, HP⟩
    iapply (wp_assume 𝒱₀ (c : Thread nD τ) (some (n + 1)) Set.univ hc2)
    iapply (wp_assume 𝒱₀ (c : Thread nD τ) (some (n + 1)) Set.univ hc1)
    iapply (start3 c X (some (n + 1)) _ _ (w3b_congr o9 _ _) (w3s_congr o8 _ _) (congrArg SemArray.sem (sem_congr o7 _))) $$ H
    iintro H
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H HP]
    · iapply hn
      isplitl [H] <;> iassumption
    iintro %r H
    rw [wp_ret]; imodintro; iexact H

/-- The call of the look-ahead in trip `k`. -/
theorem call3 (k : TT) {α : Type} {K : α → sProp (MT nD τ sig Unit (Elt F) ℕ (UU nD τ) ℕ)} {κ : W5 → Prog (TpuEff nD τ sig (Elt F) (Λ₀ F) .tc) α} {lim a26 a27 : BitVec 32}
    (hl : lim = wd (k.val / 8 + 2)) (hE : a26 = dE k.val) (hI : a27 = dI k.val) :
    look (I3 c X) (F3 c X) k.val ⊢ iprop((look' (I3 c X) (F3 c X) k.val -∗ wp frame (wpE (defs₀ (F := F)) 𝒱₀ (c : Thread nD τ) none) Set.univ (κ (lookOut k.val)) K)
      -∗ wp frame (wpE (defs₀ (F := F)) 𝒱₀ (c : Thread nD τ) none) Set.univ
          (.op (.call (2 : (Λ₀ F).Label) ⟨k, lim, cc0_scoped3, w3B, Memref.isWhole_whole _, w3M, Memref.isWhole_whole _, cE k.val, cI k.val, a26, a27, nC k.val⟩) κ) K) := by
  subst hl hE hI
  iintro H Hk
  iapply (wp_call 𝒱₀ (c : Thread nD τ) none Set.univ 8 (fun u hu => nomatch hu))
  iapply ((walks3 c X).all k _)
  isplitl [H]; · iexact H
  iexact Hk

end

/-! ### The last weight's look-ahead -/

section
variable (X : Buf (Elt F) (w2M.view.loc (c : Thread nD τ)))

/-- A slot of this weight's buffer: idle, in flight with an expert's block, holding it. -/
def I2 (s : Fin 2) : sProp 𝕄 := iprop(Free (F := F) c (w2s s) ∗ Zero (F := F) c (w2c s) ∗ (w2M.view.loc (c : Thread nD τ) ↦{sh s} X))
def F2 (s : Fin 2) (e : Fin 16) : sProp 𝕄 := Fly c (w2b e) (w2s s) (w2c s) (sh s) X
def L2 (s : Fin 2) (e : Fin 16) : sProp 𝕄 :=
  iprop(Holds c (w2s s) ((w2b e).view.read (Elt F) X) ∗ Zero (F := F) c (w2c s) ∗ (w2M.view.loc (c : Thread nD τ) ↦{sh s} X))
theorem L2_I2 (s : Fin 2) (e : Fin 16) : L2 c X s e ⊢ I2 c X s := by unfold L2 I2; exact sep_mono_left (holds_some c _ _)

theorem credit2 (s : Fin 2) : 0 < (w2s s).view.dmaCredit := by revert s; decide +kernel

theorem start2 (bd : Option ℕ) {α : Type} {K : α → sProp (MT nD τ sig Unit (Elt F) ℕ (UU nD τ) ℕ)} {src' : Memref sig .tc .hbm S2048x1024 .f32}
    {dst' : Memref sig .tc .vmem S2048x1024 .f32} {sem' : DmaSem sig} {hsrc : src'.view.WordExact} {hdst : dst'.view.WordExact}
    {hsem : DmaTarget.Typed (nD := nD) (p := (.tc : Proc τ)) .hbm (SemLoc.dma sem') (DmaTarget.here (p := (.tc : Proc τ)) dst')}
    {k : PUnit → Prog (TpuEff nD τ sig (Elt F) (Λ₀ F) .tc) α} (s : Fin 2) (e : Fin 16)
    (h1 : src' = w2b e) (h2 : dst' = w2s s) (h3 : sem' = (w2c s).sem) :
    I2 c X s ⊢ iprop((F2 c X s e -∗ wp frame (wpE (defs₀ (F := F)) 𝒱₀ (c : Thread nD τ) bd) Set.univ (k ⟨⟩) K)
          -∗ wp frame (wpE (defs₀ (F := F)) 𝒱₀ (c : Thread nD τ) bd) Set.univ (.op (.enqueueDmaAs src' (.here dst') ReadAs.same (SemLoc.dma sem') hsrc hdst hsem) k) K) :=
  start c (w2b e) (w2s s) (w2c s) (sh s) X bd h1 h2 h3 (credit2 s)

theorem await2 (bd : Option ℕ) {α : Type} {K : α → sProp (MT nD τ sig Unit (Elt F) ℕ (UU nD τ) ℕ)} {s' s'' : Shape} {e' e'' : EltTy} {q1 q2 : Space} {sem' : DmaSem sig}
    {srcw : Memref sig .tc q1 s' e'} {dstw : Memref sig .tc q2 s'' e''} {hsrc : srcw.view.WordExact} {hdst : dstw.view.WordExact}
    {k : PUnit → Prog (TpuEff nD τ sig (Elt F) (Λ₀ F) .tc) α} (s : Fin 2) (e : Fin 16)
    (h3 : sem' = (w2c s).sem) (hN : dstw.view.dmaCredit = (w2s s).view.dmaCredit) :
    iprop(F2 c X s e ∗ (∃ W, owes (c : Thread nD τ) 0 W))
      ⊢ iprop((iprop(L2 c X s e ∗ (∃ W, owes (c : Thread nD τ) 0 W)) -∗ wp frame (wpE (defs₀ (F := F)) 𝒱₀ (c : Thread nD τ) bd) Set.univ (k ⟨⟩) K)
          -∗ wp frame (wpE (defs₀ (F := F)) 𝒱₀ (c : Thread nD τ) bd) Set.univ (.op (.waitDma2 sem' srcw dstw hsrc hdst) k) K) := by
  unfold F2 L2
  iintro H Hk
  iapply (await c (w2b e) (w2s s) (w2c s) (sh s) X bd (k := k) (srcw := srcw) (hsrc := hsrc) (hdst := hdst) h3 hN) $$ H
  iintro ⟨Ha, Hb, Hc, Hd⟩
  iapply Hk
  isplitr [Hd]
  · isplitl [Ha]; · iexact Ha
    isplitl [Hb]; · iexact Hb
    iexact Hc
  iexact Hd

/-- The look-ahead of this weight, its operands in place. -/
def W2 (k : TT) (lim a24 a25 a26 a27 a28 : BitVec 32) : Prog (TpuEff nD τ sig (Elt F) (Λ₀ F) .tc) W5 :=
  cc0_while3 (F := F) k lim cc0_scoped5 w2B (Memref.isWhole_whole _) w2M (Memref.isWhole_whole _) a24 a25 a26 a27 a28

theorem walks2 : Walks c (I2 c X) (F2 c X) (W2 (F := F)) where
  stop k lim a24 a25 a26 a27 a28 h bd K := by
    unfold W2
    simp only [cc0_while3_eq_skeleton]; unfold cc0_while3_skel
    simp only [h, ↓reduceIte, Prog.pure_eq_ret]
    iintro H; rw [wp_ret]; imodintro; iexact H
  skip k n e j hj P K hn := by
    unfold W2 at hn ⊢
    simp only [cc0_while3_eq_skeleton]; unfold cc0_while3_skel
    have h := go_mid e j hj
    obtain ⟨hc2, hc1, hc⟩ := chkC e j hj
    simp only [h, hc, ↓reduceIte, ↓reduceDIte, Prog.lift, Prog.bind_op, Prog.bind_ret, Prog.pure_eq_ret]
    iintro H
    iapply (wp_assume 𝒱₀ (c : Thread nD τ) (some (n + 1)) Set.univ hc2)
    iapply (wp_assume 𝒱₀ (c : Thread nD τ) (some (n + 1)) Set.univ hc1)
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H]
    · iapply hn; iexact H
    iintro %r H
    rw [wp_ret]; imodintro; iexact H
  start k n e he P K hn := by
    unfold W2 at hn ⊢
    simp only [cc0_while3_eq_skeleton]; unfold cc0_while3_skel
    have h := go_last e he
    obtain ⟨hc2, hc1, hc, o7, o8, o9⟩ := chkC' e he
    simp only [h, hc, ↓reduceIte, ↓reduceDIte, Prog.lift, Prog.bind_op, Prog.bind_ret, Prog.pure_eq_ret]
    iintro ⟨H, HP⟩
    iapply (wp_assume 𝒱₀ (c : Thread nD τ) (some (n + 1)) Set.univ hc2)
    iapply (wp_assume 𝒱₀ (c : Thread nD τ) (some (n + 1)) Set.univ hc1)
    iapply (start2 c X (some (n + 1)) _ _ (w2b_congr o9 _ _) (w2s_congr o8 _ _) (congrArg SemArray.sem (sem_congr o7 _))) $$ H
    iintro H
    iapply (wp_call 𝒱₀ (c : Thread nD τ) (some (n + 1)) Set.univ n (fun u hu => by cases hu; exact Nat.lt_succ_self n))
    iapply (wp_wand_r Idealize.ShloMosaic.frame (wpE (defs₀ (F := F)) 𝒱₀ (c : Thread nD τ) (some n)) Set.univ)
    isplitl [H HP]
    · iapply hn
      isplitl [H] <;> iassumption
    iintro %r H
    rw [wp_ret]; imodintro; iexact H

/-- The call of the look-ahead in trip `k`. -/
theorem call2 (k : TT) {α : Type} {K : α → sProp (MT nD τ sig Unit (Elt F) ℕ (UU nD τ) ℕ)} {κ : W5 → Prog (TpuEff nD τ sig (Elt F) (Λ₀ F) .tc) α} {lim a26 a27 : BitVec 32}
    (hl : lim = wd (k.val / 8 + 2)) (hE : a26 = dE k.val) (hI : a27 = dI k.val) :
    look (I2 c X) (F2 c X) k.val ⊢ iprop((look' (I2 c X) (F2 c X) k.val -∗ wp frame (wpE (defs₀ (F := F)) 𝒱₀ (c : Thread nD τ) none) Set.univ (κ (lookOut k.val)) K)
      -∗ wp frame (wpE (defs₀ (F := F)) 𝒱₀ (c : Thread nD τ) none) Set.univ
          (.op (.call (3 : (Λ₀ F).Label) ⟨k, lim, cc0_scoped5, w2B, Memref.isWhole_whole _, w2M, Memref.isWhole_whole _, cE k.val, cI k.val, a26, a27, nC k.val⟩) κ) K) := by
  subst hl hE hI
  iintro H Hk
  iapply (wp_call 𝒱₀ (c : Thread nD τ) none Set.univ 8 (fun u hu => nomatch hu))
  iapply ((walks2 c X).all k _)
  isplitl [H]; · iexact H
  iexact Hk

end

end Loops

end Cert.Proof.Ffn
-- ==== Proof.Tokens.lean ====
/-
  The tokens' ring and the result's: a token block is copied in one trip ahead, a block of the result is copied out
  during the trip after the one that computed it. And the loads and the store of the body, through whole buffers at a
  slot's rectangle.
-/
module

public import proofs.«01_k».proof.Proof.Whiles

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Loads and the store -/

section Slots

variable (c : Dev nD) {α : Type} {K : α → sProp (MT nD τ sig Unit (Elt F) ℕ (UU nD τ) ℕ)} (bd : Option ℕ)
variable {S s' : Shape} {e : EltTy} (M : Memref sig .tc .vmem S e)

/-- A load through the whole buffer at a slot's rectangle reads what the slot holds. -/
theorem load_slot (r : Rect S) (hr : ∀ a, r.stride a = 1) (hq : r.shape.Squeezes s') (hc : r.shape.ShapeCasts s') (v : s'.Idx → Elt F e)
    {hl : M.view.LoadsAt r.toLoadRect} {k : (r.shape.Idx → Elt F e) → Prog (TpuEff nD τ sig (Elt F) (Λ₀ F) .tc) α} :
    Holds c ((M.slice r hr).squeeze s' hq) v
      ⊢ iprop((∀ w : r.shape.Idx → Elt F e, ⌜shapeCast s' w hc = v⌝ -∗ Holds c ((M.slice r hr).squeeze s' hq) v
              -∗ wp frame (wpE (defs₀ (F := F)) 𝒱₀ (c : Thread nD τ) bd) Set.univ (k w) K)
          -∗ wp frame (wpE (defs₀ (F := F)) 𝒱₀ (c : Thread nD τ) bd) Set.univ (.op (.load M r.toLoadRect hl) k) K) := by
  unfold Holds
  iintro ⟨%f, %hf, H⟩ Hk
  iapply (wp_load_rect 𝒱₀ (c : Thread nD τ) bd Set.univ (m := M) (r := r) (hl := hl) (f := f) (S := ((M.slice r hr).squeeze s' hq).view.set) (View.set_reshape _ _).ge) $$ H
  iintro H
  iapply Hk
  · ipureintro; exact hf
  iexists f
  isplitr; · ipureintro; exact hf
  iexact H

/-- The same with the slot at any contents. -/
theorem load_any (r : Rect S) (hr : ∀ a, r.stride a = 1) (hq : r.shape.Squeezes s')
    {hl : M.view.LoadsAt r.toLoadRect} {k : (r.shape.Idx → Elt F e) → Prog (TpuEff nD τ sig (Elt F) (Λ₀ F) .tc) α} :
    Free (F := F) c ((M.slice r hr).squeeze s' hq)
      ⊢ iprop((∀ w : r.shape.Idx → Elt F e, Free (F := F) c ((M.slice r hr).squeeze s' hq)
              -∗ wp frame (wpE (defs₀ (F := F)) 𝒱₀ (c : Thread nD τ) bd) Set.univ (k w) K)
          -∗ wp frame (wpE (defs₀ (F := F)) 𝒱₀ (c : Thread nD τ) bd) Set.univ (.op (.load M r.toLoadRect hl) k) K) := by
  unfold Free
  iintro ⟨%f, H⟩ Hk
  iapply (wp_load_rect 𝒱₀ (c : Thread nD τ) bd Set.univ (m := M) (r := r) (hl := hl) (f := f) (S := ((M.slice r hr).squeeze s' hq).view.set) (View.set_reshape _ _).ge) $$ H
  iintro H
  iapply Hk
  iexists f; iexact H

/-- An unmasked store there leaves the slot holding the vector stored. -/
theorem store_slot (r : Rect S) (hr : ∀ a, r.stride a = 1) (hq : r.shape.Squeezes s') (hc : r.shape.ShapeCasts s') (w : r.shape.Idx → Elt F e)
    {hx : (M.access r).Stores Finset.univ} {hm : (Finset.univ : Finset r.shape.Idx) = Finset.univ ∨ ∀ a, r.stride a = 1}
    {k : PUnit → Prog (TpuEff nD τ sig (Elt F) (Λ₀ F) .tc) α} :
    Free (F := F) c ((M.slice r hr).squeeze s' hq)
      ⊢ iprop((Holds c ((M.slice r hr).squeeze s' hq) (shapeCast s' w hc) -∗ wp frame (wpE (defs₀ (F := F)) 𝒱₀ (c : Thread nD τ) bd) Set.univ (k ⟨⟩) K)
          -∗ wp frame (wpE (defs₀ (F := F)) 𝒱₀ (c : Thread nD τ) bd) Set.univ (.op (.store M r w Finset.univ hx hm) k) K) := by
  unfold Holds Free
  iintro ⟨%f, H⟩ Hk
  iapply (wp_store 𝒱₀ (c : Thread nD τ) bd Set.univ (m := M) (r := r) (w := w) (Mk := Finset.univ) (hx := hx) (hm := hm) (f := f) (S := ((M.slice r hr).squeeze s' hq).view.set) (View.set_reshape _ _).ge) $$ H
  iintro H
  iapply Hk
  iexists (M.access r).write (Elt F) f w Finset.univ
  isplitr
  · ipureintro
    exact congrArg (fun x => shapeCast s' x hc) (View.read_write_univ (v := M.access r) f w)
  iexact H

end Slots

section Named

variable (c : Dev nD) {α : Type} {K : α → sProp (MT nD τ sig Unit (Elt F) ℕ (UU nD τ) ℕ)} (bd : Option ℕ) (s : Fin 2)

theorem load1 (v : S1024x2048.Idx → Elt F .f32) {off : Fin 3 → Nat} {hh} {hl : w1B.view.LoadsAt (Rect.unit (s := S2x1024x2048) off S1x1024x2048.size hh).toLoadRect}
    {k : (S1x1024x2048.Idx → Elt F .f32) → Prog (TpuEff nD τ sig (Elt F) (Λ₀ F) .tc) α} (hc : S1x1024x2048.ShapeCasts S1024x2048) (h : off = slOff s) :
    Holds c (w1s s) v
      ⊢ iprop((∀ w : S1x1024x2048.Idx → Elt F .f32, ⌜shapeCast S1024x2048 w hc = v⌝ -∗ Holds c (w1s s) v
              -∗ wp frame (wpE (defs₀ (F := F)) 𝒱₀ (c : Thread nD τ) bd) Set.univ (k w) K)
          -∗ wp frame (wpE (defs₀ (F := F)) 𝒱₀ (c : Thread nD τ) bd) Set.univ (.op (.load w1B (Rect.unit (s := S2x1024x2048) off S1x1024x2048.size hh).toLoadRect hl) k) K) := by
  subst h; exact load_slot c bd w1B _ (fun _ => rfl) squeezes_S1x1024x2048_S1024x2048 hc v
theorem load3 (v : S1024x2048.Idx → Elt F .f32) {off : Fin 3 → Nat} {hh} {hl : w3B.view.LoadsAt (Rect.unit (s := S2x1024x2048) off S1x1024x2048.size hh).toLoadRect}
    {k : (S1x1024x2048.Idx → Elt F .f32) → Prog (TpuEff nD τ sig (Elt F) (Λ₀ F) .tc) α} (hc : S1x1024x2048.ShapeCasts S1024x2048) (h : off = slOff s) :
    Holds c (w3s s) v
      ⊢ iprop((∀ w : S1x1024x2048.Idx → Elt F .f32, ⌜shapeCast S1024x2048 w hc = v⌝ -∗ Holds c (w3s s) v
              -∗ wp frame (wpE (defs₀ (F := F)) 𝒱₀ (c : Thread nD τ) bd) Set.univ (k w) K)
          -∗ wp frame (wpE (defs₀ (F := F)) 𝒱₀ (c : Thread nD τ) bd) Set.univ (.op (.load w3B (Rect.unit (s := S2x1024x2048) off S1x1024x2048.size hh).toLoadRect hl) k) K) := by
  subst h; exact load_slot c bd w3B _ (fun _ => rfl) squeezes_S1x1024x2048_S1024x2048 hc v
theorem load2 (v : S2048x1024.Idx → Elt F .f32) {off : Fin 3 → Nat} {hh} {hl : w2B.view.LoadsAt (Rect.unit (s := S2x2048x1024) off S1x2048x1024.size hh).toLoadRect}
    {k : (S1x2048x1024.Idx → Elt F .f32) → Prog (TpuEff nD τ sig (Elt F) (Λ₀ F) .tc) α} (hc : S1x2048x1024.ShapeCasts S2048x1024) (h : off = slOff s) :
    Holds c (w2s s) v
      ⊢ iprop((∀ w : S1x2048x1024.Idx → Elt F .f32, ⌜shapeCast S2048x1024 w hc = v⌝ -∗ Holds c (w2s s) v
              -∗ wp frame (wpE (defs₀ (F := F)) 𝒱₀ (c : Thread nD τ) bd) Set.univ (k w) K)
          -∗ wp frame (wpE (defs₀ (F := F)) 𝒱₀ (c : Thread nD τ) bd) Set.univ (.op (.load w2B (Rect.unit (s := S2x2048x1024) off S1x2048x1024.size hh).toLoadRect hl) k) K) := by
  subst h; exact load_slot c bd w2B _ (fun _ => rfl) squeezes_S1x2048x1024_S2048x1024 hc v
theorem loadX (v : S544x1024.Idx → Elt F .bf16) {off : Fin 3 → Nat} {hh} {hl : xsB.view.LoadsAt (Rect.unit (s := S2x544x1024) off S1x544x1024.size hh).toLoadRect}
    {k : (S1x544x1024.Idx → Elt F .bf16) → Prog (TpuEff nD τ sig (Elt F) (Λ₀ F) .tc) α} (hc : S1x544x1024.ShapeCasts S544x1024) (h : off = slOff s) :
    Holds c (xss s) v
      ⊢ iprop((∀ w : S1x544x1024.Idx → Elt F .bf16, ⌜shapeCast S544x1024 w hc = v⌝ -∗ Holds c (xss s) v
              -∗ wp frame (wpE (defs₀ (F := F)) 𝒱₀ (c : Thread nD τ) bd) Set.univ (k w) K)
          -∗ wp frame (wpE (defs₀ (F := F)) 𝒱₀ (c : Thread nD τ) bd) Set.univ (.op (.load xsB (Rect.unit (s := S2x544x1024) off S1x544x1024.size hh).toLoadRect hl) k) K) := by
  subst h; exact load_slot c bd xsB _ (fun _ => rfl) squeezes_S1x544x1024_S544x1024 hc v
/-- The result's slot is also loaded, before its store; what is read goes nowhere. -/
theorem loadY {off : Fin 3 → Nat} {hh} {hl : yB.view.LoadsAt (Rect.unit (s := S2x544x1024) off S1x544x1024.size hh).toLoadRect}
    {k : (S1x544x1024.Idx → Elt F .bf16) → Prog (TpuEff nD τ sig (Elt F) (Λ₀ F) .tc) α} (h : off = slOff s) :
    Free (F := F) c (ys s)
      ⊢ iprop((∀ w : S1x544x1024.Idx → Elt F .bf16, Free (F := F) c (ys s)
              -∗ wp frame (wpE (defs₀ (F := F)) 𝒱₀ (c : Thread nD τ) bd) Set.univ (k w) K)
          -∗ wp frame (wpE (defs₀ (F := F)) 𝒱₀ (c : Thread nD τ) bd) Set.univ (.op (.load yB (Rect.unit (s := S2x544x1024) off S1x544x1024.size hh).toLoadRect hl) k) K) := by
  subst h
  exact load_any c bd yB (Rect.unit (s := S2x544x1024) (slOff s) S1x544x1024.size hh) (fun _ => rfl) squeezes_S1x544x1024_S544x1024
theorem storeY (w : S1x544x1024.Idx → Elt F .bf16) {off : Fin 3 → Nat} {hh}
    {hx : (yB.access (Rect.unit (s := S2x544x1024) off S1x544x1024.size hh)).Stores Finset.univ} {hm}
    {k : PUnit → Prog (TpuEff nD τ sig (Elt F) (Λ₀ F) .tc) α} (hc : S1x544x1024.ShapeCasts S544x1024) (h : off = slOff s) :
    Free (F := F) c (ys s)
      ⊢ iprop((Holds c (ys s) (shapeCast S544x1024 w hc) -∗ wp frame (wpE (defs₀ (F := F)) 𝒱₀ (c : Thread nD τ) bd) Set.univ (k ⟨⟩) K)
          -∗ wp frame (wpE (defs₀ (F := F)) 𝒱₀ (c : Thread nD τ) bd) Set.univ (.op (.store yB (Rect.unit (s := S2x544x1024) off S1x544x1024.size hh) w Finset.univ hx hm) k) K) := by
  subst h; exact store_slot c bd yB (Rect.unit (s := S2x544x1024) (slOff s) S1x544x1024.size hh) (fun _ => rfl) squeezes_S1x544x1024_S544x1024 hc w

end Named

/-! ## The tokens' ring -/

section Tokens

variable (c : Dev nD) (X : Buf (Elt F) (xsM.view.loc (c : Thread nD τ)))

def IX (s : Fin 2) : sProp 𝕄 := iprop(Free (F := F) c (xss s) ∗ Zero (F := F) c (xsc s) ∗ (xsM.view.loc (c : Thread nD τ) ↦{sh s} X))
def FX (k : ℕ) : sProp 𝕄 := Fly c (xsb (eOf k) (bOf k)) (xss (Ring.sl 2 k)) (xsc (Ring.sl 2 k)) (sh (Ring.sl 2 k)) X
def LX (k : ℕ) : sProp 𝕄 :=
  iprop(Holds c (xss (Ring.sl 2 k)) ((xsb (eOf k) (bOf k)).view.read (Elt F) X) ∗ Zero (F := F) c (xsc (Ring.sl 2 k)) ∗ (xsM.view.loc (c : Thread nD τ) ↦{sh (Ring.sl 2 k)} X))
theorem LX_IX (k : ℕ) : LX c X k ⊢ IX c X (Ring.sl 2 k) := by unfold LX IX; exact sep_mono_left (holds_some c _ _)

theorem creditX (s : Fin 2) : 0 < (xss s).view.dmaCredit := by revert s; decide +kernel
theorem creditY (e : Fin 16) (b : Fin 8) : 0 < (yb e b).view.dmaCredit := by revert e b; decide +kernel

theorem startX (bd : Option ℕ) {α : Type} {K : α → sProp (MT nD τ sig Unit (Elt F) ℕ (UU nD τ) ℕ)} {src' : Memref sig .tc .hbm S544x1024 .bf16}
    {dst' : Memref sig .tc .vmem S544x1024 .bf16} {sem' : DmaSem sig} {hsrc : src'.view.WordExact} {hdst : dst'.view.WordExact}
    {hsem : DmaTarget.Typed (nD := nD) (p := (.tc : Proc τ)) .hbm (SemLoc.dma sem') (DmaTarget.here (p := (.tc : Proc τ)) dst')}
    {κ : PUnit → Prog (TpuEff nD τ sig (Elt F) (Λ₀ F) .tc) α} (k : ℕ)
    (h1 : src' = xsb (eOf k) (bOf k)) (h2 : dst' = xss (Ring.sl 2 k)) (h3 : sem' = (xsc (Ring.sl 2 k)).sem) :
    IX c X (Ring.sl 2 k) ⊢ iprop((FX c X k -∗ wp frame (wpE (defs₀ (F := F)) 𝒱₀ (c : Thread nD τ) bd) Set.univ (κ ⟨⟩) K)
          -∗ wp frame (wpE (defs₀ (F := F)) 𝒱₀ (c : Thread nD τ) bd) Set.univ (.op (.enqueueDmaAs src' (.here dst') ReadAs.same (SemLoc.dma sem') hsrc hdst hsem) κ) K) :=
  start c (xsb (eOf k) (bOf k)) (xss (Ring.sl 2 k)) (xsc (Ring.sl 2 k)) (sh (Ring.sl 2 k)) X bd h1 h2 h3 (creditX _)

theorem awaitX (bd : Option ℕ) {α : Type} {K : α → sProp (MT nD τ sig Unit (Elt F) ℕ (UU nD τ) ℕ)} {s' s'' : Shape} {e' e'' : EltTy} {q1 q2 : Space} {sem' : DmaSem sig}
    {srcw : Memref sig .tc q1 s' e'} {dstw : Memref sig .tc q2 s'' e''} {hsrc : srcw.view.WordExact} {hdst : dstw.view.WordExact}
    {κ : PUnit → Prog (TpuEff nD τ sig (Elt F) (Λ₀ F) .tc) α} (k : ℕ)
    (h3 : sem' = (xsc (Ring.sl 2 k)).sem) (hN : dstw.view.dmaCredit = (xss (Ring.sl 2 k)).view.dmaCredit) :
    iprop(FX c X k ∗ (∃ W, owes (c : Thread nD τ) 0 W))
      ⊢ iprop((iprop(LX c X k ∗ (∃ W, owes (c : Thread nD τ) 0 W)) -∗ wp frame (wpE (defs₀ (F := F)) 𝒱₀ (c : Thread nD τ) bd) Set.univ (κ ⟨⟩) K)
          -∗ wp frame (wpE (defs₀ (F := F)) 𝒱₀ (c : Thread nD τ) bd) Set.univ (.op (.waitDma2 sem' srcw dstw hsrc hdst) κ) K) := by
  unfold FX LX
  iintro H Hk
  iapply (await c (xsb (eOf k) (bOf k)) (xss (Ring.sl 2 k)) (xsc (Ring.sl 2 k)) (sh (Ring.sl 2 k)) X bd (k := κ) (srcw := srcw) (hsrc := hsrc) (hdst := hdst) h3 hN) $$ H
  iintro ⟨Ha, Hb, Hc, Hd⟩
  iapply Hk
  isplitr [Hd]
  · isplitl [Ha]; · iexact Ha
    isplitl [Hb]; · iexact Hb
    iexact Hc
  iexact Hd

/-- Before trip `k`: its block in flight, the other slot idle; past the last trip both idle. -/
def ringX (k : ℕ) : sProp 𝕄 := if k < 128 then iprop(FX c X k ∗ IX c X (Ring.sl 2 (k + 1))) else iprop(IX c X (Ring.sl 2 k) ∗ IX c X (Ring.sl 2 (k + 1)))
/-- In trip `k`, after the start of the next block: the next block in flight if there is one. -/
def nextX (k : ℕ) : sProp 𝕄 := if k + 1 < 128 then FX c X (k + 1) else IX c X (Ring.sl 2 (k + 1))
theorem ringX_next (k : ℕ) (hk : k < 128) : iprop(LX c X k ∗ nextX c X k) ⊢ ringX c X (k + 1) := by
  unfold ringX nextX
  by_cases h : k + 1 < 128
  · rw [if_pos h, if_pos h, show k + 1 + 1 = k + 2 from rfl, Ring.sl_add]
    exact sep_comm.1.trans (sep_mono_right (LX_IX c X k))
  · rw [if_neg h, if_neg h, show k + 1 + 1 = k + 2 from rfl, Ring.sl_add]
    exact sep_comm.1.trans (sep_mono_right (LX_IX c X k))

end Tokens

/-! ## The result's ring -/

section Result

variable (c : Dev nD) (Y0 YF : Buf (Elt F) (yM.view.loc (c : Thread nD τ))) (bv : Fin 16 → Fin 8 → S544x1024.Idx → Elt F .bf16)

def IY (s : Fin 2) : sProp 𝕄 := iprop(Free (F := F) c (ys s) ∗ Zero (F := F) c (yc s))
/-- Block `k` of the result on its way out. -/
def FY (k : ℕ) : sProp 𝕄 :=
  iprop(∃ (f : Buf (Elt F) ((ys (Ring.sl 2 k)).view.loc (c : Thread nD τ))) (g : Buf (Elt F) ((yb (eOf k) (bOf k)).view.loc (c : Thread nD τ))),
    ⌜(yb (eOf k) (bOf k)).view.read (Elt F) g = bv (eOf k) (bOf k)⌝
    ∗ Transfers.Flight countersEmb (c : Thread nD τ) (SemLoc.dma (yc (Ring.sl 2 k)).sem) () (yb (eOf k) (bOf k)).view.dmaCredit
        iprop(((yb (eOf k) (bOf k)).view.loc (c : Thread nD τ) ↦[(yb (eOf k) (bOf k)).view.set]{fullShare} g)
          ∗ ((ys (Ring.sl 2 k)).view.loc (c : Thread nD τ) ↦[(ys (Ring.sl 2 k)).view.set]{fullShare} f)))

theorem startY (bd : Option ℕ) {α : Type} {K : α → sProp (MT nD τ sig Unit (Elt F) ℕ (UU nD τ) ℕ)} {src' : Memref sig .tc .vmem S544x1024 .bf16}
    {dst' : Memref sig .tc .hbm S544x1024 .bf16} {sem' : DmaSem sig} {hsrc : src'.view.WordExact} {hdst : dst'.view.WordExact}
    {hsem : DmaTarget.Typed (nD := nD) (p := (.tc : Proc τ)) .vmem (SemLoc.dma sem') (DmaTarget.here (p := (.tc : Proc τ)) dst')}
    {κ : PUnit → Prog (TpuEff nD τ sig (Elt F) (Λ₀ F) .tc) α} (k : ℕ)
    (h1 : src' = ys (Ring.sl 2 k)) (h2 : dst' = yb (eOf k) (bOf k)) (h3 : sem' = (yc (Ring.sl 2 k)).sem) :
    iprop(Holds c (ys (Ring.sl 2 k)) (bv (eOf k) (bOf k)) ∗ Zero (F := F) c (yc (Ring.sl 2 k)) ∗ Free (F := F) c (yb (eOf k) (bOf k)))
      ⊢ iprop((FY c bv k -∗ wp frame (wpE (defs₀ (F := F)) 𝒱₀ (c : Thread nD τ) bd) Set.univ (κ ⟨⟩) K)
          -∗ wp frame (wpE (defs₀ (F := F)) 𝒱₀ (c : Thread nD τ) bd) Set.univ (.op (.enqueueDmaAs src' (.here dst') ReadAs.same (SemLoc.dma sem') hsrc hdst hsem) κ) K) := by
  subst h1 h2 h3
  unfold Holds Zero Free FY
  iintro ⟨⟨%f, %hf, Hs⟩, Hz, ⟨%g, Hd⟩⟩ Hk
  iapply (Transfers.wp_dmaLocal countersEmb 𝒱₀ (c : Thread nD τ) bd () (yb (eOf k) (bOf k)).view.dmaCredit rfl (creditY _ _) subset_rfl) $$ [Hs Hd Hz]
  · isplitl [Hs]; · iexact Hs
    isplitl [Hd] <;> iassumption
  iintro Hf
  iapply Hk
  iexists f
  iexists ((yb (eOf k) (bOf k)).view.write (Elt F) g (ReadAs.same.apply ((ys (Ring.sl 2 k)).view.read (Elt F) f)) Finset.univ)
  isplitr
  · ipureintro; exact (View.read_write_univ _ _).trans hf
  iexact Hf

theorem awaitY (bd : Option ℕ) {α : Type} {K : α → sProp (MT nD τ sig Unit (Elt F) ℕ (UU nD τ) ℕ)} {s' s'' : Shape} {e' e'' : EltTy} {q1 q2 : Space} {sem' : DmaSem sig}
    {srcw : Memref sig .tc q1 s' e'} {dstw : Memref sig .tc q2 s'' e''} {hsrc : srcw.view.WordExact} {hdst : dstw.view.WordExact}
    {κ : PUnit → Prog (TpuEff nD τ sig (Elt F) (Λ₀ F) .tc) α} (k : ℕ)
    (h3 : sem' = (yc (Ring.sl 2 k)).sem) (hN : dstw.view.dmaCredit = (yb (eOf k) (bOf k)).view.dmaCredit) :
    iprop(FY c bv k ∗ (∃ W, owes (c : Thread nD τ) 0 W))
      ⊢ iprop((iprop(IY c (Ring.sl 2 k) ∗ Holds c (yb (eOf k) (bOf k)) (bv (eOf k) (bOf k)) ∗ (∃ W, owes (c : Thread nD τ) 0 W)) -∗ wp frame (wpE (defs₀ (F := F)) 𝒱₀ (c : Thread nD τ) bd) Set.univ (κ ⟨⟩) K)
          -∗ wp frame (wpE (defs₀ (F := F)) 𝒱₀ (c : Thread nD τ) bd) Set.univ (.op (.waitDma2 sem' srcw dstw hsrc hdst) κ) K) := by
  subst h3
  unfold FY IY Free Holds Zero
  iintro ⟨⟨%f, %g, %hg, Hf⟩, ⟨%W, HO⟩⟩ Hk
  iapply (Transfers.wp_waitLocal countersEmb 𝒱₀ (c : Thread nD τ) bd () hN) $$ [Hf HO]
  · isplitl [Hf] <;> iassumption
  iintro ⟨⟨Hd, Hs⟩, Hv, HO⟩
  iapply Hk
  isplitl [Hs Hv]
  · isplitl [Hs]
    · iexists f; iexact Hs
    iexact Hv
  isplitl [Hd]
  · iexists g
    isplitr; · ipureintro; exact hg
    iexact Hd
  iexists _; iexact HO

/-! The array's elements: the blocks out, and the blocks not yet started. -/

abbrev blk (i : S16x8x544x1024.Idx) : ℕ := (i 0).val * 8 + (i 1).val
def outS (n : ℕ) : Finset S16x8x544x1024.Idx := Finset.univ.filter fun i => blk i < n
def todoS (n : ℕ) : Finset S16x8x544x1024.Idx := Finset.univ.filter fun i => n ≤ blk i
theorem mem_outS {n : ℕ} {i} : i ∈ outS n ↔ blk i < n := by unfold outS; rw [Finset.mem_filter]; exact ⟨fun h => h.2, fun h => ⟨Finset.mem_univ _, h⟩⟩
theorem mem_todoS {n : ℕ} {i} : i ∈ todoS n ↔ n ≤ blk i := by unfold todoS; rw [Finset.mem_filter]; exact ⟨fun h => h.2, fun h => ⟨Finset.mem_univ _, h⟩⟩

def ybS (e : Fin 16) (b : Fin 8) : Finset S16x8x544x1024.Idx := (Rect.unit (s := S16x8x544x1024) (tOff e b) S1x1x544x1024.size (tOff_inb e b)).set
theorem yb_set (e : Fin 16) (b : Fin 8) : (yb e b).view.set = ybS e b := (View.set_reshape _ _).trans (View.set_slice_whole _ _)

theorem mem_yb (e : Fin 16) (b : Fin 8) (i : S16x8x544x1024.Idx) : i ∈ ybS e b ↔ blk i = e.val * 8 + b.val := by
  have h0 : (i 0).val < 16 := (i 0).isLt
  have h1 : (i 1).val < 8 := (i 1).isLt
  have h2 : (i 2).val < 544 := (i 2).isLt
  have h3 : (i 3).val < 1024 := (i 3).isLt
  have he := e.isLt
  have hb := b.isLt
  unfold ybS
  rw [Rect.mem_set_unit]
  constructor
  · intro H
    have a0 : e.val ≤ (i 0).val ∧ (i 0).val < e.val + 1 := H 0
    have a1 : b.val ≤ (i 1).val ∧ (i 1).val < b.val + 1 := H 1
    unfold blk; omega
  · intro H a
    unfold blk at H
    fin_cases a
    · show e.val ≤ (i 0).val ∧ (i 0).val < e.val + 1; omega
    · show b.val ≤ (i 1).val ∧ (i 1).val < b.val + 1; omega
    · show 0 ≤ (i 2).val ∧ (i 2).val < 0 + 544; omega
    · show 0 ≤ (i 3).val ∧ (i 3).val < 0 + 1024; omega
theorem mem_ybk (k : ℕ) (hk : k < 128) (i : S16x8x544x1024.Idx) : i ∈ ybS (eOf k) (bOf k) ↔ blk i = k := by
  rw [mem_yb]
  have : (eOf k).val * 8 + (bOf k).val = k := by
    show k / 8 % 16 * 8 + k % 8 = k
    omega
  rw [this]

theorem ybP (e : Fin 16) (b : Fin 8) (f : Buf (Elt F) (yM.view.loc (c : Thread nD τ))) :
    ((yb e b).view.loc (c : Thread nD τ) ↦[(yb e b).view.set]{fullShare} f : sProp 𝕄) = (yM.view.loc (c : Thread nD τ) ↦[ybS e b]{fullShare} f) :=
  congrArg (fun S => (yM.view.loc (c : Thread nD τ) ↦[S]{fullShare} f : sProp 𝕄)) (yb_set e b)

theorem todo_take (k : ℕ) (hk : k < 128) :
    (yM.view.loc (c : Thread nD τ) ↦[todoS k]{fullShare} Y0 : sProp 𝕄)
      ⊢ iprop(Free (F := F) c (yb (eOf k) (bOf k)) ∗ (yM.view.loc (c : Thread nD τ) ↦[todoS (k + 1)]{fullShare} Y0)) := by
  have hs : ybS (eOf k) (bOf k) ⊆ todoS k := fun i hi => mem_todoS.2 ((mem_ybk k hk i).1 hi).ge
  have hd : todoS k \ ybS (eOf k) (bOf k) = todoS (k + 1) := by
    ext i
    rw [Finset.mem_sdiff, mem_todoS, mem_ybk k hk, mem_todoS]; omega
  have h := (pointsTo_split_subset (Ix := Unit) (Name := ℕ) (U := UU nD τ) (Lvl := ℕ) (q := fullShare) (ℓ := yM.view.loc (c : Thread nD τ)) (f := Y0) hs).1
  rw [hd] at h
  refine h.trans (sep_mono_left ?_)
  rw [← ybP]
  unfold Free
  iintro H; iexists Y0; iexact H

theorem out_put (k : ℕ) (hk : k < 128) (hY : ∀ e b, (yb e b).view.read (Elt F) YF = bv e b) :
    iprop(Holds c (yb (eOf k) (bOf k)) (bv (eOf k) (bOf k)) ∗ (yM.view.loc (c : Thread nD τ) ↦[outS k]{fullShare} YF))
      ⊢ (yM.view.loc (c : Thread nD τ) ↦[outS (k + 1)]{fullShare} YF : sProp 𝕄) := by
  have hs : ybS (eOf k) (bOf k) ⊆ outS (k + 1) := fun i hi => mem_outS.2 (by have := (mem_ybk k hk i).1 hi; omega)
  have hd : outS (k + 1) \ ybS (eOf k) (bOf k) = outS k := by
    ext i
    rw [Finset.mem_sdiff, mem_outS, mem_ybk k hk, mem_outS]; omega
  have h := (pointsTo_split_subset (Ix := Unit) (Name := ℕ) (U := UU nD τ) (Lvl := ℕ) (q := fullShare) (ℓ := yM.view.loc (c : Thread nD τ)) (f := YF) hs).2
  rw [hd] at h
  refine BIBase.Entails.trans (sep_mono_left ?_) h
  rw [← ybP]
  unfold Holds
  iintro ⟨%f, %hf, Hb⟩
  have e : ((yb (eOf k) (bOf k)).view.loc (c : Thread nD τ) ↦[(yb (eOf k) (bOf k)).view.set]{fullShare} f : sProp 𝕄)
      = ((yb (eOf k) (bOf k)).view.loc (c : Thread nD τ) ↦[(yb (eOf k) (bOf k)).view.set]{fullShare} YF) :=
    pointsTo_congr (fun i hi => by
      obtain ⟨x, -, rfl⟩ := Finset.mem_map.1 hi
      exact congrFun (hf.trans (hY _ _).symm) x)
  rw [← e]; iexact Hb

/-- Before trip `k`: the block before it on its way out, the ones before that out, the trip's own slot idle. -/
def lastY (k : ℕ) : sProp 𝕄 := if k = 0 then IY c (Ring.sl 2 (k + 1)) else FY c bv (k - 1)
def ringY (k : ℕ) : sProp 𝕄 :=
  iprop((yM.view.loc (c : Thread nD τ) ↦[outS (k - 1)]{fullShare} YF) ∗ (yM.view.loc (c : Thread nD τ) ↦[todoS k]{fullShare} Y0)
    ∗ IY c (Ring.sl 2 k) ∗ lastY c bv k)

end Result

end Cert.Proof.Ffn
-- ==== Proof.Trip.lean ====
/-
  One trip of the pipeline's loop, at a symbolic trip number.
-/
module

public import proofs.«01_k».proof.Proof.Tokens
public import Idealize.ShloMosaic.Lib.Pipeline.Value

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The words a trip takes and gives. -/
abbrev W18 : Type := BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32

/-- The loop body of a trip, its operands in place. -/
def trip (k : TT) : Prog (TpuEff nD τ sig (Elt F) (Λ₀ F) .tc) W18 :=
  k0_t1_body (F := F) xsM (Memref.isWhole_whole _) w1M (Memref.isWhole_whole _) w3M (Memref.isWhole_whole _) w2M (Memref.isWhole_whole _) yM (Memref.isWhole_whole _)
    w1B (Memref.isWhole_whole _) cc0_scoped1 w3B (Memref.isWhole_whole _) cc0_scoped3 w2B (Memref.isWhole_whole _) cc0_scoped5 xsB (Memref.isWhole_whole _) cc0_scoped7
    yB (Memref.isWhole_whole _) cc0_scoped9 1#32 1#32 k (wordsAt k.val)

theorem chk12 (k : TT) : k0_chk12 (wd k.val) := by revert k; decide +kernel
theorem chk11 (k : TT) : k0_chk11 (nW k.val) := by revert k; decide +kernel
theorem chk10 (k : TT) : k0_chk10 (nW k.val) := by revert k; decide +kernel
theorem chk9 (k : TT) : k0_chk9 (nW k.val) := by revert k; decide +kernel
theorem chk8 (k : TT) : k0_chk8 (wd k.val) := by revert k; decide +kernel
theorem chk7 (k : TT) : k0_chk7 k (nW k.val) (nW k.val) (nW k.val) (nX k.val) (wd k.val) (wd k.val) (nY k.val) (gE k.val) (gB k.val) := by revert k; decide +kernel

/-! ## Where a trip's windows lie, and when its conditions hold -/

theorem off16_eq (k : TT) : k0_off16 (nX k.val) = smOff (Ring.sl 2 (k.val + 1)) := by revert k; decide +kernel
theorem off17_eq (k : TT) : k0_off17 (nX k.val) = slOff (Ring.sl 2 (k.val + 1)) := by revert k; decide +kernel
theorem off18_eq (k : TT) : k0_off18 (gE k.val) (gB k.val) = tOff (eOf (k.val + 1)) (bOf (k.val + 1)) := by revert k; decide +kernel
theorem off19_eq (k : TT) : k0_off19 (nW k.val) = smOff (Ring.sl 2 (k.val / 8)) := by revert k; decide +kernel
theorem off22_eq (k : TT) : k0_off22 (nW k.val) = smOff (Ring.sl 2 (k.val / 8)) := by revert k; decide +kernel
theorem off25_eq (k : TT) : k0_off25 (nW k.val) = smOff (Ring.sl 2 (k.val / 8)) := by revert k; decide +kernel
theorem off28_eq (k : TT) : k0_off28 (wd k.val) = smOff (Ring.sl 2 k.val) := by revert k; decide +kernel
theorem off31_eq (k : TT) : k0_off31 (wd k.val) = slOff (Ring.sl 2 k.val) := by revert k; decide +kernel
theorem off32_eq (k : TT) : k0_off32 (nW k.val) = slOff (Ring.sl 2 (k.val / 8)) := by revert k; decide +kernel
theorem off33_eq (k : TT) : k0_off33 (nW k.val) = slOff (Ring.sl 2 (k.val / 8)) := by revert k; decide +kernel
theorem off34_eq (k : TT) : k0_off34 (nW k.val) = slOff (Ring.sl 2 (k.val / 8)) := by revert k; decide +kernel
theorem off35_eq (k : TT) : k0_off35 (wd k.val) = slOff (Ring.sl 2 k.val) := by revert k; decide +kernel
theorem off36_eq (k : TT) : k0_off36 (wd k.val) = smOff (Ring.sl 2 k.val) := by revert k; decide +kernel
theorem off37_eq (k : TT) : k0_off37 (gE k.val) (gB k.val) = tOff (eOf k.val) (bOf k.val) := by revert k; decide +kernel
theorem off38_eq (k : TT) : k0_off38 (wd k.val) = slOff (Ring.sl 2 k.val) := by revert k; decide +kernel
theorem off39_eq (k : TT) : k.val ≠ 0 → k0_off39 (nY k.val) = smOff (Ring.sl 2 (k.val - 1)) := by revert k; decide +kernel
theorem cond4_iff (k : TT) : k0_cond4 k (gE k.val) (gB k.val) = 1#1 ↔ k.val + 1 < 128 := by revert k; decide +kernel
theorem cond5_iff (k : TT) : k0_cond5 k (gE k.val) (gB k.val) = 1#1 ↔ k.val % 8 = 0 := by revert k; decide +kernel
theorem cond6_iff (k : TT) : k0_cond6 k (gE k.val) (gB k.val) = 1#1 ↔ k.val % 8 = 0 := by revert k; decide +kernel
theorem cond7_iff (k : TT) : k0_cond7 k (gE k.val) (gB k.val) = 1#1 ↔ k.val % 8 = 0 := by revert k; decide +kernel
theorem cond8_eq (k : TT) : k0_cond8 k (gE k.val) (gB k.val) = 1#1 := by revert k; decide +kernel
theorem cond14_eq (k : TT) : k0_cond14 k (gE k.val) (gB k.val) = 1#1 := by revert k; decide +kernel
theorem cond19_iff (k : TT) : k0_cond19 k (gE k.val) (gB k.val) = 1#1 ↔ k.val ≠ 0 := by revert k; decide +kernel

/-- A block of the result from a block of tokens and its expert's weights, as the kernel computes it. -/
def ffnBlock (x : FVec F S544x1024 .bf16) (a b : FVec F S1024x2048 .f32) (d : FVec F S2048x1024 .f32) : FVec F S544x1024 .bf16 :=
  have g : FVec F S544x2048 .f32 := matmul dot_S544x1024_S1024x2048_S544x2048_1_0_0_1_n_n none x (truncf .bf16 a bitsLt_bf16_f32) (constant S544x2048 .f32 0x00000000#32)
  have u : FVec F S544x2048 .f32 := matmul dot_S544x1024_S1024x2048_S544x2048_1_0_0_1_n_n none x (truncf .bf16 b bitsLt_bf16_f32) (constant S544x2048 .f32 0x00000000#32)
  have sg : FVec F S544x2048 .f32 := divf (broadcast S544x2048 (Scalar.ofBits .f32 0x3F800000#32))
    (addf (broadcast S544x2048 (Scalar.ofBits .f32 0x3F800000#32)) (exp (subf (broadcast S544x2048 (Scalar.ofBits .f32 0x00000000#32)) g)))
  truncf .bf16 (matmul dot_S544x2048_S2048x1024_S544x1024_1_0_0_1_n_n none (truncf .bf16 (mulf (mulf g sg) u) bitsLt_bf16_f32) (truncf .bf16 d bitsLt_bf16_f32)
    (constant S544x1024 .f32 0x00000000#32)) bitsLt_bf16_f32

theorem pay_eq {x : FVec F S544x1024 .bf16} {a b : FVec F S1024x2048 .f32} {d : FVec F S2048x1024 .f32} {wx : Vec F S1x544x1024 .bf16} {wa wb : Vec F S1x1024x2048 .f32} {wd' : Vec F S1x2048x1024 .f32}
    (hx : shapeCast S544x1024 wx shapeCasts_S1x544x1024_S544x1024 = x) (ha : shapeCast S1024x2048 wa shapeCasts_S1x1024x2048_S1024x2048 = a)
    (hb : shapeCast S1024x2048 wb shapeCasts_S1x1024x2048_S1024x2048 = b) (hd : shapeCast S2048x1024 wd' shapeCasts_S1x2048x1024_S2048x1024 = d) :
    shapeCast S544x1024 (k0_pay3 (k0_pay1 wx) (k0_pay2 wx wa) wb wd') shapeCasts_S1x544x1024_S544x1024 = ffnBlock x a b d := by
  subst hx ha hb hd
  exact shapeCast_shapeCast _ _ _

section

variable (c : Dev nD)
  (X1 : Buf (Elt F) (w1M.view.loc (c : Thread nD τ))) (X3 : Buf (Elt F) (w3M.view.loc (c : Thread nD τ))) (X2 : Buf (Elt F) (w2M.view.loc (c : Thread nD τ)))
  (XS : Buf (Elt F) (xsM.view.loc (c : Thread nD τ))) (Y0 YF : Buf (Elt F) (yM.view.loc (c : Thread nD τ))) (bv : Fin 16 → Fin 8 → S544x1024.Idx → Elt F .bf16)

/-- The five rings before trip `k`. -/
def rings (k : ℕ) : sProp 𝕄 :=
  iprop(ring (I1 c X1) (F1 c X1) (L1 c X1) k ∗ ring (I3 c X3) (F3 c X3) (L3 c X3) k ∗ ring (I2 c X2) (F2 c X2) (L2 c X2) k
    ∗ ringX c XS k ∗ ringY c Y0 YF bv k ∗ (∃ W, owes (c : Thread nD τ) 0 W))

theorem lt128 (k : TT) : k.val < 128 := by have := k.isLt; have := trips_eq; omega

theorem ifwait1 (k : TT) {α : Type} {K : α → sProp (MT nD τ sig Unit (Elt F) ℕ (UU nD τ) ℕ)} {C : Prop} [Decidable C] {off : Fin 1 → Nat} {off' : Fin 3 → Nat} {hh : C → _} {hh' : C → _}
    {srcw : C → Memref sig .tc .hbm S1024x2048 .f32} {hsrc : ∀ h, (srcw h).view.WordExact} {hdst : ∀ h, _}
    {κ : Prog (TpuEff nD τ sig (Elt F) (Λ₀ F) .tc) α} (hC : C ↔ k.val % 8 = 0) (h3 : off = smOff (Ring.sl 2 (k.val / 8))) :
    iprop(main (F1 c X1) (L1 c X1) k.val ∗ (∃ W, owes (c : Thread nD τ) 0 W))
      ⊢ iprop((iprop(main' (L1 c X1) k.val ∗ (∃ W, owes (c : Thread nD τ) 0 W)) -∗ wp frame (wpE (defs₀ (F := F)) 𝒱₀ (c : Thread nD τ) none) Set.univ κ K)
        -∗ wp frame (wpE (defs₀ (F := F)) 𝒱₀ (c : Thread nD τ) none) Set.univ
            (dite C (fun h => .op (.waitDma2 (((cc0_scoped1.slice (Rect.unit (s := S2) off S1.size (hh h))).squeeze S_ squeezes_S1_S_)).sem (srcw h)
              ((w1B.slice (Rect.unit (s := S2x1024x2048) off' S1x1024x2048.size (hh' h)) (fun _ => rfl)).squeeze S1024x2048 squeezes_S1x1024x2048_S1024x2048) (hsrc h) (hdst h)) (fun _ => κ)) (fun _ => κ)) K) := by
  unfold main main'
  by_cases h : k.val % 8 = 0
  · rw [if_pos h, dif_pos (hC.2 h)]
    exact await1 c X1 none (k := fun _ => κ) _ _ (congrArg (fun A : DmaSems sig S_ => A.sem) (sem_congr h3 _)) (by rfl)
  · rw [if_neg h, dif_neg (fun hc => h (hC.1 hc))]
    iintro H Hk; iapply Hk; iexact H
theorem ifwait3 (k : TT) {α : Type} {K : α → sProp (MT nD τ sig Unit (Elt F) ℕ (UU nD τ) ℕ)} {C : Prop} [Decidable C] {off : Fin 1 → Nat} {off' : Fin 3 → Nat} {hh : C → _} {hh' : C → _}
    {srcw : C → Memref sig .tc .hbm S1024x2048 .f32} {hsrc : ∀ h, (srcw h).view.WordExact} {hdst : ∀ h, _}
    {κ : Prog (TpuEff nD τ sig (Elt F) (Λ₀ F) .tc) α} (hC : C ↔ k.val % 8 = 0) (h3 : off = smOff (Ring.sl 2 (k.val / 8))) :
    iprop(main (F3 c X3) (L3 c X3) k.val ∗ (∃ W, owes (c : Thread nD τ) 0 W))
      ⊢ iprop((iprop(main' (L3 c X3) k.val ∗ (∃ W, owes (c : Thread nD τ) 0 W)) -∗ wp frame (wpE (defs₀ (F := F)) 𝒱₀ (c : Thread nD τ) none) Set.univ κ K)
        -∗ wp frame (wpE (defs₀ (F := F)) 𝒱₀ (c : Thread nD τ) none) Set.univ
            (dite C (fun h => .op (.waitDma2 (((cc0_scoped3.slice (Rect.unit (s := S2) off S1.size (hh h))).squeeze S_ squeezes_S1_S_)).sem (srcw h)
              ((w3B.slice (Rect.unit (s := S2x1024x2048) off' S1x1024x2048.size (hh' h)) (fun _ => rfl)).squeeze S1024x2048 squeezes_S1x1024x2048_S1024x2048) (hsrc h) (hdst h)) (fun _ => κ)) (fun _ => κ)) K) := by
  unfold main main'
  by_cases h : k.val % 8 = 0
  · rw [if_pos h, dif_pos (hC.2 h)]
    exact await3 c X3 none (k := fun _ => κ) _ _ (congrArg (fun A : DmaSems sig S_ => A.sem) (sem_congr h3 _)) (by rfl)
  · rw [if_neg h, dif_neg (fun hc => h (hC.1 hc))]
    iintro H Hk; iapply Hk; iexact H
theorem ifwait2 (k : TT) {α : Type} {K : α → sProp (MT nD τ sig Unit (Elt F) ℕ (UU nD τ) ℕ)} {C : Prop} [Decidable C] {off : Fin 1 → Nat} {off' : Fin 3 → Nat} {hh : C → _} {hh' : C → _}
    {srcw : C → Memref sig .tc .hbm S2048x1024 .f32} {hsrc : ∀ h, (srcw h).view.WordExact} {hdst : ∀ h, _}
    {κ : Prog (TpuEff nD τ sig (Elt F) (Λ₀ F) .tc) α} (hC : C ↔ k.val % 8 = 0) (h3 : off = smOff (Ring.sl 2 (k.val / 8))) :
    iprop(main (F2 c X2) (L2 c X2) k.val ∗ (∃ W, owes (c : Thread nD τ) 0 W))
      ⊢ iprop((iprop(main' (L2 c X2) k.val ∗ (∃ W, owes (c : Thread nD τ) 0 W)) -∗ wp frame (wpE (defs₀ (F := F)) 𝒱₀ (c : Thread nD τ) none) Set.univ κ K)
        -∗ wp frame (wpE (defs₀ (F := F)) 𝒱₀ (c : Thread nD τ) none) Set.univ
            (dite C (fun h => .op (.waitDma2 (((cc0_scoped5.slice (Rect.unit (s := S2) off S1.size (hh h))).squeeze S_ squeezes_S1_S_)).sem (srcw h)
              ((w2B.slice (Rect.unit (s := S2x2048x1024) off' S1x2048x1024.size (hh' h)) (fun _ => rfl)).squeeze S2048x1024 squeezes_S1x2048x1024_S2048x1024) (hsrc h) (hdst h)) (fun _ => κ)) (fun _ => κ)) K) := by
  unfold main main'
  by_cases h : k.val % 8 = 0
  · rw [if_pos h, dif_pos (hC.2 h)]
    exact await2 c X2 none (k := fun _ => κ) _ _ (congrArg (fun A : DmaSems sig S_ => A.sem) (sem_congr h3 _)) (by rfl)
  · rw [if_neg h, dif_neg (fun hc => h (hC.1 hc))]
    iintro H Hk; iapply Hk; iexact H
theorem ifstartX (k : TT) {α : Type} {K : α → sProp (MT nD τ sig Unit (Elt F) ℕ (UU nD τ) ℕ)} {C : Prop} [Decidable C] {off : Fin 1 → Nat} {off' : Fin 3 → Nat} {off'' : Fin 4 → Nat}
    {hh : C → _} {hh' : C → _} {hh'' : C → _} {hsrc : ∀ h, _} {hdst : ∀ h, _} {hsem : ∀ h, _}
    {κ : Prog (TpuEff nD τ sig (Elt F) (Λ₀ F) .tc) α} (hC : C ↔ k.val + 1 < 128) (h1 : off'' = tOff (eOf (k.val + 1)) (bOf (k.val + 1)))
    (h2 : off' = slOff (Ring.sl 2 (k.val + 1))) (h3 : off = smOff (Ring.sl 2 (k.val + 1))) :
    IX c XS (Ring.sl 2 (k.val + 1))
      ⊢ iprop((nextX c XS k.val -∗ wp frame (wpE (defs₀ (F := F)) 𝒱₀ (c : Thread nD τ) none) Set.univ κ K)
        -∗ wp frame (wpE (defs₀ (F := F)) 𝒱₀ (c : Thread nD τ) none) Set.univ
            (dite C (fun h => .op (.enqueueDmaAs ((xsM.slice (Rect.unit (s := S16x8x544x1024) off'' S1x1x544x1024.size (hh'' h)) (fun _ => rfl)).squeeze S544x1024 squeezes_S1x1x544x1024_S544x1024)
              (.here ((xsB.slice (Rect.unit (s := S2x544x1024) off' S1x544x1024.size (hh' h)) (fun _ => rfl)).squeeze S544x1024 squeezes_S1x544x1024_S544x1024)) ReadAs.same
              (SemLoc.dma (((cc0_scoped7.slice (Rect.unit (s := S2) off S1.size (hh h))).squeeze S_ squeezes_S1_S_)).sem) (hsrc h) (hdst h) (hsem h)) (fun _ => κ)) (fun _ => κ)) K) := by
  unfold nextX
  by_cases h : k.val + 1 < 128
  · rw [if_pos h, dif_pos (hC.2 h)]
    exact startX c XS none (κ := fun _ => κ) (k.val + 1) (xsb_congr h1 _ _) (xss_congr h2 _ _) (congrArg (fun A : DmaSems sig S_ => A.sem) (sem_congr h3 _))
  · rw [if_neg h, dif_neg (fun hc => h (hC.1 hc))]
    iintro H Hk; iapply Hk; iexact H
theorem ifwaitX (k : TT) {α : Type} {K : α → sProp (MT nD τ sig Unit (Elt F) ℕ (UU nD τ) ℕ)} {C : Prop} [Decidable C] {off : Fin 1 → Nat} {off' : Fin 3 → Nat} {hh : C → _} {hh' : C → _}
    {srcw : C → Memref sig .tc .hbm S544x1024 .bf16} {hsrc : ∀ h, (srcw h).view.WordExact} {hdst : ∀ h, _}
    {κ : Prog (TpuEff nD τ sig (Elt F) (Λ₀ F) .tc) α} (hC : C) (h3 : off = smOff (Ring.sl 2 k.val)) :
    iprop(FX c XS k.val ∗ (∃ W, owes (c : Thread nD τ) 0 W))
      ⊢ iprop((iprop(LX c XS k.val ∗ (∃ W, owes (c : Thread nD τ) 0 W)) -∗ wp frame (wpE (defs₀ (F := F)) 𝒱₀ (c : Thread nD τ) none) Set.univ κ K)
        -∗ wp frame (wpE (defs₀ (F := F)) 𝒱₀ (c : Thread nD τ) none) Set.univ
            (dite C (fun h => .op (.waitDma2 (((cc0_scoped7.slice (Rect.unit (s := S2) off S1.size (hh h))).squeeze S_ squeezes_S1_S_)).sem (srcw h)
              ((xsB.slice (Rect.unit (s := S2x544x1024) off' S1x544x1024.size (hh' h)) (fun _ => rfl)).squeeze S544x1024 squeezes_S1x544x1024_S544x1024) (hsrc h) (hdst h)) (fun _ => κ)) (fun _ => κ)) K) := by
  rw [dif_pos hC]
  exact awaitX c XS none (κ := fun _ => κ) _ (congrArg (fun A : DmaSems sig S_ => A.sem) (sem_congr h3 _)) (by rfl)
theorem ifstartY (k : TT) {α : Type} {K : α → sProp (MT nD τ sig Unit (Elt F) ℕ (UU nD τ) ℕ)} {C : Prop} [Decidable C] {off : Fin 1 → Nat} {off' : Fin 3 → Nat} {off'' : Fin 4 → Nat}
    {hh : C → _} {hh' : C → _} {hh'' : C → _} {hsrc : ∀ h, _} {hdst : ∀ h, _} {hsem : ∀ h, _}
    {κ : Prog (TpuEff nD τ sig (Elt F) (Λ₀ F) .tc) α} (hC : C) (h1 : off'' = tOff (eOf k.val) (bOf k.val))
    (h2 : off' = slOff (Ring.sl 2 k.val)) (h3 : off = smOff (Ring.sl 2 k.val)) :
    iprop(Holds c (ys (Ring.sl 2 k.val)) (bv (eOf k.val) (bOf k.val)) ∗ Zero (F := F) c (yc (Ring.sl 2 k.val)) ∗ (yM.view.loc (c : Thread nD τ) ↦[todoS k.val]{fullShare} Y0))
      ⊢ iprop((iprop(FY c bv k.val ∗ (yM.view.loc (c : Thread nD τ) ↦[todoS (k.val + 1)]{fullShare} Y0)) -∗ wp frame (wpE (defs₀ (F := F)) 𝒱₀ (c : Thread nD τ) none) Set.univ κ K)
        -∗ wp frame (wpE (defs₀ (F := F)) 𝒱₀ (c : Thread nD τ) none) Set.univ
            (dite C (fun h => .op (.enqueueDmaAs ((yB.slice (Rect.unit (s := S2x544x1024) off' S1x544x1024.size (hh' h)) (fun _ => rfl)).squeeze S544x1024 squeezes_S1x544x1024_S544x1024)
              (.here ((yM.slice (Rect.unit (s := S16x8x544x1024) off'' S1x1x544x1024.size (hh'' h)) (fun _ => rfl)).squeeze S544x1024 squeezes_S1x1x544x1024_S544x1024)) ReadAs.same
              (SemLoc.dma (((cc0_scoped9.slice (Rect.unit (s := S2) off S1.size (hh h))).squeeze S_ squeezes_S1_S_)).sem) (hsrc h) (hdst h) (hsem h)) (fun _ => κ)) (fun _ => κ)) K) := by
  rw [dif_pos hC]
  iintro ⟨Hs, Hz, Ht⟩ Hk
  ihave Ht2 := (todo_take c Y0 k.val (lt128 k)) $$ Ht
  icases Ht2 with ⟨Hb, Ht⟩
  iapply (startY c bv none k.val (ys_congr h2 _ _) (yb_congr h1 _ _) (congrArg (fun A : DmaSems sig S_ => A.sem) (sem_congr h3 _))) $$ [Hs Hz Hb]
  · isplitl [Hs]; · iexact Hs
    isplitl [Hz] <;> iassumption
  iintro Hf
  iapply Hk
  isplitl [Hf] <;> iassumption
theorem ifwaitY (hY : ∀ e b, (yb e b).view.read (Elt F) YF = bv e b) (k : TT) {α : Type} {K : α → sProp (MT nD τ sig Unit (Elt F) ℕ (UU nD τ) ℕ)} {C : Prop} [Decidable C] {off : Fin 1 → Nat} {off' : Fin 4 → Nat} {hh : C → _} {hh' : C → _}
    {srcw : C → Memref sig .tc .vmem S544x1024 .bf16} {hsrc : ∀ h, (srcw h).view.WordExact} {hdst : ∀ h, _}
    {κ : Prog (TpuEff nD τ sig (Elt F) (Λ₀ F) .tc) α} (hC : C ↔ k.val ≠ 0) (h3 : k.val ≠ 0 → off = smOff (Ring.sl 2 (k.val - 1))) :
    iprop(lastY c bv k.val ∗ (yM.view.loc (c : Thread nD τ) ↦[outS (k.val - 1)]{fullShare} YF) ∗ (∃ W, owes (c : Thread nD τ) 0 W))
      ⊢ iprop((iprop(IY c (Ring.sl 2 (k.val + 1)) ∗ (yM.view.loc (c : Thread nD τ) ↦[outS k.val]{fullShare} YF) ∗ (∃ W, owes (c : Thread nD τ) 0 W)) -∗ wp frame (wpE (defs₀ (F := F)) 𝒱₀ (c : Thread nD τ) none) Set.univ κ K)
        -∗ wp frame (wpE (defs₀ (F := F)) 𝒱₀ (c : Thread nD τ) none) Set.univ
            (dite C (fun h => .op (.waitDma2 (((cc0_scoped9.slice (Rect.unit (s := S2) off S1.size (hh h))).squeeze S_ squeezes_S1_S_)).sem (srcw h)
              ((yM.slice (Rect.unit (s := S16x8x544x1024) off' S1x1x544x1024.size (hh' h)) (fun _ => rfl)).squeeze S544x1024 squeezes_S1x1x544x1024_S544x1024) (hsrc h) (hdst h)) (fun _ => κ)) (fun _ => κ)) K) := by
  unfold lastY
  have hk := lt128 k
  by_cases h : k.val = 0
  · rw [if_pos h, dif_neg (fun hc => hC.1 hc h), h]
    iintro H Hk; iapply Hk; iexact H
  · rw [if_neg h, dif_pos (hC.2 h)]
    have hs : Ring.sl 2 (k.val + 1) = Ring.sl 2 (k.val - 1) := by
      rw [show k.val + 1 = k.val - 1 + 2 by omega, Ring.sl_add]
    rw [hs]
    iintro ⟨HF, Hd, HO⟩ Hk
    iapply (awaitY c bv none (κ := fun _ => κ) (hsrc := hsrc (hC.2 h)) (hdst := hdst (hC.2 h)) (k.val - 1) (congrArg (fun A : DmaSems sig S_ => A.sem) (sem_congr (h3 h) _)) (by rfl)) $$ [HF HO]
    · isplitl [HF] <;> iassumption
    iintro ⟨Hi, Hb, HO⟩
    iapply Hk
    isplitl [Hi]; · iexact Hi
    isplitr [HO]
    · have e := out_put c YF bv (k.val - 1) (by omega) hY
      rw [show k.val - 1 + 1 = k.val by omega] at e
      iapply e
      isplitl [Hb] <;> iassumption
    iexact HO

theorem ringY_mk (k : ℕ) :
    iprop((yM.view.loc (c : Thread nD τ) ↦[outS k]{fullShare} YF) ∗ (yM.view.loc (c : Thread nD τ) ↦[todoS (k + 1)]{fullShare} Y0)
      ∗ IY c (Ring.sl 2 (k + 1)) ∗ FY c bv k) ⊢ ringY c Y0 YF bv (k + 1) := by
  unfold ringY lastY
  rw [if_neg (Nat.succ_ne_zero k), Nat.add_sub_cancel]

theorem of_words {α : Type} (K : α → sProp 𝕄) {a b : α} (h : a = b) : K a ⊢ K b := h ▸ .rfl

theorem limW (k : TT) : Scalar.addi (nW k.val) 2#32 = wd (k.val / 8 + 2) := by revert k; decide +kernel
theorem curI (k : TT) : Scalar.select (Scalar.cmpi .eq (Scalar.select 1#1 (Scalar.addi (cI k.val) 1#32) (cI k.val)) 8#32) 0#32 (Scalar.select 1#1 (Scalar.addi (cI k.val) 1#32) (cI k.val)) = dI k.val := by
  revert k; decide +kernel
theorem curE (k : TT) : Scalar.select 0#1 0#32 (Scalar.select (Scalar.cmpi .eq (Scalar.select 1#1 (Scalar.addi (cI k.val) 1#32) (cI k.val)) 8#32) (Scalar.addi (cE k.val) 1#32) (cE k.val)) = dE k.val := by
  revert k; decide +kernel

set_option pp.maxSteps 400 in
theorem trip_run (hY : ∀ e b, (yb e b).view.read (Elt F) YF = bv e b)
    (hbv : ∀ e b, bv e b = ffnBlock ((xsb e b).view.read (Elt F) XS) ((w1b e).view.read (Elt F) X1) ((w3b e).view.read (Elt F) X3) ((w2b e).view.read (Elt F) X2))
    (k : TT) (K : W18 → sProp 𝕄) : iprop(rings c X1 X3 X2 XS Y0 YF bv k.val ∗ (rings c X1 X3 X2 XS Y0 YF bv (k.val + 1) -∗ K (wordsAt (k.val + 1))))
    ⊢ wp frame (wpE (defs₀ (F := F)) 𝒱₀ (c : Thread nD τ) none) Set.univ (trip (F := F) k) K := by
  have hk := lt128 k
  unfold trip k0_t1_body wordsAt rings
  have eX : ringX c XS k.val = iprop(FX c XS k.val ∗ IX c XS (Ring.sl 2 (k.val + 1))) := if_pos hk
  have eY : ringY c Y0 YF bv k.val = iprop((yM.view.loc (c : Thread nD τ) ↦[outS (k.val - 1)]{fullShare} YF) ∗ (yM.view.loc (c : Thread nD τ) ↦[todoS k.val]{fullShare} Y0)
    ∗ (Free c (ys (Ring.sl 2 k.val)) ∗ Zero c (yc (Ring.sl 2 k.val))) ∗ lastY c bv k.val) := rfl
  rw [ring_lt _ _ _ hk, ring_lt _ _ _ hk, ring_lt _ _ _ hk, eX, eY]
  rw [k0_part7_eq_skeleton]
  unfold k0_part7_skel
  dsimp only
  rw [wp_bind, wp_bind]
  rw [k0_part1_eq_skeleton]
  unfold k0_part1_skel
  simp only [Prog.lift, Prog.bind_op, Prog.bind_ret, Prog.pure_eq_ret]
  iintro ⟨⟨⟨HW1, HA1⟩, ⟨HW3, HA3⟩, ⟨HW2, HA2⟩, HX, HY, HO⟩, Hk⟩
  iapply (wp_assume 𝒱₀ (c : Thread nD τ) none Set.univ (chk12 k))
  iapply (wp_assume 𝒱₀ (c : Thread nD τ) none Set.univ (chk11 k))
  iapply (wp_assume 𝒱₀ (c : Thread nD τ) none Set.univ (chk10 k))
  iapply (wp_assume 𝒱₀ (c : Thread nD τ) none Set.univ (chk9 k))
  iapply (wp_assume 𝒱₀ (c : Thread nD τ) none Set.univ (chk8 k))
  iapply (wp_assume 𝒱₀ (c : Thread nD τ) none Set.univ (chk7 k))
  rw [wp_ret]; imodintro
  dsimp only
  rw [wp_bind, k0_part2_eq_skeleton]
  unfold k0_part2_skel
  simp only [Prog.lift, Prog.bind_op, Prog.bind_ret, Prog.pure_eq_ret]
  iapply (call1 c X1 k (limW k) (curE k) (curI k)) $$ HA1
  iintro HA1
  dsimp only [lookOut]
  iapply (call3 c X3 k (limW k) (curE k) (curI k)) $$ HA3
  iintro HA3
  dsimp only [lookOut]
  rw [wp_ret]; imodintro
  dsimp only
  rw [wp_bind, k0_part3_eq_skeleton]
  unfold k0_part3_skel
  simp only [Prog.lift, Prog.bind_op, Prog.bind_ret, Prog.pure_eq_ret]
  iapply (call2 c X2 k (limW k) (curE k) (curI k)) $$ HA2
  iintro HA2
  dsimp only [lookOut]
  icases HX with ⟨HFX, HIX⟩
  iapply (ifstartX c XS k (cond4_iff k) (off18_eq k) (off17_eq k) (off16_eq k)) $$ HIX
  iintro HNX
  iapply (ifwait1 c X1 k (cond5_iff k) (off19_eq k)) $$ [HW1 HO]
  · isplitl [HW1] <;> iassumption
  iintro ⟨HW1, HO⟩
  rw [wp_ret]; imodintro
  dsimp only
  rw [wp_bind, k0_part4_eq_skeleton]
  unfold k0_part4_skel
  simp only [Prog.lift, Prog.bind_op, Prog.bind_ret, Prog.pure_eq_ret, ite_self]
  iapply (ifwait3 c X3 k (cond6_iff k) (off22_eq k)) $$ [HW3 HO]
  · isplitl [HW3] <;> iassumption
  iintro ⟨HW3, HO⟩
  iapply (ifwait2 c X2 k (cond7_iff k) (off25_eq k)) $$ [HW2 HO]
  · isplitl [HW2] <;> iassumption
  iintro ⟨HW2, HO⟩
  iapply (ifwaitX c XS k (cond8_eq k) (off28_eq k)) $$ [HFX HO]
  · isplitl [HFX] <;> iassumption
  iintro ⟨HLX, HO⟩
  unfold main' L1 L3 L2 LX
  icases HLX with ⟨HLX, HZX⟩
  icases HW1 with ⟨HW1, HZ1⟩
  icases HW3 with ⟨HW3, HZ3⟩
  icases HW2 with ⟨HW2, HZ2⟩
  iapply (loadX c none (Ring.sl 2 k.val) _ shapeCasts_S1x544x1024_S544x1024 (off31_eq k)) $$ HLX
  iintro %wx %hx HLX
  iapply (load1 c none (Ring.sl 2 (k.val / 8)) _ shapeCasts_S1x1024x2048_S1024x2048 (off32_eq k)) $$ HW1
  iintro %wa %ha HW1
  rw [wp_ret]; imodintro
  dsimp only
  rw [wp_bind, k0_part5_eq_skeleton]
  unfold k0_part5_skel
  simp only [Prog.lift, Prog.bind_op, Prog.bind_ret, Prog.pure_eq_ret, ite_self]
  iapply (load3 c none (Ring.sl 2 (k.val / 8)) _ shapeCasts_S1x1024x2048_S1024x2048 (off33_eq k)) $$ HW3
  iintro %wb %hb HW3
  iapply (load2 c none (Ring.sl 2 (k.val / 8)) _ shapeCasts_S1x2048x1024_S2048x1024 (off34_eq k)) $$ HW2
  iintro %wd' %hd HW2
  icases HY with ⟨HOut, HTodo, ⟨HFr, HZY⟩, HLast⟩
  iapply (loadY c none (Ring.sl 2 k.val) (off35_eq k)) $$ HFr
  iintro %wy HFr
  iapply (storeY c none (Ring.sl 2 k.val) _ shapeCasts_S1x544x1024_S544x1024 (off35_eq k)) $$ HFr
  irw [pay_eq hx ha hb hd, ← hbv]
  iintro HYS
  rw [wp_ret]; imodintro
  dsimp only
  rw [wp_bind, k0_part6_eq_skeleton]
  unfold k0_part6_skel
  simp only [Prog.lift, Prog.bind_op, Prog.bind_ret, Prog.pure_eq_ret, ite_self]
  iapply (ifstartY c Y0 bv k (cond14_eq k) (off37_eq k) (off38_eq k) (off36_eq k)) $$ [HYS HZY HTodo]
  · isplitl [HYS]; · iexact HYS
    isplitl [HZY] <;> iassumption
  iintro ⟨HFY, HTodo⟩
  rw [wp_ret]; imodintro
  dsimp only
  try simp only [ite_self]
  iapply (ifwaitY c YF bv hY k (cond19_iff k) (off39_eq k)) $$ [HLast HOut HO]
  · isplitl [HLast]; · iexact HLast
    isplitl [HOut] <;> iassumption
  iintro ⟨HIY, HOut, HO⟩
  rw [wp_ret]; imodintro
  rw [wp_ret]; imodintro
  dsimp only
  iapply (of_words K (a := wordsAt (k.val + 1)))
  · unfold wordsAt
    simp only [Prod.mk.injEq]
    refine ⟨?_, ?_, ?_, ?_, ?_, ?_, ?_, ?_, ?_, ?_, ?_, ?_, ?_, ?_, ?_, ?_, ?_, ?_⟩ <;> (clear * -; revert k; decide +kernel)
  unfold wordsAt
  iapply Hk
  isplitl [HW1 HZ1 HA1]
  · iapply (ring_next (I1 c X1) (F1 c X1) (L1 c X1) (L1_I1 c X1) k.val hk)
    unfold main' L1
    isplitl [HW1 HZ1]
    · isplitl [HW1] <;> iassumption
    iexact HA1
  isplitl [HW3 HZ3 HA3]
  · iapply (ring_next (I3 c X3) (F3 c X3) (L3 c X3) (L3_I3 c X3) k.val hk)
    unfold main' L3
    isplitl [HW3 HZ3]
    · isplitl [HW3] <;> iassumption
    iexact HA3
  isplitl [HW2 HZ2 HA2]
  · iapply (ring_next (I2 c X2) (F2 c X2) (L2 c X2) (L2_I2 c X2) k.val hk)
    unfold main' L2
    isplitl [HW2 HZ2]
    · isplitl [HW2] <;> iassumption
    iexact HA2
  isplitl [HLX HZX HNX]
  · iapply (ringX_next c XS k.val hk)
    unfold LX
    isplitl [HLX HZX]
    · isplitl [HLX] <;> iassumption
    iexact HNX
  isplitr [HO]
  · iapply (ringY_mk c Y0 YF bv k.val)
    isplitl [HOut]; · iexact HOut
    isplitl [HTodo]; · iexact HTodo
    isplitl [HIY] <;> iassumption
  iexact HO
end

end Cert.Proof.Ffn
-- ==== Proof.Body.lean ====
module

public import proofs.«01_k».proof.Proof.Trip

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The kernel's body -/

/-- The kernel's body, its operands in place. -/
def bodyG : Prog (TpuEff nD τ sig (Elt F) (Λ₀ F) .tc) PUnit :=
  cc0_expert_ffn (F := F) xsM (Memref.isWhole_whole _) w1M (Memref.isWhole_whole _) w3M (Memref.isWhole_whole _) w2M (Memref.isWhole_whole _) yM (Memref.isWhole_whole _)
    w1B (Memref.isWhole_whole _) cc0_scoped1 w3B (Memref.isWhole_whole _) cc0_scoped3 w2B (Memref.isWhole_whole _) cc0_scoped5 xsB (Memref.isWhole_whole _) cc0_scoped7
    yB (Memref.isWhole_whole _) cc0_scoped9

section

variable (c : Dev nD) (X1 : Buf (Elt F) (w1M.view.loc (c : Thread nD τ))) (X3 : Buf (Elt F) (w3M.view.loc (c : Thread nD τ))) (X2 : Buf (Elt F) (w2M.view.loc (c : Thread nD τ)))
  (XS : Buf (Elt F) (xsM.view.loc (c : Thread nD τ))) (Y0 YF : Buf (Elt F) (yM.view.loc (c : Thread nD τ))) (bv : Fin 16 → Fin 8 → S544x1024.Idx → Elt F .bf16)

/-- Both slots of every ring idle. -/
def idle : sProp 𝕄 :=
  iprop((I1 c X1 0 ∗ I1 c X1 1) ∗ (I3 c X3 0 ∗ I3 c X3 1) ∗ (I2 c X2 0 ∗ I2 c X2 1) ∗ (IX c XS 0 ∗ IX c XS 1) ∗ (IY (F := F) c 0 ∗ IY c 1))

theorem sl0 : Ring.sl 2 0 = 0 := Fin.ext (by rfl)
theorem sl1 : Ring.sl 2 (0 + 1) = 1 := Fin.ext (by rfl)
theorem sl127 : Ring.sl 2 127 = 1 := Fin.ext (by rfl)
theorem sl128 : Ring.sl 2 128 = 0 := Fin.ext (by rfl)
theorem sl129 : Ring.sl 2 (128 + 1) = 1 := Fin.ext (by rfl)

/-- A weight's ring before the first trip, and past the last. -/
theorem ring_zero (I : Fin 2 → sProp (MT nD τ sig Unit (Elt F) ℕ (UU nD τ) ℕ)) (Fl L : Fin 2 → Fin 16 → sProp (MT nD τ sig Unit (Elt F) ℕ (UU nD τ) ℕ)) :
    ring I Fl L 0 = iprop(Fl 0 0 ∗ I 1) := by
  rw [ring_lt _ _ _ (by decide)]
  unfold main look
  rw [if_pos (by decide), if_pos (Or.inl (by decide))]
  rw [show Ring.sl 2 (0 / 8) = 0 from Fin.ext (by rfl), show Ring.sl 2 (0 / 8 + 1) = 1 from Fin.ext (by rfl), show eOf 0 = 0 from Fin.ext (by rfl)]
theorem ring_end (I : Fin 2 → sProp (MT nD τ sig Unit (Elt F) ℕ (UU nD τ) ℕ)) (Fl L : Fin 2 → Fin 16 → sProp (MT nD τ sig Unit (Elt F) ℕ (UU nD τ) ℕ)) :
    ring I Fl L 128 = iprop(I 0 ∗ I 1) := by unfold ring; rw [if_neg (by decide)]
theorem ringX_zero : ringX c XS 0 = iprop(FX c XS 0 ∗ IX c XS 1) := by unfold ringX; rw [if_pos (by decide), sl1]
theorem ringX_end : ringX c XS 128 = iprop(IX c XS 0 ∗ IX c XS 1) := by unfold ringX; rw [if_neg (by decide), sl128, sl129]
theorem ringY_end : ringY c Y0 YF bv 128 = iprop((yM.view.loc (c : Thread nD τ) ↦[outS 127]{fullShare} YF) ∗ (yM.view.loc (c : Thread nD τ) ↦[todoS 128]{fullShare} Y0)
    ∗ IY c 0 ∗ FY c bv 127) := by
  unfold ringY lastY; rw [if_neg (by decide), sl128]
theorem ringY_zero : iprop((yM.view.loc (c : Thread nD τ) ↦{fullShare} Y0) ∗ IY c 0 ∗ IY c 1) ⊢ ringY c Y0 YF bv 0 := by
  unfold ringY lastY; rw [if_pos rfl, sl0, sl1]
  have e0 : outS (0 - 1) = ∅ := Finset.eq_empty_of_forall_notMem fun i hi => by have := mem_outS.1 hi; omega
  have e1 : todoS 0 = Finset.univ := Finset.eq_univ_of_forall fun i => mem_todoS.2 (Nat.zero_le _)
  have h := (pointsTo_split_subset (Ix := Unit) (Name := ℕ) (U := UU nD τ) (Lvl := ℕ) (q := fullShare) (ℓ := yM.view.loc (c : Thread nD τ)) (f := Y0) (Finset.empty_subset Finset.univ)).1
  have e2 : (yM.view.loc (c : Thread nD τ) ↦[(∅ : Finset S16x8x544x1024.Idx)]{fullShare} Y0 : sProp 𝕄) = (yM.view.loc (c : Thread nD τ) ↦[(∅ : Finset S16x8x544x1024.Idx)]{fullShare} YF) :=
    pointsTo_congr (fun i hi => absurd hi (Finset.notMem_empty i))
  rw [e0, e1]
  rw [Finset.sdiff_empty] at h
  iintro ⟨H, Hi⟩
  ihave H2 := h $$ H
  icases H2 with ⟨Ha, Hb⟩
  isplitl [Ha]
  · rw [← e2]; iexact Ha
  isplitl [Hb]; · iexact Hb
  iexact Hi

theorem out_all : outS 128 = Finset.univ := Finset.eq_univ_of_forall fun i => mem_outS.2 (by
  have h0 : (i 0).val < 16 := (i 0).isLt
  have h1 : (i 1).val < 8 := (i 1).isLt
  unfold blk; omega)

theorem rings_zero : iprop((F1 c X1 0 0 ∗ I1 c X1 1) ∗ (F3 c X3 0 0 ∗ I3 c X3 1) ∗ (F2 c X2 0 0 ∗ I2 c X2 1) ∗ (FX c XS 0 ∗ IX c XS 1)
      ∗ ((yM.view.loc (c : Thread nD τ) ↦{fullShare} Y0) ∗ IY c 0 ∗ IY c 1) ∗ (∃ W, owes (c : Thread nD τ) 0 W)) ⊢ rings c X1 X3 X2 XS Y0 YF bv 0 := by
  unfold rings
  rw [ring_zero, ring_zero, ring_zero, ringX_zero]
  iintro ⟨Ha, Hb, Hc, Hd, He, Hf⟩
  isplitl [Ha]; · iexact Ha
  isplitl [Hb]; · iexact Hb
  isplitl [Hc]; · iexact Hc
  isplitl [Hd]; · iexact Hd
  isplitl [He]; · iapply (ringY_zero c Y0 YF bv); iexact He
  iexact Hf

theorem rings_end : rings c X1 X3 X2 XS Y0 YF bv 128 ⊢ iprop(((I1 c X1 0 ∗ I1 c X1 1) ∗ (I3 c X3 0 ∗ I3 c X3 1) ∗ (I2 c X2 0 ∗ I2 c X2 1) ∗ (IX c XS 0 ∗ IX c XS 1))
      ∗ (yM.view.loc (c : Thread nD τ) ↦[outS 127]{fullShare} YF) ∗ IY c 0 ∗ FY c bv 127 ∗ (∃ W, owes (c : Thread nD τ) 0 W)) := by
  unfold rings
  rw [ring_end, ring_end, ring_end, ringX_end, ringY_end]
  iintro ⟨Ha, Hb, Hc, Hd, ⟨He, -, Hg, Hh⟩, Hf⟩
  isplitl [Ha Hb Hc Hd]
  · isplitl [Ha]; · iexact Ha
    isplitl [Hb]; · iexact Hb
    isplitl [Hc]; · iexact Hc
    iexact Hd
  isplitl [He]; · iexact He
  isplitl [Hg]; · iexact Hg
  isplitl [Hh]; · iexact Hh
  iexact Hf

theorem off1_eq : k0_off1 = smOff 0 := by decide +kernel
theorem off2_eq : k0_off2 = slOff 0 := by decide +kernel
theorem off3_eq : k0_off3 = wOff 0 := by decide +kernel
theorem off4_eq : k0_off4 = slOff 0 := by decide +kernel
theorem off5_eq : k0_off5 = wOff 0 := by decide +kernel
theorem off6_eq : k0_off6 = slOff 0 := by decide +kernel
theorem off0_eq : (![0, 0, 0, 0] : Fin 4 → Nat) = tOff (eOf 0) (bOf 0) := by decide +kernel
theorem chk13 : k0_chk13 (nY 128) := by decide +kernel
theorem chk14 : k0_chk14 (gB 128) (gE 128) := by decide +kernel
theorem off42_eq : k0_off42 (nY 128) = smOff (Ring.sl 2 127) := by decide +kernel

theorem out_end (hY : ∀ e b, (yb e b).view.read (Elt F) YF = bv e b) :
    iprop(Holds c (yb (eOf 127) (bOf 127)) (bv (eOf 127) (bOf 127)) ∗ (yM.view.loc (c : Thread nD τ) ↦[outS 127]{fullShare} YF))
      ⊢ (yM.view.loc (c : Thread nD τ) ↦{fullShare} YF : sProp 𝕄) := by
  have h := out_put c YF bv 127 (by decide) hY
  rw [show 127 + 1 = 128 from rfl, out_all] at h
  exact h

/-- The loop's invariant. -/
def inv (k : ℕ) (acc : W18) : sProp 𝕄 := iprop(⌜acc = wordsAt k⌝ ∗ rings c X1 X3 X2 XS Y0 YF bv k)

theorem inv_step (hY : ∀ e b, (yb e b).view.read (Elt F) YF = bv e b)
    (hbv : ∀ e b, bv e b = ffnBlock ((xsb e b).view.read (Elt F) XS) ((w1b e).view.read (Elt F) X1) ((w3b e).view.read (Elt F) X3) ((w2b e).view.read (Elt F) X2))
    (k : TT) (acc : W18) : inv c X1 X3 X2 XS Y0 YF bv k.val acc
      ⊢ wp frame (wpE (defs₀ (F := F)) 𝒱₀ (c : Thread nD τ) none) Set.univ
        (k0_t1_body (F := F) xsM (Memref.isWhole_whole _) w1M (Memref.isWhole_whole _) w3M (Memref.isWhole_whole _) w2M (Memref.isWhole_whole _) yM (Memref.isWhole_whole _)
    w1B (Memref.isWhole_whole _) cc0_scoped1 w3B (Memref.isWhole_whole _) cc0_scoped3 w2B (Memref.isWhole_whole _) cc0_scoped5 xsB (Memref.isWhole_whole _) cc0_scoped7
    yB (Memref.isWhole_whole _) cc0_scoped9 1#32 1#32 k acc) (inv c X1 X3 X2 XS Y0 YF bv (k.val + 1)) := by
  have h := trip_run c X1 X3 X2 XS Y0 YF bv hY hbv k (inv c X1 X3 X2 XS Y0 YF bv (k.val + 1))
  unfold trip at h
  unfold inv at h ⊢
  iintro ⟨%e, H⟩
  subst e
  iapply h
  isplitl [H]; · iexact H
  iintro H
  isplitr; · ipureintro; rfl
  iexact H

theorem inv_last (acc : W18) : inv c X1 X3 X2 XS Y0 YF bv k0_t1_loop.trips acc ⊢ iprop(⌜acc = wordsAt 128⌝
      ∗ ((I1 c X1 0 ∗ I1 c X1 1) ∗ (I3 c X3 0 ∗ I3 c X3 1) ∗ (I2 c X2 0 ∗ I2 c X2 1) ∗ (IX c XS 0 ∗ IX c XS 1))
      ∗ (yM.view.loc (c : Thread nD τ) ↦[outS 127]{fullShare} YF) ∗ IY c 0 ∗ FY c bv 127 ∗ (∃ W, owes (c : Thread nD τ) 0 W)) := by
  rw [trips_eq]
  unfold inv
  iintro ⟨%e, H⟩
  isplitr; · ipureintro; exact e
  iapply (rings_end c X1 X3 X2 XS Y0 YF bv); iexact H

set_option pp.maxSteps 400 in
theorem body_run (hY : ∀ e b, (yb e b).view.read (Elt F) YF = bv e b)
    (hbv : ∀ e b, bv e b = ffnBlock ((xsb e b).view.read (Elt F) XS) ((w1b e).view.read (Elt F) X1) ((w3b e).view.read (Elt F) X3) ((w2b e).view.read (Elt F) X2))
    (K : PUnit → sProp 𝕄) :
    iprop((idle c X1 X3 X2 XS ∗ (yM.view.loc (c : Thread nD τ) ↦{fullShare} Y0) ∗ (∃ W, owes (c : Thread nD τ) 0 W))
        ∗ (iprop(idle c X1 X3 X2 XS ∗ (yM.view.loc (c : Thread nD τ) ↦{fullShare} YF) ∗ (∃ W, owes (c : Thread nD τ) 0 W)) -∗ K ⟨⟩))
      ⊢ wp frame (wpE (defs₀ (F := F)) 𝒱₀ (c : Thread nD τ) none) Set.univ (bodyG (F := F)) K := by
  unfold bodyG cc0_expert_ffn idle
  rw [wp_bind, k0_part8_eq_skeleton]
  unfold k0_part8_skel
  rw [Prog.pure_eq_ret]
  iintro ⟨⟨⟨⟨H10, H11⟩, ⟨H30, H31⟩, ⟨H20, H21⟩, ⟨HX0, HX1⟩, ⟨HY0, HY1⟩⟩, Hy, HO⟩, Hk⟩
  rw [wp_ret]; imodintro
  rw [wp_bind, k0_part9_eq_skeleton]
  unfold k0_part9_skel
  simp only [Prog.lift, Prog.bind_op, Prog.bind_ret, Prog.pure_eq_ret]
  iapply (start1 c X1 none 0 0 (w1b_congr off3_eq _ _) (w1s_congr off2_eq _ _) (congrArg (fun A : DmaSems sig S_ => A.sem) (sem_congr off1_eq _))) $$ H10
  iintro H10
  iapply (start3 c X3 none 0 0 (w3b_congr off3_eq _ _) (w3s_congr off2_eq _ _) (congrArg (fun A : DmaSems sig S_ => A.sem) (sem_congr off1_eq _))) $$ H30
  iintro H30
  rw [wp_ret]; imodintro
  dsimp only
  rw [wp_bind, k0_part10_eq_skeleton]
  unfold k0_part10_skel
  simp only [Prog.lift, Prog.bind_op, Prog.bind_ret, Prog.pure_eq_ret]
  iapply (start2 c X2 none 0 0 (w2b_congr off5_eq _ _) (w2s_congr off4_eq _ _) (congrArg (fun A : DmaSems sig S_ => A.sem) (sem_congr off1_eq _))) $$ H20
  iintro H20
  iapply (startX c XS none 0 (xsb_congr off0_eq _ _) (xss_congr off6_eq _ _) (congrArg (fun A : DmaSems sig S_ => A.sem) (sem_congr off1_eq _))) $$ HX0
  iintro HX0
  rw [wp_bind]
  iapply (Scf.wp_for frame (wpE (defs₀ (F := F)) 𝒱₀ (c : Thread nD τ) none) Set.univ _ _ _ _ _ _ (inv c X1 X3 X2 XS Y0 YF bv) (inv_step c X1 X3 X2 XS Y0 YF bv hY hbv))
  isplitl [H10 H11 H30 H31 H20 H21 HX0 HX1 HY0 HY1 Hy HO]
  · unfold inv
    isplitr; · ipureintro; rfl
    iapply (rings_zero c X1 X3 X2 XS Y0 YF bv)
    isplitl [H10 H11]; · isplitl [H10]; · iexact H10
                         iexact H11
    isplitl [H30 H31]; · isplitl [H30]; · iexact H30
                         iexact H31
    isplitl [H20 H21]; · isplitl [H20]; · iexact H20
                         iexact H21
    isplitl [HX0 HX1]; · isplitl [HX0]; · iexact HX0
                         iexact HX1
    isplitl [Hy HY0 HY1]; · isplitl [Hy]; · iexact Hy
                            isplitl [HY0]; · iexact HY0
                            iexact HY1
    iexact HO
  iintro %acc HI
  ihave HI := (inv_last c X1 X3 X2 XS Y0 YF bv acc) $$ HI
  icases HI with ⟨%e, HI⟩
  subst e
  icases HI with ⟨Hidle, Hy, HY0, HF, HO⟩
  dsimp only [wordsAt]
  iapply wp_assume 𝒱₀ (c : Thread nD τ) none Set.univ chk14
  iapply wp_assume 𝒱₀ (c : Thread nD τ) none Set.univ chk13
  rw [wp_ret]; imodintro
  dsimp only
  rw [wp_bind, k0_part11_eq_skeleton]
  unfold k0_part11_skel
  simp only [Prog.pure_eq_ret]
  rw [wp_ret]; imodintro
  iapply (awaitY c bv none 127 (congrArg (fun A : DmaSems sig S_ => A.sem) (sem_congr off42_eq _)) (by rfl)) $$ [HF HO]
  · isplitl [HF]; · iexact HF
    iexact HO
  iintro ⟨HY1, HB, HO⟩
  rw [sl127]
  rw [wp_ret]; imodintro
  iapply Hk
  isplitl [Hidle HY0 HY1]
  · icases Hidle with ⟨Ha, Hb, Hc, Hd⟩
    isplitl [Ha]; · iexact Ha
    isplitl [Hb]; · iexact Hb
    isplitl [Hc]; · iexact Hc
    isplitl [Hd]; · iexact Hd
    isplitl [HY0]; · iexact HY0
    iexact HY1
  isplitl [HB Hy]
  · iapply (out_end c YF bv hY)
    isplitl [HB]; · iexact HB
    iexact Hy
  iexact HO
end

end Cert.Proof.Ffn
-- ==== Proof.Slots.lean ====
module

public import proofs.«01_k».proof.Proof.Body

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## A buffer as its two slots -/

theorem bigSep_fin2 (Φ : Fin 2 → sProp (MT nD τ sig Unit (Elt F) ℕ (UU nD τ) ℕ)) : bigSep Finset.univ Φ = iprop(Φ 0 ∗ Φ 1) :=
  bigSep_univ_eq_bigSepL [(0 : Fin 2), (1 : Fin 2)] (by decide) (by decide) Φ

theorem of_prop {P Q : sProp (MT nD τ sig Unit (Elt F) ℕ (UU nD τ) ℕ)} (h : P = Q) : P ⊢ Q := by rw [h]

/-- A buffer whole, at anything, is its two slots, each at anything; and back. -/
theorem slots_split {ℓ : Loc nD τ sig} (J : Fin 2 → Finset (Idx ℓ)) (hd : ∀ i i', i ≠ i' → Disjoint (J i) (J i')) (hc : Finset.univ.biUnion J = Finset.univ) :
    iprop(∃ f : Buf (Elt F) ℓ, ℓ ↦{fullShare} f) ⊢ (iprop((∃ f : Buf (Elt F) ℓ, ℓ ↦[J 0]{fullShare} f) ∗ ∃ f : Buf (Elt F) ℓ, ℓ ↦[J 1]{fullShare} f) : sProp 𝕄) := by
  iintro ⟨%f, H⟩
  have e := (Ring.pointsTo_blocks (Ix := Unit) (Name := ℕ) (U := UU nD τ) (Lvl := ℕ) (q := fullShare) J hd hc f).trans (bigSep_fin2 _)
  ihave H2 := (of_prop e) $$ H
  icases H2 with ⟨H0, H1⟩
  isplitl [H0]
  · iexists f; iexact H0
  · iexists f; iexact H1
theorem slots_join {ℓ : Loc nD τ sig} (J : Fin 2 → Finset (Idx ℓ)) (hd : ∀ i i', i ≠ i' → Disjoint (J i) (J i')) (hc : Finset.univ.biUnion J = Finset.univ) :
    iprop((∃ f : Buf (Elt F) ℓ, ℓ ↦[J 0]{fullShare} f) ∗ ∃ f : Buf (Elt F) ℓ, ℓ ↦[J 1]{fullShare} f) ⊢ (iprop(∃ f : Buf (Elt F) ℓ, ℓ ↦{fullShare} f) : sProp 𝕄) := by
  iintro ⟨⟨%f0, H0⟩, H1⟩
  iapply (Ring.pointsTo_blocks_join_exists J hd hc f0)
  irw [bigSep_fin2]
  isplitl [H0]
  · iexists f0; iexact H0
  · iexact H1

/-- The elements of a slot: those whose first coordinate is the slot. -/
def JW (s : Fin 2) : Finset S2x1024x2048.Idx := (Rect.unit (s := S2x1024x2048) (slOff s) S1x1024x2048.size (slOff_inbW s)).set
def JV (s : Fin 2) : Finset S2x2048x1024.Idx := (Rect.unit (s := S2x2048x1024) (slOff s) S1x2048x1024.size (slOff_inbV s)).set
def JX (s : Fin 2) : Finset S2x544x1024.Idx := (Rect.unit (s := S2x544x1024) (slOff s) S1x544x1024.size (slOff_inbX s)).set

/-- Two element sets told apart by a coordinate below 2 are disjoint and cover. -/
theorem disj_of {T : Type} [DecidableEq T] (J : Fin 2 → Finset T) (p : T → ℕ) (h : ∀ s y, y ∈ J s ↔ p y = s.val) : ∀ i i', i ≠ i' → Disjoint (J i) (J i') := by
  intro s s' hne; rw [Finset.disjoint_left]; intro y hy hy'; rw [h] at hy hy'; exact hne (Fin.ext (hy.symm.trans hy'))
theorem cover_of {T : Type} [Fintype T] [DecidableEq T] (J : Fin 2 → Finset T) (p : T → ℕ) (h : ∀ s y, y ∈ J s ↔ p y = s.val) (hp : ∀ y, p y < 2) : Finset.univ.biUnion J = Finset.univ := by
  ext y; simp only [Finset.mem_biUnion, Finset.mem_univ, true_and, iff_true]; exact ⟨⟨p y, hp y⟩, (h _ _).2 rfl⟩

theorem mem_JW (s : Fin 2) (y : S2x1024x2048.Idx) : y ∈ JW s ↔ (y 0).val = s.val := by
  have h1 : (y 1).val < 1024 := (y 1).isLt
  have h2 : (y 2).val < 2048 := (y 2).isLt
  unfold JW
  rw [Rect.mem_set_unit]
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega

theorem mem_JV (s : Fin 2) (y : S2x2048x1024.Idx) : y ∈ JV s ↔ (y 0).val = s.val := by
  have h1 : (y 1).val < 2048 := (y 1).isLt
  have h2 : (y 2).val < 1024 := (y 2).isLt
  unfold JV
  rw [Rect.mem_set_unit]
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega

theorem mem_JX (s : Fin 2) (y : S2x544x1024.Idx) : y ∈ JX s ↔ (y 0).val = s.val := by
  have h1 : (y 1).val < 544 := (y 1).isLt
  have h2 : (y 2).val < 1024 := (y 2).isLt
  unfold JX
  rw [Rect.mem_set_unit]
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 544; omega
    · show 0 ≤ (y 2).val ∧ (y 2).val < 0 + 1024; omega

section

variable (c : Dev nD)

theorem free_w1 (s : Fin 2) : Free (F := F) c (w1s s) = iprop(∃ f : Buf (Elt F) (w1B.view.loc (c : Thread nD τ)), w1B.view.loc (c : Thread nD τ) ↦[JW s]{fullShare} f) :=
  congrArg (fun S => (iprop(∃ f : Buf (Elt F) (w1B.view.loc (c : Thread nD τ)), w1B.view.loc (c : Thread nD τ) ↦[S]{fullShare} f) : sProp 𝕄)) ((View.set_reshape _ _).trans (View.set_slice_whole _ _))
theorem w1_split : iprop(∃ f : Buf (Elt F) (w1B.view.loc (c : Thread nD τ)), w1B.view.loc (c : Thread nD τ) ↦{fullShare} f) ⊢ iprop(Free (F := F) c (w1s 0) ∗ Free (F := F) c (w1s 1)) := by
  rw [free_w1, free_w1]; exact slots_split (ℓ := w1B.view.loc (c : Thread nD τ)) JW (disj_of _ _ mem_JW) (cover_of _ _ mem_JW fun y => (y 0).isLt)
theorem w1_join : iprop(Free (F := F) c (w1s 0) ∗ Free (F := F) c (w1s 1)) ⊢ iprop(∃ f : Buf (Elt F) (w1B.view.loc (c : Thread nD τ)), w1B.view.loc (c : Thread nD τ) ↦{fullShare} f) := by
  rw [free_w1, free_w1]; exact slots_join (ℓ := w1B.view.loc (c : Thread nD τ)) JW (disj_of _ _ mem_JW) (cover_of _ _ mem_JW fun y => (y 0).isLt)

theorem free_w3 (s : Fin 2) : Free (F := F) c (w3s s) = iprop(∃ f : Buf (Elt F) (w3B.view.loc (c : Thread nD τ)), w3B.view.loc (c : Thread nD τ) ↦[JW s]{fullShare} f) :=
  congrArg (fun S => (iprop(∃ f : Buf (Elt F) (w3B.view.loc (c : Thread nD τ)), w3B.view.loc (c : Thread nD τ) ↦[S]{fullShare} f) : sProp 𝕄)) ((View.set_reshape _ _).trans (View.set_slice_whole _ _))
theorem w3_split : iprop(∃ f : Buf (Elt F) (w3B.view.loc (c : Thread nD τ)), w3B.view.loc (c : Thread nD τ) ↦{fullShare} f) ⊢ iprop(Free (F := F) c (w3s 0) ∗ Free (F := F) c (w3s 1)) := by
  rw [free_w3, free_w3]; exact slots_split (ℓ := w3B.view.loc (c : Thread nD τ)) JW (disj_of _ _ mem_JW) (cover_of _ _ mem_JW fun y => (y 0).isLt)
theorem w3_join : iprop(Free (F := F) c (w3s 0) ∗ Free (F := F) c (w3s 1)) ⊢ iprop(∃ f : Buf (Elt F) (w3B.view.loc (c : Thread nD τ)), w3B.view.loc (c : Thread nD τ) ↦{fullShare} f) := by
  rw [free_w3, free_w3]; exact slots_join (ℓ := w3B.view.loc (c : Thread nD τ)) JW (disj_of _ _ mem_JW) (cover_of _ _ mem_JW fun y => (y 0).isLt)

theorem free_w2 (s : Fin 2) : Free (F := F) c (w2s s) = iprop(∃ f : Buf (Elt F) (w2B.view.loc (c : Thread nD τ)), w2B.view.loc (c : Thread nD τ) ↦[JV s]{fullShare} f) :=
  congrArg (fun S => (iprop(∃ f : Buf (Elt F) (w2B.view.loc (c : Thread nD τ)), w2B.view.loc (c : Thread nD τ) ↦[S]{fullShare} f) : sProp 𝕄)) ((View.set_reshape _ _).trans (View.set_slice_whole _ _))
theorem w2_split : iprop(∃ f : Buf (Elt F) (w2B.view.loc (c : Thread nD τ)), w2B.view.loc (c : Thread nD τ) ↦{fullShare} f) ⊢ iprop(Free (F := F) c (w2s 0) ∗ Free (F := F) c (w2s 1)) := by
  rw [free_w2, free_w2]; exact slots_split (ℓ := w2B.view.loc (c : Thread nD τ)) JV (disj_of _ _ mem_JV) (cover_of _ _ mem_JV fun y => (y 0).isLt)
theorem w2_join : iprop(Free (F := F) c (w2s 0) ∗ Free (F := F) c (w2s 1)) ⊢ iprop(∃ f : Buf (Elt F) (w2B.view.loc (c : Thread nD τ)), w2B.view.loc (c : Thread nD τ) ↦{fullShare} f) := by
  rw [free_w2, free_w2]; exact slots_join (ℓ := w2B.view.loc (c : Thread nD τ)) JV (disj_of _ _ mem_JV) (cover_of _ _ mem_JV fun y => (y 0).isLt)

theorem free_xs (s : Fin 2) : Free (F := F) c (xss s) = iprop(∃ f : Buf (Elt F) (xsB.view.loc (c : Thread nD τ)), xsB.view.loc (c : Thread nD τ) ↦[JX s]{fullShare} f) :=
  congrArg (fun S => (iprop(∃ f : Buf (Elt F) (xsB.view.loc (c : Thread nD τ)), xsB.view.loc (c : Thread nD τ) ↦[S]{fullShare} f) : sProp 𝕄)) ((View.set_reshape _ _).trans (View.set_slice_whole _ _))
theorem xs_split : iprop(∃ f : Buf (Elt F) (xsB.view.loc (c : Thread nD τ)), xsB.view.loc (c : Thread nD τ) ↦{fullShare} f) ⊢ iprop(Free (F := F) c (xss 0) ∗ Free (F := F) c (xss 1)) := by
  rw [free_xs, free_xs]; exact slots_split (ℓ := xsB.view.loc (c : Thread nD τ)) JX (disj_of _ _ mem_JX) (cover_of _ _ mem_JX fun y => (y 0).isLt)
theorem xs_join : iprop(Free (F := F) c (xss 0) ∗ Free (F := F) c (xss 1)) ⊢ iprop(∃ f : Buf (Elt F) (xsB.view.loc (c : Thread nD τ)), xsB.view.loc (c : Thread nD τ) ↦{fullShare} f) := by
  rw [free_xs, free_xs]; exact slots_join (ℓ := xsB.view.loc (c : Thread nD τ)) JX (disj_of _ _ mem_JX) (cover_of _ _ mem_JX fun y => (y 0).isLt)

theorem free_y (s : Fin 2) : Free (F := F) c (ys s) = iprop(∃ f : Buf (Elt F) (yB.view.loc (c : Thread nD τ)), yB.view.loc (c : Thread nD τ) ↦[JX s]{fullShare} f) :=
  congrArg (fun S => (iprop(∃ f : Buf (Elt F) (yB.view.loc (c : Thread nD τ)), yB.view.loc (c : Thread nD τ) ↦[S]{fullShare} f) : sProp 𝕄)) ((View.set_reshape _ _).trans (View.set_slice_whole _ _))
theorem y_split : iprop(∃ f : Buf (Elt F) (yB.view.loc (c : Thread nD τ)), yB.view.loc (c : Thread nD τ) ↦{fullShare} f) ⊢ iprop(Free (F := F) c (ys 0) ∗ Free (F := F) c (ys 1)) := by
  rw [free_y, free_y]; exact slots_split (ℓ := yB.view.loc (c : Thread nD τ)) JX (disj_of _ _ mem_JX) (cover_of _ _ mem_JX fun y => (y 0).isLt)
theorem y_join : iprop(Free (F := F) c (ys 0) ∗ Free (F := F) c (ys 1)) ⊢ iprop(∃ f : Buf (Elt F) (yB.view.loc (c : Thread nD τ)), yB.view.loc (c : Thread nD τ) ↦{fullShare} f) := by
  rw [free_y, free_y]; exact slots_join (ℓ := yB.view.loc (c : Thread nD τ)) JX (disj_of _ _ mem_JX) (cover_of _ _ mem_JX fun y => (y 0).isLt)

/-- An array whole is its two halves, one per slot. -/
theorem halves {ℓ : Loc nD τ sig} (f : Buf (Elt F) ℓ) : (ℓ ↦{fullShare} f : sProp 𝕄) ⊣⊢ iprop((ℓ ↦{sh 0} f) ∗ (ℓ ↦{sh 1} f)) :=
  pointsTo_share (PosShare.mem_left_op_right fullShare)

end

/-- The kernel's own semaphores: two of each ring. -/
def osem : Fin 10 → SemLoc sig
  | 0 => .dma (w1c 0).sem | 1 => .dma (w1c 1).sem | 2 => .dma (w3c 0).sem | 3 => .dma (w3c 1).sem | 4 => .dma (w2c 0).sem | 5 => .dma (w2c 1).sem
  | 6 => .dma (xsc 0).sem | 7 => .dma (xsc 1).sem | 8 => .dma (yc 0).sem | 9 => .dma (yc 1).sem
theorem ownSemFacts : Pipeline.OwnSemFacts ((cfg0 (F := F)).spec) osem := of_decide_eq_true (by rfl)

theorem ownSems0_eq (c : Dev nD) : (Pipeline.ownSems0 (Ix := Unit) (Name := ℕ) (U := UU nD τ) (Lvl := ℕ) (Val := Elt F) (τ := τ) osem c : sProp 𝕄)
    = iprop(Zero (F := F) c (w1c 0) ∗ Zero (F := F) c (w1c 1) ∗ Zero (F := F) c (w3c 0) ∗ Zero (F := F) c (w3c 1) ∗ Zero (F := F) c (w2c 0) ∗ Zero (F := F) c (w2c 1)
      ∗ Zero (F := F) c (xsc 0) ∗ Zero (F := F) c (xsc 1) ∗ Zero (F := F) c (yc 0) ∗ Zero (F := F) c (yc 1)) :=
  bigSep_univ_eq_bigSepL [(0 : Fin 10), 1, 2, 3, 4, 5, 6, 7, 8, 9] (by decide) (by decide) _

end Cert.Proof.Ffn
-- ==== Proof.Run.lean ====
module

public import proofs.«01_k».proof.Proof.Slots
public import Idealize.ShloMosaic.Lib.ValueLayout

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! ## What the kernel computes -/

section

variable (m : (ℓ : Loc nD τ sig) → Buf (Elt F) ℓ) (ρ : Dev nD → PrngReg)

/-- Block `e`, `b` of the result: the feed-forward of the token block by expert `e`'s three weights. -/
def bvOf (c : Dev nD) (e : Fin 16) (b : Fin 8) : S544x1024.Idx → Elt F .bf16 :=
  ffnBlock ((xsb e b).view.read (Elt F) (m ((c : Thread nD τ).loc main_arg0))) ((w1b e).view.read (Elt F) (m ((c : Thread nD τ).loc main_arg1)))
    ((w3b e).view.read (Elt F) (m ((c : Thread nD τ).loc main_arg2))) ((w2b e).view.read (Elt F) (m ((c : Thread nD τ).loc main_arg3)))
/-- The result, of its blocks. -/
def YF (c : Dev nD) : Buf (Elt F) ((c : Thread nD τ).loc main_v0) := fun (i : S16x8x544x1024.Idx) => bvOf m c (i 0) (i 1) (ix2 (i 2) (i 3))

/-- An index of a block, in the array. -/
theorem emb_block {A B a b p q : ℕ} (hp : p < A) (hq : q < B)
    (inb : ∀ t, (![p, q, 0, 0] : Fin 4 → ℕ) t + (⟨4, ![1, 1, a, b]⟩ : Shape).size t ≤ (⟨4, ![A, B, a, b]⟩ : Shape).size t) (x : Fin a) (y : Fin b) :
    (Rect.unit (s := ⟨4, ![A, B, a, b]⟩) ![p, q, 0, 0] (⟨4, ![1, 1, a, b]⟩ : Shape).size inb).emb (ix4 (⟨0, Nat.one_pos⟩ : Fin 1) (⟨0, Nat.one_pos⟩ : Fin 1) x y)
      = ix4 ⟨p, hp⟩ ⟨q, hq⟩ x y := by
  funext t
  refine Fin.ext ?_
  fin_cases t
  · show p + 1 * 0 = p; omega
  · show q + 1 * 0 = q; omega
  · show 0 + 1 * x.val = x.val; omega
  · show 0 + 1 * y.val = y.val; omega

theorem yb_read (e : Fin 16) (b : Fin 8) (f : S16x8x544x1024.Idx → Elt F .bf16) (x : Fin 544) (y : Fin 1024) :
    (yb e b).view.read (Elt F) f (ix2 x y) = f (ix4 e b x y) :=
  congrArg f ((congrArg _ (reshapeEquiv_ix2_11ab _ x y)).trans (emb_block e.isLt b.isLt _ x y))

theorem YF_block (c : Dev nD) (e : Fin 16) (b : Fin 8) : (yb e b).view.read (Elt F) (YF m c) = bvOf m c e b := by
  funext j
  have hj : j = ix2 (j 0) (j 1) := eq_ix2 j
  rw [hj]
  exact yb_read e b (YF m c) (j 0) (j 1)

/-! ## The call's one point -/

/-- What the body holds beside its `owes`: every slot idle, the result's array at `Y`. -/
def Φ (c : Dev nD) (Y : Buf (Elt F) ((c : Thread nD τ).loc main_v0)) : sProp 𝕄 :=
  iprop(idle c (m ((c : Thread nD τ).loc main_arg1)) (m ((c : Thread nD τ).loc main_arg2)) (m ((c : Thread nD τ).loc main_arg3)) (m ((c : Thread nD τ).loc main_arg0))
    ∗ (yM.view.loc (c : Thread nD τ) ↦{fullShare} Y))

def dats (_ : Fin 1) (c : Dev nD) : Dat τ (Elt F) Unit ℕ (UU nD τ) ℕ (cfg0 (F := F)) c where
  A w := w.elim0
  after w _ := w.elim0
  Φ t := Φ m c (if t.val = 0 then m ((c : Thread nD τ).loc main_v0) else YF m c)
  q _ := fullShare
  owed _ := 0

theorem Φ_first (c : Dev nD) (t : Fin (cfg0 (F := F)).N) : (dats (F := F) m 0 c).Φ t.castSucc = Φ m c (m ((c : Thread nD τ).loc main_v0)) := by
  rw [fin_N0 t]; exact congrArg (Φ m c) (if_pos rfl)
theorem Φ_next (c : Dev nD) (t : Fin (cfg0 (F := F)).N) : (dats (F := F) m 0 c).Φ t.succ = Φ m c (YF m c) := by
  rw [fin_N0 t]; exact congrArg (Φ m c) (if_neg (Nat.succ_ne_zero _))
theorem Φ_zero (c : Dev nD) : (dats (F := F) m 0 c).Φ 0 = Φ m c (m ((c : Thread nD τ).loc main_v0)) := congrArg (Φ m c) (if_pos rfl)
theorem Φ_last (c : Dev nD) : (dats (F := F) m 0 c).Φ (Fin.last _) = Φ m c (YF m c) := congrArg (Φ m c) (if_neg (Nat.succ_ne_zero _))

theorem defs_tc : (defs₀ (F := F)) .tc (cfg0 (F := F)).body = fun _ => bodyG (F := F) := rfl
theorem prog_eq (t : Fin (cfg0 (F := F)).N) : (defs₀ (F := F)) .tc (cfg0 (F := F)).body ((cfg0 (F := F)).bodyArgs t ((cfg0 (F := F)).slots t)) = bodyG :=
  (congrFun defs_tc _).trans rfl

theorem bigSep_none (Ψ : Fin (cfg0 (F := F)).W → sProp 𝕄) : bigSep Finset.univ Ψ = iprop(emp) := bigSep_empty

set_option backward.isDefEq.respectTransparency.types false in
theorem body_obligation (c : Dev nD) : BodyObligation (dats (F := F) m 0 c) (defs₀ (F := F)) 𝒱₀ () Set.univ := fun t => by
  rw [bigSep_none, bigSep_none]
  dsimp only
  rw [Φ_first, Φ_next]
  unfold Dat.owesAt Pipeline.owesWithin
  rw [show (dats (F := F) m 0 c).owed t.castSucc = 0 from rfl, show (dats (F := F) m 0 c).owed t.succ = 0 from rfl]
  unfold Φ
  iintro ⟨⟨Hi, Hy⟩, ⟨%W, -, HW⟩, -⟩
  sl_rw [prog_eq t]
  iapply (body_run c _ _ _ _ (m ((c : Thread nD τ).loc main_v0)) (YF m c) (bvOf m c) (YF_block m c) (fun _ _ => rfl))
  isplitl [Hi Hy HW]
  · isplitl [Hi]; · iexact Hi
    isplitl [Hy]; · iexact Hy
    iexists W; iexact HW
  · iintro ⟨Hi, Hy, ⟨%W', HW⟩⟩
    isplitl [Hi Hy]
    · isplitl [Hi]; · iexact Hi
      iexact Hy
    isplitl [HW]
    · iexists W'; isplitr; · ipureintro; exact fun _ _ => Or.inl trivial
      iexact HW
    iempintro

/-! ## The run -/

/-- The arrays whole, the result's at `Y`. -/
def arrs (c : Dev nD) (Y : Buf (Elt F) ((c : Thread nD τ).loc main_v0)) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_arg3) ↦{fullShare} m ((c : Thread nD τ).loc main_arg3))
    ∗ (((c : Thread nD τ).loc main_v0) ↦{fullShare} Y))
def u₀ : UU nD τ := (initOf (Pipeline.cells (cfgs (F := F)) cellOf_inj) (Pipeline.launchToks (cfgs (F := F)) cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v0) = YF m c

/-- Arrays, semaphores and buffers make the idle rings; -/
theorem enter (c : Dev nD) (Y : Buf (Elt F) ((c : Thread nD τ).loc main_v0)) :
    iprop((arrs m c Y ∗ Pipeline.ownSems0 osem c) ∗ Pipeline.scopedRest ((cfg0 (F := F)).spec) c) ⊢ Φ m c Y := by
  rw [scopedRest0_eq, ownSems0_eq]
  unfold arrs Φ idle I1 I3 I2 IX IY
  iintro ⟨⟨⟨Ax, A1, A3, A2, Ay⟩, ⟨Z10, Z11, Z30, Z31, Z20, Z21, Zx0, Zx1, Zy0, Zy1⟩⟩, ⟨B1, B3, B2, Bx, By⟩⟩
  ihave A := (halves _).1 $$ A1; icases A with ⟨A10, A11⟩
  ihave A := (halves _).1 $$ A3; icases A with ⟨A30, A31⟩
  ihave A := (halves _).1 $$ A2; icases A with ⟨A20, A21⟩
  ihave A := (halves _).1 $$ Ax; icases A with ⟨Ax0, Ax1⟩
  ihave B := (w1_split c) $$ B1; icases B with ⟨B10, B11⟩
  ihave B := (w3_split c) $$ B3; icases B with ⟨B30, B31⟩
  ihave B := (w2_split c) $$ B2; icases B with ⟨B20, B21⟩
  ihave B := (xs_split c) $$ Bx; icases B with ⟨Bx0, Bx1⟩
  ihave B := (y_split c) $$ By; icases B with ⟨By0, By1⟩
  isplitr [Ay]
  · isplitl [A10 A11 B10 B11 Z10 Z11]
    · isplitl [A10 B10 Z10]
      · isplitl [B10]; · iexact B10
        isplitl [Z10]; · iexact Z10
        iexact A10
      · isplitl [B11]; · iexact B11
        isplitl [Z11]; · iexact Z11
        iexact A11
    isplitl [A30 A31 B30 B31 Z30 Z31]
    · isplitl [A30 B30 Z30]
      · isplitl [B30]; · iexact B30
        isplitl [Z30]; · iexact Z30
        iexact A30
      · isplitl [B31]; · iexact B31
        isplitl [Z31]; · iexact Z31
        iexact A31
    isplitl [A20 A21 B20 B21 Z20 Z21]
    · isplitl [A20 B20 Z20]
      · isplitl [B20]; · iexact B20
        isplitl [Z20]; · iexact Z20
        iexact A20
      · isplitl [B21]; · iexact B21
        isplitl [Z21]; · iexact Z21
        iexact A21
    isplitl [Ax0 Ax1 Bx0 Bx1 Zx0 Zx1]
    · isplitl [Ax0 Bx0 Zx0]
      · isplitl [Bx0]; · iexact Bx0
        isplitl [Zx0]; · iexact Zx0
        iexact Ax0
      · isplitl [Bx1]; · iexact Bx1
        isplitl [Zx1]; · iexact Zx1
        iexact Ax1
    isplitl [By0 Zy0]
    · isplitl [By0]; · iexact By0
      iexact Zy0
    · isplitl [By1]; · iexact By1
      iexact Zy1
  iexact Ay

/-- and the idle rings give them back. -/
theorem leave (c : Dev nD) (Y : Buf (Elt F) ((c : Thread nD τ).loc main_v0)) :
    Φ m c Y ⊢ iprop(arrs m c Y ∗ Pipeline.ownSems0 osem c ∗ Pipeline.scopedRest ((cfg0 (F := F)).spec) c) := by
  rw [scopedRest0_eq, ownSems0_eq]
  unfold arrs Φ idle I1 I3 I2 IX IY
  iintro ⟨⟨⟨⟨B10, Z10, A10⟩, ⟨B11, Z11, A11⟩⟩, ⟨⟨B30, Z30, A30⟩, ⟨B31, Z31, A31⟩⟩, ⟨⟨B20, Z20, A20⟩, ⟨B21, Z21, A21⟩⟩, ⟨⟨Bx0, Zx0, Ax0⟩, ⟨Bx1, Zx1, Ax1⟩⟩, ⟨⟨By0, Zy0⟩, ⟨By1, Zy1⟩⟩⟩, Ay⟩
  ihave B1 := (w1_join c) $$ [B10 B11]; · isplitl [B10]; · iexact B10
                                          iexact B11
  ihave B3 := (w3_join c) $$ [B30 B31]; · isplitl [B30]; · iexact B30
                                          iexact B31
  ihave B2 := (w2_join c) $$ [B20 B21]; · isplitl [B20]; · iexact B20
                                          iexact B21
  ihave Bx := (xs_join c) $$ [Bx0 Bx1]; · isplitl [Bx0]; · iexact Bx0
                                          iexact Bx1
  ihave By := (y_join c) $$ [By0 By1]; · isplitl [By0]; · iexact By0
                                         iexact By1
  isplitl [A10 A11 A30 A31 A20 A21 Ax0 Ax1 Ay]
  · isplitl [Ax0 Ax1]
    · iapply (halves _).2; isplitl [Ax0]; · iexact Ax0
      iexact Ax1
    isplitl [A10 A11]
    · iapply (halves _).2; isplitl [A10]; · iexact A10
      iexact A11
    isplitl [A30 A31]
    · iapply (halves _).2; isplitl [A30]; · iexact A30
      iexact A31
    isplitl [A20 A21]
    · iapply (halves _).2; isplitl [A20]; · iexact A20
      iexact A21
    iexact Ay
  isplitl [Z10 Z11 Z30 Z31 Z20 Z21 Zx0 Zx1 Zy0 Zy1]
  · isplitl [Z10]; · iexact Z10
    isplitl [Z11]; · iexact Z11
    isplitl [Z30]; · iexact Z30
    isplitl [Z31]; · iexact Z31
    isplitl [Z20]; · iexact Z20
    isplitl [Z21]; · iexact Z21
    isplitl [Zx0]; · iexact Zx0
    isplitl [Zx1]; · iexact Zx1
    isplitl [Zy0]; · iexact Zy0
    iexact Zy1
  isplitl [B1]; · iexact B1
  isplitl [B3]; · iexact B3
  isplitl [B2]; · iexact B2
  isplitl [Bx]; · iexact Bx
  iexact By

set_option backward.isDefEq.respectTransparency.types false in
/-- From any memory with zero counters, for any float values: every weakly fair execution of @main on the
    TensorCores terminates, and every final state has the result at the feed-forward's blocks, the arguments
    unchanged, every semaphore counter at zero. -/
theorem run_main : θ_run (defs (F := F)) (onTc (τ := τ) (Cert.KernelIdeal.main (F := F))) ⟨m, fun _ => 0, ρ⟩ (fun r => (∀ c : Dev nD, QY m c r.2) ∧ r.2.sem = fun _ => 0) :=
  Pipeline.θ_run_region_kit_quiescent (cfgs (F := F)) (dats m) () (0 : Fin 1) launch0 ownSemFacts EP defs₀ 𝒱₀ m ρ Cert.KernelIdeal.main
    (hbody := fun c => (body_obligation m c).loose) (hshare := fun c w => w.elim0)
    (howed := fun _ _ => rfl)
    (G := fun _ => iprop(emp)) (u₀ := u₀ (F := F))
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [Cert.KernelIdeal.main, Prog.lift, Prog.bind_op, Prog.bind_ret]
      iintro ⟨Hk, Hb⟩; iapply Hk; iexact Hb)
    (hA := fun _ w => w.elim0)
    (X := fun c => iprop(arrs m c (m ((c : Thread nD τ).loc main_v0)) ∗ Pipeline.ownSems0 osem c)) (Y := fun c => arrs m c (YF m c)) (Z := fun _ => iprop(emp))
    (hX := fun c => by
      rw [unscopedRest0_eq]
      unfold arrs
      iintro ⟨HA, HS, -, -, -⟩; imodintro
      isplitl [HA HS]
      · isplitl [HA]; · iexact HA
        iexact HS
      iempintro)
    (hin := fun c => by rw [Φ_zero]; exact enter m c _)
    (hout := fun c => by rw [Φ_last]; exact leave m c _)
    (QY := QY m)
    (hY := fun c s' => by
      unfold arrs
      iintro ⟨⟨H0, H1, H2, H3, H4⟩, -, HSI⟩
      icombine HSI H0 gives %h0
      icombine HSI H1 gives %h1
      icombine HSI H2 gives %h2
      icombine HSI H3 gives %h3
      icombine HSI H4 gives %h4
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4⟩
      iexact HSI)
    (hQ := fun _ hh hz => ⟨fun c => (hh c).2, hz⟩)

end

/-- The frame at the ideal instance. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩) (run_main (F := Ideal) m ρ)
end Cert.Proof.Ffn
-- ==== Proof.Value.lean ====
module

public import proofs.«01_k».proof.Proof.Run
public import proofs.«01_k».proof.Proof.Gen.ReferenceIdeal.Run
public import Idealize.ShloMosaic.Lib.ValueIdx
public import Idealize.ShloMosaic.Lib.ValueLayout
public import Idealize.ShloMosaic.Lib.MatmulPlain
public import Idealize.ShloMosaic.Lib.IdealHost

@[expose] public section

noncomputable section

namespace Cert.Proof.Ffn

open Idealize.ShloMosaic Idealize.ShloMosaic.TcCoe Idealize.SL.Sem Idealize.ShloMosaic.ValueIdx
open Cert.KernelIdeal (S544x1024 S1024x2048 S544x2048 S2048x1024 nD τ sig main_arg0 main_arg1 main_arg2 main_arg3 main_v0)

/-! ## The reference's batched product, at an index

Expert by expert, every block of tokens times the expert's matrix. -/

section

variable {E B T K N : ℕ}
  (w : DotDims.WF ⟨4, ![E, B, T, K]⟩ ⟨3, ![E, K, N]⟩ ⟨4, ![E, B, T, N]⟩ [3] [1] [1, 2] [2] [0] [0])

theorem expertDot_apply {φ₁ φ₂ : FTy} (prec : Option ContractPrecision) (X : FVec Ideal ⟨4, ![E, B, T, K]⟩ φ₁) (W : FVec Ideal ⟨3, ![E, K, N]⟩ φ₂)
    (e : Fin E) (b : Fin B) (t : Fin T) (n : Fin N) :
    Host.dotGeneral (⟨[3], [1], [1, 2], [2], [0], [0], w⟩ : DotDims _ _ _) prec X W (ix4 e b t n) = ∑ k : Fin K, X (ix4 e b t k) * W (ix3 e k n) := by
  show FloatOps.dotGeneral _ prec _ X W (ix4 e b t n) = _
  rw [Ideal.dotGeneral_apply, ← Equiv.sum_comp (contrEquiv1 (⟨[3], [1], [1, 2], [2], [0], [0], w⟩ : DotDims _ _ _) K rfl rfl).symm]
  refine Finset.sum_congr rfl fun k _ => ?_
  have hk := contrEquiv1_symm_val (⟨[3], [1], [1, 2], [2], [0], [0], w⟩ : DotDims ⟨4, ![E, B, T, K]⟩ ⟨3, ![E, K, N]⟩ ⟨4, ![E, B, T, N]⟩) K rfl rfl k
  refine congrArg₂ (· * ·) (congrArg X ?_) (congrArg W ?_)
  · funext a; apply Fin.ext
    match a with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact hk
  · funext a; apply Fin.ext
    match a with
    | ⟨0, _⟩ => simp [DotDims.rhsIdx]; rfl
    | ⟨1, _⟩ => simp [DotDims.rhsIdx]; exact hk
    | ⟨2, _⟩ => simp [DotDims.rhsIdx]; rfl

end

/-! ## The feed-forward at one element, over the extended reals -/

/-- The gated activation of two pre-activations. -/
def act (g u : EReal) : EReal := g * Ideal.div 1 (1 + FloatOps.exp (F := Ideal) (φ := .f32) (-g)) * u

/-- One element of a token's feed-forward: the token's row, the two up matrices, one column of the down matrix. -/
def ffnAt (x : Fin 1024 → EReal) (a b : Fin 1024 → Fin 2048 → EReal) (d : Fin 2048 → EReal) : EReal :=
  ∑ f : Fin 2048, act (∑ k : Fin 1024, x k * a k f) (∑ k : Fin 1024, x k * b k f) * d f

theorem matmul_zero_apply {M K N : ℕ} (d : DotDims ⟨2, ![M, K]⟩ ⟨2, ![K, N]⟩ ⟨2, ![M, N]⟩) (hd : d = DotDims.plain M K N) {φ₁ φ₂ : FTy}
    (x : FVec Ideal ⟨2, ![M, K]⟩ φ₁) (y : FVec Ideal ⟨2, ![K, N]⟩ φ₂) (r : Fin M) (c : Fin N) :
    matmul d none x y (constant ⟨2, ![M, N]⟩ .f32 0x00000000#32) (ix2 r c) = ∑ k : Fin K, x (ix2 r k) * y (ix2 k c) := by
  subst hd
  simp only [matmul]
  rw [Ideal.matmul_plain_apply]
  show Ideal.ofBits .f32 0x00000000#32 + _ = _
  rw [Ideal.ofBits_zero_f32, zero_add]

/-- The kernel's activation at an element. -/
theorem act_kernel {s : Shape} (g u : FVec Ideal s .f32) (i : s.Idx) :
    mulf (mulf g (divf (broadcast s (Scalar.ofBits .f32 0x3F800000#32))
      (addf (broadcast s (Scalar.ofBits .f32 0x3F800000#32)) (exp (subf (broadcast s (Scalar.ofBits .f32 0x00000000#32)) g))))) u i = act (g i) (u i) := by
  show g i * Ideal.div (Ideal.ofBits .f32 0x3F800000#32)
    (Ideal.ofBits .f32 0x3F800000#32 + FloatOps.exp (F := Ideal) (φ := .f32) (Ideal.ofBits .f32 0x00000000#32 - g i)) * u i = _
  rw [Ideal.ofBits_one_f32, Ideal.ofBits_zero_f32, zero_sub]
  rfl

/-- The reference's activation at an element. -/
theorem act_reference {s : Shape} (h : (⟨0, ![]⟩ : Shape).BroadcastsInDim s ![]) (g u : FVec Ideal s .f32) (i : s.Idx) :
    mulf (mulf g (Host.divf (broadcastInDim s ![] h (constant ⟨0, ![]⟩ .f32 0x3F800000#32))
      (addf (broadcastInDim s ![] h (constant ⟨0, ![]⟩ .f32 0x3F800000#32)) (Host.exp (Host.negf g))))) u i = act (g i) (u i) := by
  show g i * Ideal.div (broadcastInDim s ![] h (constant (F := Ideal) ⟨0, ![]⟩ .f32 0x3F800000#32) i)
    (broadcastInDim s ![] h (constant (F := Ideal) ⟨0, ![]⟩ .f32 0x3F800000#32) i + FloatOps.exp (F := Ideal) (φ := .f32) (-(g i))) * u i = _
  rw [broadcastInDim_scalar_apply]
  show g i * Ideal.div (Ideal.ofBits .f32 0x3F800000#32) (Ideal.ofBits .f32 0x3F800000#32 + _) * u i = _
  rw [Ideal.ofBits_one_f32]
  rfl

/-- The kernel's block at an element. -/
theorem ffnBlock_apply (x : FVec Ideal S544x1024 .bf16) (a b : FVec Ideal S1024x2048 .f32) (d : FVec Ideal S2048x1024 .f32) (t : Fin 544) (n : Fin 1024) :
    ffnBlock x a b d (ix2 t n) = ffnAt (fun k => x (ix2 t k)) (fun k f => a (ix2 k f)) (fun k f => b (ix2 k f)) (fun f => d (ix2 f n)) := by
  unfold ffnBlock ffnAt
  refine (matmul_zero_apply _ rfl _ _ t n).trans (Finset.sum_congr rfl fun f _ => congrArg (· * d (ix2 f n)) ?_)
  refine (act_kernel _ _ (ix2 t f)).trans ?_
  exact congrArg₂ act (matmul_zero_apply _ rfl _ _ t f) (matmul_zero_apply _ rfl _ _ t f)

/-! ## The operands' blocks, read at an element -/

theorem xsb_read (e : Fin 16) (b : Fin 8) (f : (⟨4, ![16, 8, 544, 1024]⟩ : Shape).Idx → Elt Ideal .bf16) (x : Fin 544) (y : Fin 1024) :
    (xsb e b).view.read (Elt Ideal) f (ix2 x y) = f (ix4 e b x y) :=
  congrArg f ((congrArg _ (reshapeEquiv_ix2_11ab _ x y)).trans (emb_block e.isLt b.isLt _ x y))
theorem w1b_read (e : Fin 16) (f : (⟨4, ![4, 16, 1024, 2048]⟩ : Shape).Idx → Elt Ideal .f32) (x : Fin 1024) (y : Fin 2048) :
    (w1b e).view.read (Elt Ideal) f (ix2 x y) = f (ix4 0 e x y) :=
  congrArg f ((congrArg _ (reshapeEquiv_ix2_11ab _ x y)).trans (emb_block (p := 0) (by decide) e.isLt _ x y))
theorem w3b_read (e : Fin 16) (f : (⟨4, ![4, 16, 1024, 2048]⟩ : Shape).Idx → Elt Ideal .f32) (x : Fin 1024) (y : Fin 2048) :
    (w3b e).view.read (Elt Ideal) f (ix2 x y) = f (ix4 0 e x y) :=
  congrArg f ((congrArg _ (reshapeEquiv_ix2_11ab _ x y)).trans (emb_block (p := 0) (by decide) e.isLt _ x y))
theorem w2b_read (e : Fin 16) (f : (⟨4, ![4, 16, 2048, 1024]⟩ : Shape).Idx → Elt Ideal .f32) (x : Fin 2048) (y : Fin 1024) :
    (w2b e).view.read (Elt Ideal) f (ix2 x y) = f (ix4 0 e x y) :=
  congrArg f ((congrArg _ (reshapeEquiv_ix2_11ab _ x y)).trans (emb_block (p := 0) (by decide) e.isLt _ x y))

/-- The first of a stack of matrices stacks, as the reference cuts it out. -/
theorem first_layer {L E K N : ℕ} (hL : 0 < L) (X : (⟨4, ![L, E, K, N]⟩ : Shape).Idx → EReal)
    (hs : (⟨4, ![L, E, K, N]⟩ : Shape).Slices ![0, 0, 0, 0] ⟨4, ![1, E, K, N]⟩) (hc : (⟨4, ![1, E, K, N]⟩ : Shape).ShapeCasts ⟨3, ![E, K, N]⟩)
    (e : Fin E) (k : Fin K) (n : Fin N) :
    shapeCast ⟨3, ![E, K, N]⟩ (extractStridedSlice ⟨4, ![1, E, K, N]⟩ ![0, 0, 0, 0] X hs) hc (ix3 e k n) = X (ix4 ⟨0, hL⟩ e k n) := by
  rw [shapeCast_1abc_abc_apply]
  refine extractStridedSlice_apply _ X hs _ _ fun a => ?_
  fin_cases a
  · rfl
  · exact (Nat.zero_add _).symm
  · exact (Nat.zero_add _).symm
  · exact (Nat.zero_add _).symm

/-! ## The two results are one -/

open Cert.ReferenceIdeal Cert.ReferenceIdeal.Gen in
/-- The reference's result, of its four arguments. -/
def refOut (x : FVec Ideal S16x8x544x1024 .bf16) (a b : FVec Ideal S4x16x1024x2048 .f32) (d : FVec Ideal S4x16x2048x1024 .f32) : FVec Ideal S16x8x544x1024 .bf16 :=
  have A := shapeCast S16x1024x2048 (extractStridedSlice S1x16x1024x2048 ![0, 0, 0, 0] a slices_S4x16x1024x2048_S1x16x1024x2048_0_0_0_0) shapeCasts_S1x16x1024x2048_S16x1024x2048
  have B := shapeCast S16x1024x2048 (extractStridedSlice S1x16x1024x2048 ![0, 0, 0, 0] b slices_S4x16x1024x2048_S1x16x1024x2048_0_0_0_0) shapeCasts_S1x16x1024x2048_S16x1024x2048
  have D := shapeCast S16x2048x1024 (extractStridedSlice S1x16x2048x1024 ![0, 0, 0, 0] d slices_S4x16x2048x1024_S1x16x2048x1024_0_0_0_0) shapeCasts_S1x16x2048x1024_S16x2048x1024
  have G : FVec Ideal S16x8x544x2048 .f32 := Host.dotGeneral dot_S16x8x544x1024_S16x1024x2048_S16x8x544x2048_3_1_12_2_0_0 none (extf .f32 x bitsLt_bf16_f32) A
  have U : FVec Ideal S16x8x544x2048 .f32 := Host.dotGeneral dot_S16x8x544x1024_S16x1024x2048_S16x8x544x2048_3_1_12_2_0_0 none (extf .f32 x bitsLt_bf16_f32) B
  truncf .bf16 (Host.dotGeneral dot_S16x8x544x2048_S16x2048x1024_S16x8x544x1024_3_1_12_2_0_0 none
    (mulf (mulf G (Host.divf (broadcastInDim S16x8x544x2048 ![] bcast_S_S16x8x544x2048 (constant S_ .f32 0x3F800000#32))
      (addf (broadcastInDim S16x8x544x2048 ![] bcast_S_S16x8x544x2048 (constant S_ .f32 0x3F800000#32)) (Host.exp (Host.negf G))))) U) D : FVec Ideal S16x8x544x1024 .f32) bitsLt_bf16_f32

theorem refOut_apply (x : FVec Ideal ⟨4, ![16, 8, 544, 1024]⟩ .bf16) (a b : FVec Ideal ⟨4, ![4, 16, 1024, 2048]⟩ .f32) (d : FVec Ideal ⟨4, ![4, 16, 2048, 1024]⟩ .f32)
    (e : Fin 16) (j : Fin 8) (t : Fin 544) (n : Fin 1024) :
    refOut x a b d (ix4 e j t n)
      = ffnAt (fun k => x (ix4 e j t k)) (fun k f => a (ix4 0 e k f)) (fun k f => b (ix4 0 e k f)) (fun f => d (ix4 0 e f n)) := by
  unfold refOut ffnAt
  refine (expertDot_apply _ none _ _ e j t n).trans (Finset.sum_congr rfl fun f _ => congrArg₂ (· * ·) ?_ (first_layer (by decide) d _ _ e f n))
  refine (act_reference _ _ _ (ix4 e j t f)).trans (congrArg₂ act ?_ ?_)
  · exact (expertDot_apply _ none _ _ e j t f).trans (Finset.sum_congr rfl fun k _ => congrArg (x (ix4 e j t k) * ·) (first_layer (by decide) a _ _ e k f))
  · exact (expertDot_apply _ none _ _ e j t f).trans (Finset.sum_congr rfl fun k _ => congrArg (x (ix4 e j t k) * ·) (first_layer (by decide) b _ _ e k f))

theorem YF_eq (m : (ℓ : Loc nD τ sig) → Buf (Elt Ideal) ℓ) (c : Dev nD) :
    YF m c = refOut (m ((c : Thread nD τ).loc main_arg0)) (m ((c : Thread nD τ).loc main_arg1)) (m ((c : Thread nD τ).loc main_arg2)) (m ((c : Thread nD τ).loc main_arg3)) := by
  funext (i : (⟨4, ![16, 8, 544, 1024]⟩ : Shape).Idx)
  rw [eq_ix4 i]
  refine Eq.trans ?_ (refOut_apply _ _ _ _ (i 0) (i 1) (i 2) (i 3)).symm
  refine (ffnBlock_apply _ _ _ _ (i 2) (i 3)).trans ?_
  have hx : (fun k => (xsb (i 0) (i 1)).view.read (Elt Ideal) (m ((c : Thread nD τ).loc main_arg0)) (ix2 (i 2) k)) = _ := funext fun k => xsb_read (i 0) (i 1) _ (i 2) k
  have ha : (fun k f => (w1b (i 0)).view.read (Elt Ideal) (m ((c : Thread nD τ).loc main_arg1)) (ix2 k f)) = _ := funext fun k => funext fun f => w1b_read (i 0) _ k f
  have hb : (fun k f => (w3b (i 0)).view.read (Elt Ideal) (m ((c : Thread nD τ).loc main_arg2)) (ix2 k f)) = _ := funext fun k => funext fun f => w3b_read (i 0) _ k f
  have hd : (fun f => (w2b (i 0)).view.read (Elt Ideal) (m ((c : Thread nD τ).loc main_arg3)) (ix2 f (i 3))) = _ := funext fun f => w2b_read (i 0) _ f (i 3)
  exact congr (congr (congrArg₂ ffnAt hx ha) hb) hd

/-! ## The claims -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hag =>
  ⟨fun c => YF m c,
    (θ_run _ _ _).mono (fun _ h c => have q := h.1 c; ⟨q.2.2.2.2, q.1, q.2.1, q.2.2.1, q.2.2.2.1⟩) (run_main (F := Ideal) m g),
    (θ_run _ _ _).mono (fun _ h c => ⟨(h c).1.trans ((congr (congr (congrArg₂ refOut (hag c).1 (hag c).2.1) (hag c).2.2.1) (hag c).2.2.2).trans (YF_eq m c).symm), (h c).2⟩)
      (Cert.ReferenceIdeal.Value.run (F := Ideal) m' g')⟩

end Cert.Proof.Ffn

end
-- ==== Proof.AttnMath.lean ====
module

public import Idealize.ShloMosaic.Lib.Pointwise
public import Idealize.ShloMosaic.Lib.IdealHost
import Mathlib.Analysis.SpecialFunctions.Pow.Real

/-! # The softmax of a row of real scores, computed key block by key block

A row of attention weighs the values `v j` by `exp (s j)` over the sum of those weights. The kernel keeps a
running maximum, a running sum and a running weighted sum, rescaled whenever the maximum moves, and works
with powers of two. The reference subtracts the row's maximum and divides before it weighs. Both are the
weighted sum `soft` below, whatever the shift was, as long as the scores are real: the values may be anything. -/

@[expose] public section
noncomputable section
namespace Cert.Proof.Attn

open Idealize.ShloMosaic

/-- A real factor that is not negative goes through a sum of extended reals. -/
theorem coe_mul_sum {ι : Type} (c : ℝ) (hc : 0 ≤ c) (J : Finset ι) (f : ι → EReal) :
    (c : EReal) * ∑ j ∈ J, f j = ∑ j ∈ J, (c : EReal) * f j := by
  classical
  induction J using Finset.induction_on with
  | empty => simp
  | insert a J ha ih =>
    rw [Finset.sum_insert ha, Finset.sum_insert ha,
      EReal.left_distrib_of_nonneg_of_ne_top (EReal.coe_nonneg.2 hc) (EReal.coe_ne_top c), ih]

/-- A sum of reals, taken among the extended reals. -/
theorem coe_sum {ι : Type} (J : Finset ι) (f : ι → ℝ) : ∑ j ∈ J, (f j : EReal) = ((∑ j ∈ J, f j : ℝ) : EReal) := by
  classical
  induction J using Finset.induction_on with
  | empty => simp
  | insert a J ha ih => rw [Finset.sum_insert ha, Finset.sum_insert ha, ih, EReal.coe_add]

/-- The greatest of finitely many reals and a real is a real. -/
theorem fold_max_real {ι : Type} (J : Finset ι) (f : ι → ℝ) (m : ℝ) :
    ∃ M : ℝ, max (m : EReal) (J.fold max ⊥ fun j => (f j : EReal)) = (M : EReal) := by
  classical
  induction J using Finset.induction_on with
  | empty => exact ⟨m, by simp⟩
  | insert a J ha ih =>
    obtain ⟨M, hM⟩ := ih
    refine ⟨max (f a) M, ?_⟩
    rw [Finset.fold_insert ha, max_left_comm, hM, ← EReal.coe_strictMono.monotone.map_max]

/-- The greatest of finitely many reals, at least one, is a real. -/
theorem fold_max_real' {ι : Type} (J : Finset ι) (hJ : J.Nonempty) (f : ι → ℝ) :
    ∃ M : ℝ, (J.fold max ⊥ fun j => (f j : EReal)) = (M : EReal) := by
  classical
  obtain ⟨a, ha⟩ := hJ
  obtain ⟨M, hM⟩ := fold_max_real (J.erase a) f (f a)
  refine ⟨M, ?_⟩
  rw [← Finset.insert_erase ha, Finset.fold_insert (Finset.notMem_erase a J), hM]

/-- The share of key `j` among the keys `J`: `2 ^ s j` over the sum of those powers. -/
def share {ι : Type} (J : Finset ι) (s : ι → ℝ) (j : ι) : ℝ := (2 : ℝ) ^ s j * (∑ i ∈ J, (2 : ℝ) ^ s i)⁻¹

/-- One row of attention over the keys `J`: the values weighed by their shares. -/
def soft {ι : Type} (J : Finset ι) (s : ι → ℝ) (v : ι → EReal) : EReal := ∑ j ∈ J, (share J s j : EReal) * v j

/-- What the running maximum, sum and weighted sum hold once the keys `J` have been seen. -/
def Seen {ι D : Type} (J : Finset ι) (s : ι → ℝ) (v : ι → D → EReal) (m l : EReal) (acc : D → EReal) : Prop :=
  ∃ μ : ℝ, m = μ ∧ l = ((∑ j ∈ J, (2 : ℝ) ^ (s j - μ) : ℝ) : EReal) ∧
    ∀ d, acc d = ∑ j ∈ J, (((2 : ℝ) ^ (s j - μ) : ℝ) : EReal) * v j d

theorem exp2_coe (r : ℝ) : Ideal.exp2 (r : EReal) = (((2 : ℝ) ^ r : ℝ) : EReal) := rfl

theorem exp_coe (r : ℝ) : Ideal.exp (r : EReal) = ((Real.exp r : ℝ) : EReal) := rfl

/-- Before the first key: any real maximum, empty sums. -/
theorem Seen.empty {ι D : Type} (s : ι → ℝ) (v : ι → D → EReal) (m : ℝ) : Seen (∅ : Finset ι) s v m 0 fun _ => 0 :=
  ⟨m, rfl, by simp, fun d => by simp⟩

/-- One block of keys `e k`, none of them seen before: the maximum moves, the sums are rescaled and the block's
    powers are added. -/
theorem Seen.step {ι D κ : Type} [Fintype κ] {J J' : Finset ι} {s : ι → ℝ} {v : ι → D → EReal} {m l : EReal} {acc : D → EReal}
    (h : Seen J s v m l acc) (e : κ ↪ ι) (hd : Disjoint J (Finset.univ.map e)) (hJ : J' = J.disjUnion (Finset.univ.map e) hd)
    {sc : κ → EReal} (hs : ∀ k, sc k = (s (e k) : EReal)) {m' l' : EReal} {acc' : D → EReal}
    (hm : m' = max m (Finset.univ.fold max ⊥ sc))
    (hl : l' = Ideal.exp2 (m - m') * l + ∑ k, Ideal.exp2 (sc k - m'))
    (ha : ∀ d, acc' d = Ideal.exp2 (m - m') * acc d + ∑ k, Ideal.exp2 (sc k - m') * v (e k) d) :
    Seen J' s v m' l' acc' := by
  obtain ⟨μ, rfl, hL, hA⟩ := h
  obtain rfl : sc = fun k => (s (e k) : EReal) := funext hs
  obtain ⟨M, hM⟩ := fold_max_real Finset.univ (fun k => s (e k)) μ
  rw [hM] at hm
  subst hm
  have hshift : ∀ x : ℝ, (2 : ℝ) ^ (μ - M) * (2 : ℝ) ^ (x - μ) = (2 : ℝ) ^ (x - M) := fun x => by
    rw [← Real.rpow_add two_pos]; congr 1; ring
  have hp : ∀ k, Ideal.exp2 ((s (e k) : EReal) - M) = (((2 : ℝ) ^ (s (e k) - M) : ℝ) : EReal) := fun k => by
    rw [← EReal.coe_sub, exp2_coe]
  simp only [hp, ← EReal.coe_sub, exp2_coe] at hl ha
  refine ⟨M, rfl, ?_, fun d => ?_⟩
  · rw [hl, hL, coe_sum, ← EReal.coe_mul, ← EReal.coe_add, hJ, Finset.sum_disjUnion, Finset.sum_map, Finset.mul_sum]
    simp only [hshift]
  · rw [ha, hA, coe_mul_sum _ (Real.rpow_nonneg two_pos.le _), hJ, Finset.sum_disjUnion, Finset.sum_map]
    simp only [← mul_assoc, ← EReal.coe_mul, hshift]

theorem sum_pow_pos {ι : Type} {J : Finset ι} (hJ : J.Nonempty) (s : ι → ℝ) : 0 < ∑ j ∈ J, (2 : ℝ) ^ s j :=
  Finset.sum_pos (fun _ _ => Real.rpow_pos_of_pos two_pos _) hJ

/-- Dividing by a real other than zero is multiplying by its inverse. -/
theorem div_coe (x : EReal) {r : ℝ} (hr : r ≠ 0) : Ideal.div x (r : EReal) = ((r⁻¹ : ℝ) : EReal) * x := by
  unfold Ideal.div
  rw [if_neg (by simpa using hr), mul_comm, EReal.coe_inv]

/-- After the last key, the weighted sum over the sum is the row of attention. -/
theorem Seen.div {ι D : Type} {J : Finset ι} {s : ι → ℝ} {v : ι → D → EReal} {m l : EReal} {acc : D → EReal}
    (h : Seen J s v m l acc) (hJ : J.Nonempty) (d : D) : Ideal.div (acc d) l = soft J s fun j => v j d := by
  obtain ⟨μ, -, hL, hA⟩ := h
  have hpos := sum_pow_pos hJ fun j => s j - μ
  rw [hL, hA, div_coe _ hpos.ne', coe_mul_sum _ (inv_nonneg.2 hpos.le)]
  refine Finset.sum_congr rfl fun j _ => ?_
  rw [← mul_assoc, ← EReal.coe_mul]
  congr 2
  have e : ∀ x : ℝ, (2 : ℝ) ^ (x - μ) = (2 : ℝ) ^ x * (2 : ℝ) ^ (-μ) := fun x => by
    rw [← Real.rpow_add two_pos]; congr 1
  have hμ : (2 : ℝ) ^ (-μ) ≠ 0 := (Real.rpow_pos_of_pos two_pos _).ne'
  unfold share
  simp only [e, ← Finset.sum_mul]
  rw [mul_inv]
  field_simp

/-- The reference's row: the exponentials of the scores less their maximum, each over their sum, weigh the values. -/
theorem soft_of_exp {ι : Type} [Fintype ι] [Nonempty ι] {J : Finset ι} (hJ : J.Nonempty) {s t : ι → ℝ}
    (ht : ∀ j, t j = s j * Real.log 2) (M : ℝ) (v : ι → EReal) :
    (∑ j ∈ J, v j * Ideal.div (Ideal.exp ((t j : EReal) - M)) (0 + ∑ i ∈ J, Ideal.exp ((t i : EReal) - M))) = soft J s v := by
  have hp : ∀ k, Ideal.exp ((t k : EReal) - M) = ((Real.exp (t k - M) : ℝ) : EReal) := fun k => by
    rw [← EReal.coe_sub, exp_coe]
  have hpos : 0 < ∑ i ∈ J, Real.exp (t i - M) := Finset.sum_pos (fun _ _ => Real.exp_pos _) hJ
  simp only [hp, coe_sum, zero_add]
  refine Finset.sum_congr rfl fun j _ => ?_
  rw [div_coe _ hpos.ne', mul_comm, ← EReal.coe_mul]
  congr 2
  have e : ∀ j, Real.exp (t j - M) = (2 : ℝ) ^ s j * Real.exp (-M) := fun j => by
    rw [sub_eq_add_neg, Real.exp_add, ht, Real.rpow_def_of_pos two_pos, mul_comm (s j)]
  unfold share
  simp only [e, ← Finset.sum_mul]
  rw [mul_inv]
  have := (Real.exp_pos (-M)).ne'
  field_simp

end Cert.Proof.Attn
-- ==== Proof.AttnKernel.lean ====
module

public import proofs.«01_k».proof.Proof.AttnMath
public import proofs.«01_k».proof.Proof.Gen.Kernel2Ideal.Value
public import Idealize.ShloMosaic.Lib.Pipeline.ValueKit

/-! # What one grid point of the global attention writes

A grid point holds 256 rows of the queries, all the keys and values of its batch entry, and writes the same 256
rows of the result. The eight query heads are taken in two groups of four, one group per key head; the four
heads of a group are stacked into 1024 rows. The keys of the context come first, then, for a point of latents,
the latents' keys in two blocks of 2048. Each module-level payload is read at an index, the running sums are
followed block by block by `Seen`, and the written block is the residual plus the gated projection of the rows
of attention. -/

@[expose] public section
noncomputable section
namespace Cert.Proof.Attn

open Idealize.ShloMosaic Idealize.ShloMosaic.TcCoe Idealize.SL.Sem
open Cert.Kernel2Ideal Cert.Kernel2Ideal.Gen

/-- The queries' scale: the reference's scale, over the logarithm of two. -/
def qScale : ℝ := (11863283 / 134217728) * (Real.log 2)⁻¹

theorem named_q : (Named.named κ "q_scale" 0x3E0293EE#32 : Ideal .f32) = (qScale : EReal) := rfl

theorem exp2_eq (x : Ideal .f32) : FloatOps.exp2 x = Ideal.exp2 x := rfl

theorem divf_eq (x y : Ideal .f32) : FloatOps.divf x y = Ideal.div x y := rfl

theorem ofBits_neg_inf : Ideal.ofBits .f32 0xFF800000#32 = ⊥ := by
  simp [Ideal.ofBits, Ideal.ieee]

/-- The value the running maximum starts from is a real. -/
theorem ofBits_start : ∃ m : ℝ, Ideal.ofBits .f32 0xF149F2CA#32 = (m : EReal) := by
  refine ⟨-(13234890 * 2 ^ 76), ?_⟩
  simp [Ideal.ofBits, Ideal.ieee]

/-! ## The queries of a group, and the keys seen -/

/-- The first four heads' queries, stacked. -/
abbrev q0 (X : Vec Ideal S1x256x1024 .f32) : Vec Ideal S1024x128 .f32 :=
  k0_pay37 (View.ld X (Rect.unit ![0, 0, 0] ![1, 256, 128] inb_S1x256x1024_S1x256x128_0_0_0))
    (View.ld X (Rect.unit ![0, 0, 128] ![1, 256, 128] inb_S1x256x1024_S1x256x128_0_0_128))
    (View.ld X (Rect.unit ![0, 0, 256] ![1, 256, 128] inb_S1x256x1024_S1x256x128_0_0_256))
    (View.ld X (Rect.unit ![0, 0, 384] ![1, 256, 128] inb_S1x256x1024_S1x256x128_0_0_384))

/-- The last four heads' queries, stacked. -/
abbrev q1 (X : Vec Ideal S1x256x1024 .f32) : Vec Ideal S1024x128 .f32 :=
  k0_pay38 (View.ld X (Rect.unit ![0, 0, 512] ![1, 256, 128] inb_S1x256x1024_S1x256x128_0_0_512))
    (View.ld X (Rect.unit ![0, 0, 640] ![1, 256, 128] inb_S1x256x1024_S1x256x128_0_0_640))
    (View.ld X (Rect.unit ![0, 0, 768] ![1, 256, 128] inb_S1x256x1024_S1x256x128_0_0_768))
    (View.ld X (Rect.unit ![0, 0, 896] ![1, 256, 128] inb_S1x256x1024_S1x256x128_0_0_896))

/-- The first four heads' queries, stacked and scaled. -/
abbrev qs0 (X : Vec Ideal S1x256x1024 .f32) : Vec Ideal S1024x128 .bf16 :=
  k0_pay42 (View.ld X (Rect.unit ![0, 0, 0] ![1, 256, 128] inb_S1x256x1024_S1x256x128_0_0_0))
    (View.ld X (Rect.unit ![0, 0, 128] ![1, 256, 128] inb_S1x256x1024_S1x256x128_0_0_128))
    (View.ld X (Rect.unit ![0, 0, 256] ![1, 256, 128] inb_S1x256x1024_S1x256x128_0_0_256))
    (View.ld X (Rect.unit ![0, 0, 384] ![1, 256, 128] inb_S1x256x1024_S1x256x128_0_0_384))

/-- The context's keys (or values) of the first key head. -/
abbrev c0 (X : Vec Ideal S1x4352x256 .bf16) : Vec Ideal S1x256x128 .bf16 :=
  View.ld X (Rect.unit ![0, 4096, 0] ![1, 256, 128] inb_S1x4352x256_S1x256x128_0_4096_0)

/-- The context's keys (or values) of the second key head. -/
abbrev c1 (X : Vec Ideal S1x4352x256 .bf16) : Vec Ideal S1x256x128 .bf16 :=
  View.ld X (Rect.unit ![0, 4096, 128] ![1, 256, 128] inb_S1x4352x256_S1x256x128_0_4096_128)

/-- The entry of the queries in stacked row `r` of group `j`, column `d` of the head. -/
def qAt (X : Vec Ideal S1x256x1024 .f32) (j : Fin 2) (r : Fin 1024) (d : Fin 128) : EReal :=
  X (ix3 0 ⟨r.val % 256, by omega⟩ ⟨j.val * 512 + r.val / 256 * 128 + d.val, by omega⟩)

/-- The entry of the keys (or values) in row `k`, column `d` of key head `j`. -/
def kAt (X : Vec Ideal S1x4352x256 .bf16) (j : Fin 2) (k : Fin 4352) (d : Fin 128) : EReal :=
  X (ix3 0 k ⟨j.val * 128 + d.val, by omega⟩)

theorem q0_apply (X : Vec Ideal S1x256x1024 .f32) (r : Fin 1024) (d : Fin 128) : q0 X (ix2 r d) = qAt X 0 r d := by
  unfold qAt
  pointwise [k0_pay37]
  split_ifs <;> congr 2 <;> ext <;> simp <;> omega

theorem q1_apply (X : Vec Ideal S1x256x1024 .f32) (r : Fin 1024) (d : Fin 128) : q1 X (ix2 r d) = qAt X 1 r d := by
  unfold qAt
  pointwise [k0_pay38]
  split_ifs <;> congr 2 <;> ext <;> simp <;> omega

theorem qs0_apply (X : Vec Ideal S1x256x1024 .f32) (r : Fin 1024) (d : Fin 128) :
    qs0 X (ix2 r d) = qAt X 0 r d * (qScale : EReal) := by
  rw [← q0_apply, ← named_q]
  pointwise [k0_pay42]

/-- The keys seen before block `t` of the latents: the context's, and the earlier blocks'. -/
def seen (t : ℕ) : Finset (Fin 4352) := Finset.univ.filter fun j => 4096 ≤ j.val ∨ j.val < t * 2048

theorem seen_two : seen 2 = Finset.univ := by
  ext j; simp only [seen, Finset.mem_filter, Finset.mem_univ, true_and, iff_true]; omega

theorem seen_nonempty (t : ℕ) : (seen t).Nonempty := ⟨⟨4096, by omega⟩, by simp [seen]⟩

/-- `n` keys in a row, from key `o`. -/
def keysFrom (o n : ℕ) (h : o + n ≤ 4352) : Fin n ↪ Fin 4352 :=
  ⟨fun k => ⟨o + k.val, by omega⟩, fun a b e => Fin.ext (Nat.add_left_cancel (Fin.mk.inj e))⟩

theorem mem_keysFrom {o n : ℕ} (h : o + n ≤ 4352) (j : Fin 4352) :
    j ∈ Finset.univ.map (keysFrom o n h) ↔ o ≤ j.val ∧ j.val < o + n := by
  simp only [Finset.mem_map, Finset.mem_univ, true_and, keysFrom, Function.Embedding.coeFn_mk]
  constructor
  · rintro ⟨k, rfl⟩; exact ⟨Nat.le_add_right _ _, Nat.add_lt_add_left k.isLt _⟩
  · intro hj; exact ⟨⟨j.val - o, by omega⟩, Fin.ext (Nat.add_sub_cancel' hj.1)⟩

theorem disjoint_empty_context : Disjoint (∅ : Finset (Fin 4352)) (Finset.univ.map (keysFrom 4096 256 (by omega))) :=
  Finset.disjoint_empty_left _

theorem seen_zero : seen 0 = (∅ : Finset (Fin 4352)).disjUnion _ disjoint_empty_context := by
  ext j
  rw [Finset.mem_disjUnion, mem_keysFrom]
  simp [seen]

theorem disjoint_block (t : ℕ) (h : t < 2) : Disjoint (seen t) (Finset.univ.map (keysFrom (t * 2048) 2048 (by omega))) := by
  rw [Finset.disjoint_left]
  intro j hj
  rw [mem_keysFrom]
  simp only [seen, Finset.mem_filter, Finset.mem_univ, true_and] at hj
  omega

theorem seen_succ (t : ℕ) (h : t < 2) : seen (t + 1) = (seen t).disjUnion _ (disjoint_block t h) := by
  ext j
  rw [Finset.mem_disjUnion, mem_keysFrom]
  simp only [seen, Finset.mem_filter, Finset.mem_univ, true_and]
  omega

/-! ## One block of keys -/

section
variable {s : Fin 4352 → ℝ} {v : Fin 4352 → Fin 128 → EReal} {r : Fin 1024}

/-- A block of latents' keys, first group. -/
theorem latents0 {t : ℕ} (ht : t < 2) {Q : Vec Ideal S1024x128 .f32} {m l : Vec Ideal S1024x1 .f32} {a : Vec Ideal S1024x128 .f32}
    {K V : Vec Ideal S1x2048x128 .bf16} (h : Seen (seen t) s v (m (ix2 r 0)) (l (ix2 r 0)) fun d => a (ix2 r d))
    (hs : ∀ k, ∑ d : Fin 128, Q (ix2 r d) * (qScale : EReal) * K (ix3 0 k d) = (s (keysFrom (t * 2048) 2048 (by omega) k) : EReal))
    (hv : ∀ k d, V (ix3 0 k d) = v (keysFrom (t * 2048) 2048 (by omega) k) d) :
    Seen (seen (t + 1)) s v (k0_pay16 Q m K (ix2 r 0)) (k0_pay19 Q m l K (ix2 r 0)) fun d => k0_pay20 Q m a K V (ix2 r d) := by
  refine h.step _ (disjoint_block t ht) (seen_succ t ht) (sc := fun k => k0_pay15 Q K (ix2 r k)) (fun k => ?_) ?_ ?_ fun d => ?_
  · rw [← hs, ← named_q]; pointwise [k0_pay15]
  · rw [← ofBits_neg_inf]; pointwise [k0_pay16]
  · simp only [← exp2_eq]; pointwise [k0_pay19, k0_pay18, k0_pay17]
  · simp only [← exp2_eq, ← hv]; pointwise [k0_pay20, k0_pay18, k0_pay17]

/-- A block of latents' keys, second group. -/
theorem latents1 {t : ℕ} (ht : t < 2) {Q : Vec Ideal S1024x128 .f32} {m l : Vec Ideal S1024x1 .f32} {a : Vec Ideal S1024x128 .f32}
    {K V : Vec Ideal S1x2048x128 .bf16} (h : Seen (seen t) s v (m (ix2 r 0)) (l (ix2 r 0)) fun d => a (ix2 r d))
    (hs : ∀ k, ∑ d : Fin 128, Q (ix2 r d) * (qScale : EReal) * K (ix3 0 k d) = (s (keysFrom (t * 2048) 2048 (by omega) k) : EReal))
    (hv : ∀ k d, V (ix3 0 k d) = v (keysFrom (t * 2048) 2048 (by omega) k) d) :
    Seen (seen (t + 1)) s v (k0_pay23 Q m K (ix2 r 0)) (k0_pay26 m l (k0_pay22 Q K) (k0_pay23 Q m K) (ix2 r 0))
      fun d => k0_pay27 m a (k0_pay21 V) (k0_pay22 Q K) (k0_pay23 Q m K) (ix2 r d) := by
  refine h.step _ (disjoint_block t ht) (seen_succ t ht) (sc := fun k => k0_pay22 Q K (ix2 r k)) (fun k => ?_) ?_ ?_ fun d => ?_
  · rw [← hs, ← named_q]; pointwise [k0_pay22]
  · rw [← ofBits_neg_inf]; pointwise [k0_pay23]
  · simp only [← exp2_eq]; pointwise [k0_pay26, k0_pay25, k0_pay24]
  · simp only [← exp2_eq, ← hv]; pointwise [k0_pay27, k0_pay25, k0_pay24, k0_pay21]

/-- The context's keys, first group: the first block. -/
theorem context0 {Q : Vec Ideal S1024x128 .bf16} {K V : Vec Ideal S1x256x128 .bf16}
    (hs : ∀ k, ∑ d : Fin 128, Q (ix2 r d) * K (ix3 0 k d) = (s (keysFrom 4096 256 (by omega) k) : EReal))
    (hv : ∀ k d, V (ix3 0 k d) = v (keysFrom 4096 256 (by omega) k) d) :
    Seen (seen 0) s v (k0_pay45 k0_pay39 Q (k0_pay43 K) (ix2 r 0)) (k0_pay48 k0_pay39 k0_pay40 Q (k0_pay43 K) (ix2 r 0))
      fun d => k0_pay49 k0_pay39 k0_pay41 Q (k0_pay43 K) V (ix2 r d) := by
  obtain ⟨μ, hμ⟩ := ofBits_start
  refine (Seen.empty s v μ).step _ disjoint_empty_context seen_zero (sc := fun k => k0_pay44 Q (k0_pay43 K) (ix2 r k)) (fun k => ?_) ?_ ?_ fun d => ?_
  · rw [← hs]; pointwise [k0_pay44, k0_pay43]
  · rw [← ofBits_neg_inf, ← hμ]; pointwise [k0_pay45, k0_pay39]
  · simp only [← exp2_eq, ← hμ]; pointwise [k0_pay48, k0_pay47, k0_pay46, k0_pay40, k0_pay39]
  · simp only [← exp2_eq, ← hv, ← hμ]; pointwise [k0_pay49, k0_pay47, k0_pay46, k0_pay41, k0_pay39]

/-- The context's keys, second group: the first block. -/
theorem context1 {Q : Vec Ideal S1024x128 .f32} {K V : Vec Ideal S1x256x128 .bf16}
    (hs : ∀ k, ∑ d : Fin 128, Q (ix2 r d) * (qScale : EReal) * K (ix3 0 k d) = (s (keysFrom 4096 256 (by omega) k) : EReal))
    (hv : ∀ k d, V (ix3 0 k d) = v (keysFrom 4096 256 (by omega) k) d) :
    Seen (seen 0) s v (k0_pay52 Q k0_pay39 K (ix2 r 0)) (k0_pay55 Q k0_pay39 k0_pay40 K (ix2 r 0))
      fun d => k0_pay1 (k0_pay50 V) (k0_pay56 Q k0_pay39 k0_pay41 K) (k0_pay57 Q k0_pay39 K) (constant S1024x128 FTy.f32 0#32) (ix2 r d) := by
  obtain ⟨μ, hμ⟩ := ofBits_start
  refine (Seen.empty s v μ).step _ disjoint_empty_context seen_zero (sc := fun k => k0_pay51 Q K (ix2 r k)) (fun k => ?_) ?_ ?_ fun d => ?_
  · rw [← hs, ← named_q]; pointwise [k0_pay51]
  · rw [← ofBits_neg_inf, ← hμ]; pointwise [k0_pay52, k0_pay39]
  · simp only [← exp2_eq, ← hμ]; pointwise [k0_pay55, k0_pay54, k0_pay53, k0_pay40, k0_pay39]
  · simp only [← exp2_eq, ← hv, ← hμ]; pointwise [k0_pay1, k0_pay50, k0_pay56, k0_pay57, k0_pay54, k0_pay53, k0_pay41, k0_pay39]

end

end Cert.Proof.Attn
-- ==== Proof.AttnRows.lean ====
module

public import proofs.«01_k».proof.Proof.AttnKernel

/-! # The rows of attention a grid point computes

The state after the context's keys, after each block of the latents' keys, and after both. -/

@[expose] public section
noncomputable section
namespace Cert.Proof.Attn

open Idealize.ShloMosaic Idealize.ShloMosaic.TcCoe Idealize.SL.Sem
open Cert.Kernel2Ideal Cert.Kernel2Ideal.Gen

/-- The running maximum, sum and weighted sum of the two groups. -/
abbrev State : Type := FVec Ideal S1024x1 .f32 × FVec Ideal S1024x1 .f32 × FVec Ideal S1024x128 .f32 × FVec Ideal S1024x1 .f32 × FVec Ideal S1024x1 .f32 × FVec Ideal S1024x128 .f32

/-- The state is what the keys `J` make it, in every row of both groups. -/
def Good (V : Vec Ideal S1x4352x256 .bf16) (s : Fin 2 → Fin 1024 → Fin 4352 → ℝ) (J : Finset (Fin 4352)) (S : State) : Prop :=
  (∀ r, Seen J (s 0 r) (kAt V 0) (S.1 (ix2 r 0)) (S.2.1 (ix2 r 0)) fun d => S.2.2.1 (ix2 r d)) ∧
    ∀ r, Seen J (s 1 r) (kAt V 1) (S.2.2.2.1 (ix2 r 0)) (S.2.2.2.2.1 (ix2 r 0)) fun d => S.2.2.2.2.2 (ix2 r d)

/-- The scores are real: `s j r k` is the scaled product of query row `r` and key `k` of group `j`. -/
def Scores (Q : Vec Ideal S1x256x1024 .f32) (K : Vec Ideal S1x4352x256 .bf16) (s : Fin 2 → Fin 1024 → Fin 4352 → ℝ) : Prop :=
  ∀ j r k, ∑ d : Fin 128, qAt Q j r d * (qScale : EReal) * kAt K j k d = (s j r k : EReal)

/-- The state after the context's keys. -/
abbrev context (Q : Vec Ideal S1x256x1024 .f32) (K V : Vec Ideal S1x4352x256 .bf16) : State :=
  (k0_pay45 k0_pay39 (qs0 Q) (k0_pay43 (c0 K)), k0_pay48 k0_pay39 k0_pay40 (qs0 Q) (k0_pay43 (c0 K)),
    k0_pay49 k0_pay39 k0_pay41 (qs0 Q) (k0_pay43 (c0 K)) (c0 V), k0_pay52 (q1 Q) k0_pay39 (c1 K),
    k0_pay55 (q1 Q) k0_pay39 k0_pay40 (c1 K),
    k0_pay1 (k0_pay50 (c1 V)) (k0_pay56 (q1 Q) k0_pay39 k0_pay41 (c1 K)) (k0_pay57 (q1 Q) k0_pay39 (c1 K)) (constant S1024x128 FTy.f32 0#32))

theorem c0_apply (X : Vec Ideal S1x4352x256 .bf16) (k : Fin 256) (d : Fin 128) :
    c0 X (ix3 0 k d) = kAt X 0 (keysFrom 4096 256 (by omega) k) d := by
  show X _ = X _
  congr 1
  funext a
  apply Fin.ext
  match a with
  | ⟨0, _⟩ => rfl
  | ⟨1, _⟩ => exact congrArg (4096 + ·) (Nat.one_mul k.val)
  | ⟨2, _⟩ => exact congrArg (0 + ·) (Nat.one_mul d.val)

theorem c1_apply (X : Vec Ideal S1x4352x256 .bf16) (k : Fin 256) (d : Fin 128) :
    c1 X (ix3 0 k d) = kAt X 1 (keysFrom 4096 256 (by omega) k) d := by
  show X _ = X _
  congr 1
  funext a
  apply Fin.ext
  match a with
  | ⟨0, _⟩ => rfl
  | ⟨1, _⟩ => exact congrArg (4096 + ·) (Nat.one_mul k.val)
  | ⟨2, _⟩ => exact congrArg (128 + ·) (Nat.one_mul d.val)

theorem good_context {Q : Vec Ideal S1x256x1024 .f32} {K V : Vec Ideal S1x4352x256 .bf16} {s : Fin 2 → Fin 1024 → Fin 4352 → ℝ}
    (hs : Scores Q K s) : Good V s (seen 0) (context Q K V) := by
  refine ⟨fun r => context0 (fun k => ?_) (c0_apply V), fun r => context1 (fun k => ?_) (c1_apply V)⟩
  · rw [← hs 0 r]
    exact Finset.sum_congr rfl fun d _ => by rw [qs0_apply, c0_apply]
  · rw [← hs 1 r]
    exact Finset.sum_congr rfl fun d _ => by rw [q1_apply, c1_apply]

theorem trips_eq : k0_t1_loop.trips = 2 := by decide

theorem off1_eq : ∀ k : Fin k0_t1_loop.trips, k0_off1 k = ![0, k.val * 2048, 0] := by decide

theorem off2_eq : ∀ k : Fin k0_t1_loop.trips, k0_off2 k = ![0, k.val * 2048, 128] := by decide

/-- A load of 2048 keys (or values) from a staged block. -/
theorem load_apply (arg : Memref sig .tc .vmem S1x4352x256 .bf16) (harg : arg.IsWhole) (X : Vec Ideal S1x4352x256 .bf16)
    {off : Fin 3 → ℕ} {inb : ∀ a, off a + S1x2048x128.size a ≤ S1x4352x256.size a} (t : ℕ) (ht : t < 2) (j : Fin 2)
    (ho : off = ![0, t * 2048, j.val * 128]) (k : Fin 2048) (d : Fin 128) :
    View.readAt (Elt Ideal) arg.view (Rect.unit (s := S1x4352x256) off S1x2048x128.size inb).toLoadRect (harg.unread X) (ix3 0 k d)
      = kAt X j (keysFrom (t * 2048) 2048 (by omega) k) d := by
  subst ho
  rw [View.readAt_eq_ld, harg.read_unread]
  show X _ = X _
  congr 1
  funext a
  apply Fin.ext
  match a with
  | ⟨0, _⟩ => rfl
  | ⟨1, _⟩ => exact congrArg (t * 2048 + ·) (Nat.one_mul k.val)
  | ⟨2, _⟩ => exact congrArg (j.val * 128 + ·) (Nat.one_mul d.val)

set_option maxHeartbeats 1000000 in
/-- One trip: one more block of the latents' keys. -/
theorem good_trip (𝒱 : Variants) (c : Dev nD) (bd : Option 𝒱.V) (i : grid0.Coords) (arg2 : Memref sig .tc .vmem S1x256x1024 .f32) (harg2 : arg2.IsWhole) (arg3 : Memref sig .tc .vmem S1x4352x256 .bf16) (harg3 : arg3.IsWhole) (arg4 : Memref sig .tc .vmem S1x4352x256 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x1024 .bf16) (harg9 : arg9.IsWhole) (v31 : FVec Ideal S1024x1 .f32) (v40 : FVec Ideal S1024x1 .f32) (v45 : FVec Ideal S1024x128 .f32) (v56 : FVec Ideal S1024x1 .f32) (v65 : FVec Ideal S1024x1 .f32) (v70 : FVec Ideal S1024x128 .f32) (k0_h2 : k0_cond2 i = 1#1) {Q : Vec Ideal S1x256x1024 .f32} {K V : Vec Ideal S1x4352x256 .bf16} {s : Fin 2 → Fin 1024 → Fin 4352 → ℝ}
    (hs : Scores Q K s) (k : Fin k0_t1_loop.trips) (S : State) (h : Good V s (seen k.val) S) :
    Good V s (seen (k.val + 1)) (tripR_k0_t1 (F := Ideal) 𝒱 c bd i arg2 harg2 arg3 harg3 arg4 harg4 arg5 harg5 arg6 harg6 arg7 harg7 arg8 harg8 arg9 harg9 (q0 Q) (q1 Q) v31 v40 v45 v56 v65 v70 k0_h2 (harg3.unread K) (harg4.unread V) k S) := by
  have hk : k.val < 2 := trips_eq ▸ k.isLt
  unfold tripR_k0_t1 trip_k0_t1
  unfold trip_k0_t1.sl.r trip_k0_t1.sl.r_1 trip_k0_t1.sl.r_2 trip_k0_t1.sl.r_3 trip_k0_t1.sl.r_4 trip_k0_t1.sl.r_5
  dsimp only
  refine ⟨fun r => latents0 hk (h.1 r) (fun k' => ?_) fun k' d => ?_, fun r => latents1 hk (h.2 r) (fun k' => ?_) fun k' d => ?_⟩
  · rw [← hs 0 r]
    refine Finset.sum_congr rfl fun d _ => ?_
    rw [q0_apply, load_apply arg3 harg3 K k.val hk 0 (off1_eq k)]
  · exact load_apply arg4 harg4 V k.val hk 0 (off1_eq k) k' d
  · rw [← hs 1 r]
    refine Finset.sum_congr rfl fun d _ => ?_
    rw [q1_apply, load_apply arg3 harg3 K k.val hk 1 (off2_eq k)]
  · exact load_apply arg4 harg4 V k.val hk 1 (off2_eq k) k' d

/-- Both trips: every key. -/
theorem good_loop (𝒱 : Variants) (c : Dev nD) (bd : Option 𝒱.V) (i : grid0.Coords) (arg2 : Memref sig .tc .vmem S1x256x1024 .f32) (harg2 : arg2.IsWhole) (arg3 : Memref sig .tc .vmem S1x4352x256 .bf16) (harg3 : arg3.IsWhole) (arg4 : Memref sig .tc .vmem S1x4352x256 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x1024 .bf16) (harg9 : arg9.IsWhole) (v31 : FVec Ideal S1024x1 .f32) (v40 : FVec Ideal S1024x1 .f32) (v45 : FVec Ideal S1024x128 .f32) (v56 : FVec Ideal S1024x1 .f32) (v65 : FVec Ideal S1024x1 .f32) (v70 : FVec Ideal S1024x128 .f32) (k0_h2 : k0_cond2 i = 1#1) {Q : Vec Ideal S1x256x1024 .f32} {K V : Vec Ideal S1x4352x256 .bf16} {s : Fin 2 → Fin 1024 → Fin 4352 → ℝ}
    (hs : Scores Q K s) :
    Good V s Finset.univ (st_k0_t1 (F := Ideal) 𝒱 c bd i arg2 harg2 arg3 harg3 arg4 harg4 arg5 harg5 arg6 harg6 arg7 harg7 arg8 harg8 arg9 harg9 (q0 Q) (q1 Q) v31 v40 v45 v56 v65 v70 k0_h2 (harg3.unread K) (harg4.unread V) (context Q K V) k0_t1_loop.trips) := by
  have key : ∀ n, n ≤ k0_t1_loop.trips → Good V s (seen n)
      (st_k0_t1 (F := Ideal) 𝒱 c bd i arg2 harg2 arg3 harg3 arg4 harg4 arg5 harg5 arg6 harg6 arg7 harg7 arg8 harg8 arg9 harg9 (q0 Q) (q1 Q) v31 v40 v45 v56 v65 v70 k0_h2 (harg3.unread K) (harg4.unread V) (context Q K V) n) := by
    intro n
    induction n with
    | zero => exact fun _ => good_context hs
    | succ n ih =>
      intro hn
      exact (st_k0_t1_succ (F := Ideal) 𝒱 c bd i arg2 harg2 arg3 harg3 arg4 harg4 arg5 harg5 arg6 harg6 arg7 harg7 arg8 harg8 arg9 harg9 (q0 Q) (q1 Q) v31 v40 v45 v56 v65 v70 k0_h2 (harg3.unread K) (harg4.unread V) (context Q K V) ⟨n, hn⟩) ▸
        good_trip 𝒱 c bd i arg2 harg2 arg3 harg3 arg4 harg4 arg5 harg5 arg6 harg6 arg7 harg7 arg8 harg8 arg9 harg9 v31 v40 v45 v56 v65 v70 k0_h2 hs ⟨n, hn⟩ _ (ih (Nat.le_of_succ_le hn))
  have h := key _ le_rfl
  rwa [show seen k0_t1_loop.trips = Finset.univ from trips_eq ▸ seen_two] at h

end Cert.Proof.Attn
-- ==== Proof.AttnPoint.lean ====
module

public import proofs.«01_k».proof.Proof.AttnRows

/-! # The block a grid point writes

The rows of attention of the eight heads are written side by side into a scratch buffer, read back whole,
projected, gated and added to the residual. -/

@[expose] public section
noncomputable section
namespace Cert.Proof.Attn

open Idealize.ShloMosaic Idealize.ShloMosaic.TcCoe Idealize.SL.Sem
open Cert.Kernel2Ideal Cert.Kernel2Ideal.Gen

/-- Row `p`, column `n` of the attention of a grid point: column `n` is column `n % 128` of head `n / 128`,
    and head `4 j + i` is in rows `256 i + p` of group `j`. -/
def attAt (V : Vec Ideal S1x4352x256 .bf16) (s : Fin 2 → Fin 1024 → Fin 4352 → ℝ) (J : Finset (Fin 4352)) (p : Fin 256) (n : Fin 1024) : EReal :=
  soft J (s ⟨n.val / 512, by omega⟩ ⟨n.val % 512 / 128 * 256 + p.val, by omega⟩) fun k =>
    kAt V ⟨n.val / 512, by omega⟩ k ⟨n.val % 128, by omega⟩

theorem attAt_head (V : Vec Ideal S1x4352x256 .bf16) (s : Fin 2 → Fin 1024 → Fin 4352 → ℝ) (J : Finset (Fin 4352)) (p : Fin 256)
    (j : Fin 2) (i : Fin 4) (d : Fin 128) (r : Fin 1024) (n : Fin 1024) (hr : r.val = i.val * 256 + p.val)
    (hn : n.val = j.val * 512 + i.val * 128 + d.val) :
    attAt V s J p n = soft J (s j r) fun k => kAt V j k d := by
  unfold attAt
  have e1 : (⟨n.val / 512, by omega⟩ : Fin 2) = j := Fin.ext (by dsimp only; omega)
  have e2 : (⟨n.val % 512 / 128 * 256 + p.val, by omega⟩ : Fin 1024) = r := Fin.ext (by dsimp only; omega)
  have e3 : (⟨n.val % 128, by omega⟩ : Fin 128) = d := Fin.ext (by dsimp only; omega)
  rw [e1, e2, e3]

/-- The scratch buffer after a write of 128 columns from column `o`. -/
theorem canon_columns {o : ℕ} (ho : o + 128 ≤ 1024) {inb : ∀ a, (![0, o] : Fin 2 → ℕ) a + (![256, 128] : Fin 2 → ℕ) a ≤ S256x1024.size a}
    (w : Vec Ideal S256x128 .bf16) (L : List (View.Piece (Elt Ideal) S256x1024 .bf16)) (G : Fin 256 → Fin 1024 → EReal)
    (hw : ∀ p d, w (ix2 p d) = G p ⟨o + d.val, by omega⟩) (p : Fin 256) (n : Fin 1024) (hn : n.val < o + 128)
    (hL : n.val < o → View.canon L (ix2 p n) = G p n) :
    View.canon (⟨Rect.unit (s := S256x1024) ![0, o] ![256, 128] inb, w⟩ :: L) (ix2 p n) = G p n := by
  by_cases h : o ≤ n.val
  · have e : (ix2 p n : S256x1024.Idx) = (Rect.unit (s := S256x1024) ![0, o] ![256, 128] inb).emb (ix2 p (⟨n.val - o, by omega⟩ : Fin 128)) := by
      funext a
      apply Fin.ext
      match a with
      | ⟨0, _⟩ => exact ((Nat.zero_add _).trans (Nat.one_mul p.val)).symm
      | ⟨1, _⟩ => exact ((congrArg (o + ·) (Nat.one_mul (n.val - o))).trans (Nat.add_sub_cancel' h)).symm
    rw [e, View.canon_cons_emb]
    exact (hw p _).trans (congrArg (G p) (Fin.ext (Nat.add_sub_cancel' h)))
  · rw [View.canon_cons_of_not_mem]
    · exact hL (by omega)
    · intro hm
      obtain ⟨x, hx⟩ := (Rect.unit (s := S256x1024) ![0, o] ![256, 128] inb).exists_idx_of_mem hm
      refine h ?_
      have := congrArg (fun y : S256x1024.Idx => (y 1).val) hx
      exact this ▸ Nat.le_add_right o _

/-- A block of four heads' rows over their sums, one head at a time. -/
theorem head_apply {V : Vec Ideal S1x4352x256 .bf16} {s : Fin 2 → Fin 1024 → Fin 4352 → ℝ} {J : Finset (Fin 4352)} (hJ : J.Nonempty) {S : State}
    (h : Good V s J S) (p : Fin 256) (i : Fin 4) (d : Fin 128) (r : Fin 1024) (hr : r.val = i.val * 256 + p.val) :
    (∀ n : Fin 1024, n.val = i.val * 128 + d.val → Ideal.div (S.2.2.1 (ix2 r d)) (S.2.1 (ix2 r 0)) = attAt V s J p n) ∧
    (∀ n : Fin 1024, n.val = 512 + i.val * 128 + d.val → Ideal.div (S.2.2.2.2.2 (ix2 r d)) (S.2.2.2.2.1 (ix2 r 0)) = attAt V s J p n) := by
  refine ⟨fun n hn => ?_, fun n hn => ?_⟩
  · rw [attAt_head V s J p 0 i d r n hr (by simpa using hn)]; exact (h.1 r).div hJ d
  · rw [attAt_head V s J p 1 i d r n hr (by simpa using hn)]; exact (h.2 r).div hJ d

/-- The residual plus the gated projection, at an index. -/
theorem pay4_apply (X : Vec Ideal S1x256x1024 .f32) (g : Vec Ideal S1x1x1x1024 .f32) (A : Vec Ideal S256x1024 .bf16) (W : Vec Ideal S1024x1024 .bf16)
    (p : Fin 256) (n : Fin 1024) :
    k0_pay4 X g A W (ix3 0 p n) = X (ix3 0 p n) + g (ix4 0 0 0 n) * ∑ k : Fin 1024, A (ix2 p k) * W (ix2 k n) := by
  pointwise [k0_pay4]

/-- The gate is row 2 of the modulation. -/
theorem gate_apply (g : Vec Ideal S1x1x6x1024 .f32) (n : Fin 1024) :
    View.ld g (Rect.unit ![0, 0, 2, 0] ![1, 1, 1, 1024] inb_S1x1x6x1024_S1x1x1x1024_0_0_2_0) (ix4 0 0 0 n) = g (ix4 0 0 2 n) := by
  pointwise

/-- The scratch buffer of a point of latents: the eight heads' rows. -/
theorem heads_A {V : Vec Ideal S1x4352x256 .bf16} {s : Fin 2 → Fin 1024 → Fin 4352 → ℝ} {J : Finset (Fin 4352)} (hJ : J.Nonempty) (S : State)
    (hg : Good V s J S) (p : Fin 256) (k : Fin 1024) :
    View.canon (Val := Elt Ideal) (s := S256x1024) (e := .bf16)
     [⟨Rect.unit (s := S256x1024) ![0, 896] ![256, 128] inb_S256x1024_S256x128_0_896, k0_pay3 (k0_pay33 S.2.2.2.2.1 S.2.2.2.2.2)⟩,
      ⟨Rect.unit (s := S256x1024) ![0, 768] ![256, 128] inb_S256x1024_S256x128_0_768, k0_pay36 S.2.2.2.2.1 S.2.2.2.2.2⟩,
      ⟨Rect.unit (s := S256x1024) ![0, 640] ![256, 128] inb_S256x1024_S256x128_0_640, k0_pay35 S.2.2.2.2.1 S.2.2.2.2.2⟩,
      ⟨Rect.unit (s := S256x1024) ![0, 512] ![256, 128] inb_S256x1024_S256x128_0_512, k0_pay34 S.2.2.2.2.1 S.2.2.2.2.2⟩,
      ⟨Rect.unit (s := S256x1024) ![0, 384] ![256, 128] inb_S256x1024_S256x128_0_384, k0_pay32 S.2.1 S.2.2.1⟩,
      ⟨Rect.unit (s := S256x1024) ![0, 256] ![256, 128] inb_S256x1024_S256x128_0_256, k0_pay31 S.2.1 S.2.2.1⟩,
      ⟨Rect.unit (s := S256x1024) ![0, 128] ![256, 128] inb_S256x1024_S256x128_0_128, k0_pay30 S.2.1 S.2.2.1⟩,
      ⟨Rect.unit (s := S256x1024) ![0, 0] ![256, 128] inb_S256x1024_S256x128_0_0, k0_pay29 S.2.1 S.2.2.1⟩] (ix2 p k) = attAt V s J p k := by
  refine canon_columns (o := 896) (by omega) _ _ (attAt V s J) (fun p d => ?_) p k (by omega) fun _ => ?_
  · refine Eq.trans ?_ ((head_apply hJ hg p 3 d ⟨3 * 256 + p.val, by omega⟩ rfl).2 _ (by simp))
    rw [← divf_eq]
    pointwise [k0_pay3, k0_pay33]
  refine canon_columns (o := 768) (by omega) _ _ (attAt V s J) (fun p d => ?_) p k (by omega) fun _ => ?_
  · refine Eq.trans ?_ ((head_apply hJ hg p 2 d ⟨2 * 256 + p.val, by omega⟩ rfl).2 _ (by simp))
    rw [← divf_eq]
    pointwise [k0_pay36, k0_pay33]
  refine canon_columns (o := 640) (by omega) _ _ (attAt V s J) (fun p d => ?_) p k (by omega) fun _ => ?_
  · refine Eq.trans ?_ ((head_apply hJ hg p 1 d ⟨1 * 256 + p.val, by omega⟩ rfl).2 _ (by simp))
    rw [← divf_eq]
    pointwise [k0_pay35, k0_pay33]
  refine canon_columns (o := 512) (by omega) _ _ (attAt V s J) (fun p d => ?_) p k (by omega) fun _ => ?_
  · refine Eq.trans ?_ ((head_apply hJ hg p 0 d ⟨0 * 256 + p.val, by omega⟩ rfl).2 _ (by simp))
    rw [← divf_eq]
    pointwise [k0_pay34, k0_pay33]
  refine canon_columns (o := 384) (by omega) _ _ (attAt V s J) (fun p d => ?_) p k (by omega) fun _ => ?_
  · refine Eq.trans ?_ ((head_apply hJ hg p 3 d ⟨3 * 256 + p.val, by omega⟩ rfl).1 _ (by simp))
    rw [← divf_eq]
    pointwise [k0_pay32, k0_pay28]
  refine canon_columns (o := 256) (by omega) _ _ (attAt V s J) (fun p d => ?_) p k (by omega) fun _ => ?_
  · refine Eq.trans ?_ ((head_apply hJ hg p 2 d ⟨2 * 256 + p.val, by omega⟩ rfl).1 _ (by simp))
    rw [← divf_eq]
    pointwise [k0_pay31, k0_pay28]
  refine canon_columns (o := 128) (by omega) _ _ (attAt V s J) (fun p d => ?_) p k (by omega) fun _ => ?_
  · refine Eq.trans ?_ ((head_apply hJ hg p 1 d ⟨1 * 256 + p.val, by omega⟩ rfl).1 _ (by simp))
    rw [← divf_eq]
    pointwise [k0_pay30, k0_pay28]
  refine canon_columns (o := 0) (by omega) _ _ (attAt V s J) (fun p d => ?_) p k (by omega) fun _ => ?_
  · refine Eq.trans ?_ ((head_apply hJ hg p 0 d ⟨0 * 256 + p.val, by omega⟩ rfl).1 _ (by simp))
    rw [← divf_eq]
    pointwise [k0_pay29, k0_pay28]
  omega

set_option maxHeartbeats 400000 in
/-- What a grid point of latents writes. -/
theorem out_A_apply (c : Dev nD) (i : grid0.Coords) (arg2 : Memref sig .tc .vmem S1x256x1024 .f32) (harg2 : arg2.IsWhole) (arg3 : Memref sig .tc .vmem S1x4352x256 .bf16) (harg3 : arg3.IsWhole) (arg4 : Memref sig .tc .vmem S1x4352x256 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x1024 .bf16) (harg9 : arg9.IsWhole) (hc0 : ¬cond0_0 i) (hc1 : cond0_1 i)
    (x0 : Vec Ideal S1x256x1024 .f32) (x1 : Vec Ideal S1x4352x256 .bf16) (x2 : Vec Ideal S1x4352x256 .bf16) (x3 : Vec Ideal S1024x1024 .bf16) (x4 : Vec Ideal S1x256x1024 .f32) (x5 : Vec Ideal S1x1x6x1024 .f32) {s : Fin 2 → Fin 1024 → Fin 4352 → ℝ} (hs : Scores x0 x1 s) (p : Fin 256) (n : Fin 1024) :
    out0_A_6 c i arg2 harg2 arg3 harg3 arg4 harg4 arg5 harg5 arg6 harg6 arg7 harg7 arg8 harg8 arg9 harg9 hc0 hc1 x0 x1 x2 x3 x4 x5 (ix3 0 p n)
      = x4 (ix3 0 p n) + x5 (ix4 0 0 2 n) * ∑ k : Fin 1024, attAt x2 s Finset.univ p k * x3 (ix2 k n) := by
  frame_out
  rw [pay4_apply, View.readCov_eq_canon']
  have hg := good_loop (V := x2) Variants.none c none i arg2 harg2 arg3 harg3 arg4 harg4 arg5 harg5 arg6 harg6 arg7 harg7 arg8 harg8 arg9 harg9 (context x0 x1 x2).1 (context x0 x1 x2).2.1 (context x0 x1 x2).2.2.1 (context x0 x1 x2).2.2.2.1
    (context x0 x1 x2).2.2.2.2.1 (context x0 x1 x2).2.2.2.2.2 hc1 hs
  have hJ : (Finset.univ : Finset (Fin 4352)).Nonempty := ⟨0, Finset.mem_univ _⟩
  refine congrArg₂ (fun a b : EReal => x4 (ix3 0 p n) + a * b) (gate_apply x5 n) (Finset.sum_congr rfl fun k _ => ?_)
  refine congrArg (fun a : EReal => a * x3 (ix2 k n)) ?_
  show View.canon _ _ = _
  have hix : (Rect.unit (s := S256x1024) ![0, 0] ![256, 1024] inb_S256x1024_S256x1024_0_0).toLoadRect.idx (ix2 p k) = ix2 p k := by
    funext a
    apply Fin.ext
    match a with
    | ⟨0, _⟩ => exact (Nat.zero_add _).trans (Nat.one_mul p.val)
    | ⟨1, _⟩ => exact (Nat.zero_add _).trans (Nat.one_mul k.val)
  rw [hix]
  exact heads_A hJ _ hg p k

/-- The scratch buffer of a point of the context: the eight heads' rows. -/
theorem heads_B {V : Vec Ideal S1x4352x256 .bf16} {s : Fin 2 → Fin 1024 → Fin 4352 → ℝ} {J : Finset (Fin 4352)} (hJ : J.Nonempty) (S : State)
    (hg : Good V s J S) (p : Fin 256) (k : Fin 1024) :
    View.canon (Val := Elt Ideal) (s := S256x1024) (e := .bf16)
     [⟨Rect.unit (s := S256x1024) ![0, 896] ![256, 128] inb_S256x1024_S256x128_0_896, k0_pay2 (k0_pay14 S.2.2.2.2.1 S.2.2.2.2.2)⟩,
      ⟨Rect.unit (s := S256x1024) ![0, 768] ![256, 128] inb_S256x1024_S256x128_0_768, k0_pay13 S.2.2.2.2.1 S.2.2.2.2.2⟩,
      ⟨Rect.unit (s := S256x1024) ![0, 640] ![256, 128] inb_S256x1024_S256x128_0_640, k0_pay12 S.2.2.2.2.1 S.2.2.2.2.2⟩,
      ⟨Rect.unit (s := S256x1024) ![0, 512] ![256, 128] inb_S256x1024_S256x128_0_512, k0_pay11 S.2.2.2.2.1 S.2.2.2.2.2⟩,
      ⟨Rect.unit (s := S256x1024) ![0, 384] ![256, 128] inb_S256x1024_S256x128_0_384, k0_pay9 S.2.1 S.2.2.1⟩,
      ⟨Rect.unit (s := S256x1024) ![0, 256] ![256, 128] inb_S256x1024_S256x128_0_256, k0_pay8 S.2.1 S.2.2.1⟩,
      ⟨Rect.unit (s := S256x1024) ![0, 128] ![256, 128] inb_S256x1024_S256x128_0_128, k0_pay7 S.2.1 S.2.2.1⟩,
      ⟨Rect.unit (s := S256x1024) ![0, 0] ![256, 128] inb_S256x1024_S256x128_0_0, k0_pay6 S.2.1 S.2.2.1⟩] (ix2 p k) = attAt V s J p k := by
  refine canon_columns (o := 896) (by omega) _ _ (attAt V s J) (fun p d => ?_) p k (by omega) fun _ => ?_
  · refine Eq.trans ?_ ((head_apply hJ hg p 3 d ⟨3 * 256 + p.val, by omega⟩ rfl).2 _ (by simp))
    rw [← divf_eq]
    pointwise [k0_pay2, k0_pay14, k0_pay10]
  refine canon_columns (o := 768) (by omega) _ _ (attAt V s J) (fun p d => ?_) p k (by omega) fun _ => ?_
  · refine Eq.trans ?_ ((head_apply hJ hg p 2 d ⟨2 * 256 + p.val, by omega⟩ rfl).2 _ (by simp))
    rw [← divf_eq]
    pointwise [k0_pay13, k0_pay10]
  refine canon_columns (o := 640) (by omega) _ _ (attAt V s J) (fun p d => ?_) p k (by omega) fun _ => ?_
  · refine Eq.trans ?_ ((head_apply hJ hg p 1 d ⟨1 * 256 + p.val, by omega⟩ rfl).2 _ (by simp))
    rw [← divf_eq]
    pointwise [k0_pay12, k0_pay10]
  refine canon_columns (o := 512) (by omega) _ _ (attAt V s J) (fun p d => ?_) p k (by omega) fun _ => ?_
  · refine Eq.trans ?_ ((head_apply hJ hg p 0 d ⟨0 * 256 + p.val, by omega⟩ rfl).2 _ (by simp))
    rw [← divf_eq]
    pointwise [k0_pay11, k0_pay10]
  refine canon_columns (o := 384) (by omega) _ _ (attAt V s J) (fun p d => ?_) p k (by omega) fun _ => ?_
  · refine Eq.trans ?_ ((head_apply hJ hg p 3 d ⟨3 * 256 + p.val, by omega⟩ rfl).1 _ (by simp))
    rw [← divf_eq]
    pointwise [k0_pay9, k0_pay5]
  refine canon_columns (o := 256) (by omega) _ _ (attAt V s J) (fun p d => ?_) p k (by omega) fun _ => ?_
  · refine Eq.trans ?_ ((head_apply hJ hg p 2 d ⟨2 * 256 + p.val, by omega⟩ rfl).1 _ (by simp))
    rw [← divf_eq]
    pointwise [k0_pay8, k0_pay5]
  refine canon_columns (o := 128) (by omega) _ _ (attAt V s J) (fun p d => ?_) p k (by omega) fun _ => ?_
  · refine Eq.trans ?_ ((head_apply hJ hg p 1 d ⟨1 * 256 + p.val, by omega⟩ rfl).1 _ (by simp))
    rw [← divf_eq]
    pointwise [k0_pay7, k0_pay5]
  refine canon_columns (o := 0) (by omega) _ _ (attAt V s J) (fun p d => ?_) p k (by omega) fun _ => ?_
  · refine Eq.trans ?_ ((head_apply hJ hg p 0 d ⟨0 * 256 + p.val, by omega⟩ rfl).1 _ (by simp))
    rw [← divf_eq]
    pointwise [k0_pay6, k0_pay5]
  omega

set_option maxHeartbeats 400000 in
/-- What a grid point of the context writes. -/
theorem out_B_apply (c : Dev nD) (i : grid0.Coords) (arg2 : Memref sig .tc .vmem S1x256x1024 .f32) (harg2 : arg2.IsWhole) (arg3 : Memref sig .tc .vmem S1x4352x256 .bf16) (harg3 : arg3.IsWhole) (arg4 : Memref sig .tc .vmem S1x4352x256 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x1024 .bf16) (harg9 : arg9.IsWhole) (hc0 : cond0_0 i) (hc1 : ¬cond0_1 i)
    (x0 : Vec Ideal S1x256x1024 .f32) (x1 : Vec Ideal S1x4352x256 .bf16) (x2 : Vec Ideal S1x4352x256 .bf16) (x3 : Vec Ideal S1024x1024 .bf16) (x4 : Vec Ideal S1x256x1024 .f32) (x5 : Vec Ideal S1x1x6x1024 .f32) {s : Fin 2 → Fin 1024 → Fin 4352 → ℝ} (hs : Scores x0 x1 s) (p : Fin 256) (n : Fin 1024) :
    out0_B_6 c i arg2 harg2 arg3 harg3 arg4 harg4 arg5 harg5 arg6 harg6 arg7 harg7 arg8 harg8 arg9 harg9 hc0 hc1 x0 x1 x2 x3 x4 x5 (ix3 0 p n)
      = x4 (ix3 0 p n) + x5 (ix4 0 0 2 n) * ∑ k : Fin 1024, attAt x2 s (seen 0) p k * x3 (ix2 k n) := by
  frame_out
  rw [pay4_apply, View.readCov_eq_canon']
  have hg := good_context (V := x2) hs
  have hJ : ((seen 0) : Finset (Fin 4352)).Nonempty := (seen_nonempty 0)
  refine congrArg₂ (fun a b : EReal => x4 (ix3 0 p n) + a * b) (gate_apply x5 n) (Finset.sum_congr rfl fun k _ => ?_)
  refine congrArg (fun a : EReal => a * x3 (ix2 k n)) ?_
  show View.canon _ _ = _
  have hix : (Rect.unit (s := S256x1024) ![0, 0] ![256, 1024] inb_S256x1024_S256x1024_0_0).toLoadRect.idx (ix2 p k) = ix2 p k := by
    funext a
    apply Fin.ext
    match a with
    | ⟨0, _⟩ => exact (Nat.zero_add _).trans (Nat.one_mul p.val)
    | ⟨1, _⟩ => exact (Nat.zero_add _).trans (Nat.one_mul k.val)
  rw [hix]
  exact heads_B hJ _ hg p k

end Cert.Proof.Attn
-- ==== Proof.AttnReference.lean ====
module

public import proofs.«01_k».proof.Proof.AttnKernel
public import proofs.«01_k».proof.Proof.Gen.Reference2Ideal.Run

/-! # What the reference of the global attention computes

The reference's result read at an index: the residual plus the gated projection of rows of attention, the
latents over every key, the context over its own keys. -/

@[expose] public section
noncomputable section
namespace Cert.Proof.Attn

open Idealize.ShloMosaic Idealize.ShloMosaic.TcCoe Idealize.SL.Sem
open Cert.Reference2Ideal Cert.Reference2Ideal.Facts₀ Cert.Reference2Ideal.Facts

/-- The reference's scale of the scores. -/
def refScale : ℝ := 11863283 / 134217728

theorem ofBits_scale : Ideal.ofBits .f32 0x3DB504F3#32 = (refScale : EReal) := by
  rw [show refScale = 11863283 * 2 ^ (-27 : ℤ) by norm_num [refScale]]
  simp [Ideal.ofBits, Ideal.ieee]

theorem qScale_log : refScale = qScale * Real.log 2 := by
  unfold refScale qScale
  rw [mul_assoc, inv_mul_cancel₀ (Real.log_pos one_lt_two).ne', mul_one]

/-- Every entry is a real. -/
def Real' {s : Shape} (x : s.Idx → EReal) : Prop := ∀ i, x i = ((x i).toReal : EReal)

/-- The product of query row `n` of head `4 j + i` and key `t`. -/
def dotReal (q : FVec Ideal S8x4352x1024 .f32) (k : FVec Ideal S8x4352x256 .f32) (b : Fin 8) (n : Fin 4352) (j : Fin 2) (i : Fin 4) (t : Fin 4352) : ℝ :=
  ∑ d : Fin 128, (q (ix3 b n ⟨j.val * 512 + i.val * 128 + d.val, by omega⟩) : EReal).toReal * (k (ix3 b t ⟨j.val * 128 + d.val, by omega⟩) : EReal).toReal

theorem dotReal_coe {q : FVec Ideal S8x4352x1024 .f32} {k : FVec Ideal S8x4352x256 .f32} (hq : Real' q) (hk : Real' k)
    (b : Fin 8) (n : Fin 4352) (j : Fin 2) (i : Fin 4) (t : Fin 4352) :
    (dotReal q k b n j i t : EReal) = ∑ d : Fin 128, k (ix3 b t ⟨j.val * 128 + d.val, by omega⟩) * q (ix3 b n ⟨j.val * 512 + i.val * 128 + d.val, by omega⟩) := by
  unfold dotReal
  rw [← coe_sum]
  refine Finset.sum_congr rfl fun d _ => ?_
  rw [EReal.coe_mul, ← hq, ← hk, mul_comm]

/-- Column `c` of the attention of row `n` over the keys `J`. -/
def attn (q : FVec Ideal S8x4352x1024 .f32) (k v : FVec Ideal S8x4352x256 .f32) (b : Fin 8) (n : Fin 4352) (c : Fin 1024) (J : Finset (Fin 4352)) : EReal :=
  soft J (fun t => dotReal q k b n ⟨c.val / 512, by omega⟩ ⟨c.val % 512 / 128, by omega⟩ t * qScale)
    (fun t => v (ix3 b t ⟨c.val / 512 * 128 + c.val % 128, by omega⟩))

/-- The residual plus the gated projection of row `n`, its gate in group `e`. -/
def result (q : FVec Ideal S8x4352x1024 .f32) (k v : FVec Ideal S8x4352x256 .f32) (w : FVec Ideal S1024x1024 .f32) (x : FVec Ideal S8x4352x1024 .f32)
    (g : FVec Ideal S8x2x6x1024 .f32) (b : Fin 8) (n : Fin 4352) (c : Fin 1024) (e : Fin 2) (J : Finset (Fin 4352)) : EReal :=
  x (ix3 b n c) + g (ix4 b e 2 c) * ∑ h : Fin 1024, attn q k v b n h J * w (ix2 h c)

theorem soft_map {ι κ : Type} (J : Finset κ) (e : κ ↪ ι) (s : ι → ℝ) (v : ι → EReal) :
    soft (J.map e) s v = soft J (fun t => s (e t)) (fun t => v (e t)) := by
  simp only [soft, share, Finset.sum_map]

theorem seen_zero_map : seen 0 = Finset.univ.map (keysFrom 4096 256 (by omega)) := by
  rw [seen_zero, Finset.empty_disjUnion]

/-- The greatest of reals along an axis is a real. -/
theorem hostMax_real {s t u : Shape} {a : Fin s.rank} {x : FVec Ideal s .f32} (hx : Real' x) (z : FVec Ideal u .f32) (hz : ∀ i, z i = (⊥ : EReal))
    (h' : s.ReducesTo [a] t) (h : s.Reduces [a] t) (hu : 0 < u.numel) (j : t.Idx) (hp : 0 < s.size a) :
    ∃ M : ℝ, Host.reduce (FloatOps.maximumf : Ideal .f32 → Ideal .f32 → Ideal .f32) x z h' hu j = (M : EReal) := by
  obtain ⟨M, hM⟩ := fold_max_real' (Finset.univ : Finset (Fin (s.size a))) ⟨⟨0, hp⟩, Finset.mem_univ _⟩ fun k => (x (h.lift j k) : EReal).toReal
  refine ⟨M, ?_⟩
  rw [Host.reduce_eq_fold_single (FloatOps.maximumf : Ideal .f32 → Ideal .f32 → Ideal .f32) x z h' h hu j, hz, ← hM]
  exact Finset.fold_congr fun k _ => hx _

theorem max_bot_real {s : Shape} (z r : FVec Ideal s .f32) (i : s.Idx) (hz : z i = (⊥ : EReal)) (hr : ∃ M : ℝ, r i = (M : EReal)) :
    ∃ M : ℝ, maximumf z r i = (M : EReal) := by
  obtain ⟨M, hM⟩ := hr
  refine ⟨M, ?_⟩
  show max (z i : EReal) (r i : EReal) = _
  rw [hz, hM, bot_sup_eq]

section
variable [Cert.Reference2Ideal.Facts]

/-! ### The latents -/

/-- The scaled scores. -/
def scL (q : FVec Ideal S8x4352x1024 .f32) (k : FVec Ideal S8x4352x256 .f32) : FVec Ideal S8x2x4x4096x4352 .f32 :=
  mulf (transpose S8x2x4x4096x4352 [0, 1, 4, 3, 2] (Host.dotGeneral dot_S8x4352x2x128_S8x4096x2x4x128_S8x2x4352x4096x4_3_4_1_13_02_02 none (shapeCast S8x4352x2x128 k shapeCasts_S8x4352x256_S8x4352x2x128)
    (extractStridedSlice S8x4096x2x4x128 ![0, 0, 0, 0, 0] (shapeCast S8x4352x2x4x128 q shapeCasts_S8x4352x1024_S8x4352x2x4x128) slices_S8x4352x2x4x128_S8x4096x2x4x128_0_0_0_0_0)) transposes_S8x2x4352x4096x4_S8x2x4x4096x4352_0_1_4_3_2)
    (broadcastInDim S8x2x4x4096x4352 ![] bcast_S_S8x2x4x4096x4352 (constant S_ .f32 0x3DB504F3#32))

/-- The greatest score of each row. -/
def mxL (z : FVec Ideal S8x2x4x4096x4352 .f32) : FVec Ideal S8x2x4x4096 .f32 :=
  maximumf (broadcastInDim S8x2x4x4096 ![] bcast_S_S8x2x4x4096 (constant S_ .f32 0xFF800000#32))
    (Host.reduce FloatOps.maximumf z (constant S_ .f32 0xFF800000#32) reducesTo_S8x2x4x4096x4352_S8x2x4x4096_d4 h_S_)

/-- The exponentials of the scores less the row's greatest. -/
def exL (z : FVec Ideal S8x2x4x4096x4352 .f32) : FVec Ideal S8x2x4x4096x4352 .f32 :=
  Host.exp (subf z (broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3 (mxL z))))

/-- The exponentials over their row's sum. -/
def prL (z : FVec Ideal S8x2x4x4096x4352 .f32) : FVec Ideal S8x2x4x4096x4352 .f32 :=
  Host.divf (exL z) (broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3
      (Host.reduceAdd (exL z) (constant S_ .f32 0x00000000#32) reducesTo_S8x2x4x4096x4352_S8x2x4x4096_d4 h_S_)))

/-- The rows of attention, the heads side by side. -/
def atL (q : FVec Ideal S8x4352x1024 .f32) (k v : FVec Ideal S8x4352x256 .f32) : FVec Ideal S8x4096x1024 .f32 :=
  shapeCast S8x4096x1024 (transpose S8x4096x2x4x128 [0, 4, 1, 3, 2] (Host.dotGeneral dot_S8x4352x2x128_S8x2x4x4096x4352_S8x2x128x4x4096_1_4_3_23_02_01 none
    (shapeCast S8x4352x2x128 v shapeCasts_S8x4352x256_S8x4352x2x128) (prL (scL q k))) transposes_S8x2x128x4x4096_S8x4096x2x4x128_0_4_1_3_2) shapeCasts_S8x4096x2x4x128_S8x4096x1024

/-- The residual plus the gated projection. -/
def outL (q : FVec Ideal S8x4352x1024 .f32) (k v : FVec Ideal S8x4352x256 .f32) (w : FVec Ideal S1024x1024 .f32) (x : FVec Ideal S8x4352x1024 .f32)
    (g : FVec Ideal S8x2x6x1024 .f32) : FVec Ideal S8x4096x1024 .f32 :=
  addf (extractStridedSlice S8x4096x1024 ![0, 0, 0] x slices_S8x4352x1024_S8x4096x1024_0_0_0)
    (mulf (broadcastInDim S8x4096x1024 ![0, 1, 2] bcast_S8x1x1024_S8x4096x1024_0_1_2 (broadcastInDim S8x1x1024 ![0, 2] bcast_S8x1024_S8x1x1024_0_2
      (shapeCast S8x1024 (extractStridedSlice S8x1x1x1024 ![0, 1, 2, 0] g slices_S8x2x6x1024_S8x1x1x1024_0_1_2_0) shapeCasts_S8x1x1x1024_S8x1024)))
      (Host.dotGeneral dot_S8x4096x1024_S1024x1024_S8x4096x1024_2_0_01_1_n_n none (atL q k v) w))

theorem scL_apply {q : FVec Ideal S8x4352x1024 .f32} {k : FVec Ideal S8x4352x256 .f32} (hq : Real' q) (hk : Real' k)
    (b : Fin 8) (j : Fin 2) (i : Fin 4) (n : Fin 4096) (t : Fin 4352) :
    scL q k (ix5 b j i n t) = ((dotReal q k b (⟨n.val, by omega⟩ : Fin 4352) j i t * refScale : ℝ) : EReal) := by
  rw [EReal.coe_mul, ← ofBits_scale, dotReal_coe hq hk]
  pointwise [scL]

theorem mxL_real {z : FVec Ideal S8x2x4x4096x4352 .f32} (hz : Real' z) (i : S8x2x4x4096.Idx) : ∃ M : ℝ, mxL z i = (M : EReal) := by
  unfold mxL
  exact max_bot_real _ _ i ofBits_neg_inf
    (hostMax_real hz (constant S_ .f32 0xFF800000#32) (fun _ => ofBits_neg_inf) reducesTo_S8x2x4x4096x4352_S8x2x4x4096_d4 (by decide) h_S_ i (by decide))

theorem exL_apply (z : FVec Ideal S8x2x4x4096x4352 .f32) (b : Fin 8) (j : Fin 2) (i : Fin 4) (n : Fin 4096) (t : Fin 4352) :
    exL z (ix5 b j i n t) = Ideal.exp (z (ix5 b j i n t) - mxL z (ix4 b j i n)) := by
  pointwise [exL]

theorem prL_apply (z : FVec Ideal S8x2x4x4096x4352 .f32) (b : Fin 8) (j : Fin 2) (i : Fin 4) (n : Fin 4096) (t : Fin 4352) :
    prL z (ix5 b j i n t) = Ideal.div (exL z (ix5 b j i n t)) (0 + ∑ u : Fin 4352, exL z (ix5 b j i n u)) := by
  pointwise [prL]

theorem atL_open (q : FVec Ideal S8x4352x1024 .f32) (k v : FVec Ideal S8x4352x256 .f32) (b : Fin 8) (n : Fin 4096) (c : Fin 1024) :
    atL q k v (ix3 b n c) = ∑ t : Fin 4352, v (ix3 b t ⟨c.val / 512 * 128 + c.val % 128, by omega⟩)
      * prL (scL q k) (ix5 b ⟨c.val / 512, by omega⟩ ⟨c.val % 512 / 128, by omega⟩ n t) := by
  have e : (⟨c.val % 512 / 128, by omega⟩ : Fin 4) = ⟨c.val / 128 % 4, by omega⟩ := Fin.ext (by show c.val % 512 / 128 = c.val / 128 % 4; omega)
  rw [e]
  pointwise [atL]

theorem atL_apply {q : FVec Ideal S8x4352x1024 .f32} {k : FVec Ideal S8x4352x256 .f32} (hq : Real' q) (hk : Real' k)
    (v : FVec Ideal S8x4352x256 .f32) (b : Fin 8) (n : Fin 4096) (c : Fin 1024) :
    atL q k v (ix3 b n c) = attn q k v b (⟨n.val, by omega⟩ : Fin 4352) c Finset.univ := by
  have hz : Real' (scL q k) := by
    intro i
    obtain ⟨r, hr⟩ : ∃ r : ℝ, scL q k i = (r : EReal) := by
      obtain ⟨b', j', i', n', t', rfl⟩ : ∃ b' j' i' n' t', i = ix5 b' j' i' n' t' := ⟨i 0, i 1, i 2, i 3, i 4, by funext a; match a with | 0 => rfl | 1 => rfl | 2 => rfl | 3 => rfl | 4 => rfl⟩
      exact ⟨_, scL_apply hq hk b' j' i' n' t'⟩
    rw [hr, EReal.toReal_coe]
  obtain ⟨M, hM⟩ := mxL_real hz (ix4 b ⟨c.val / 512, by omega⟩ ⟨c.val % 512 / 128, by omega⟩ n)
  rw [atL_open]
  refine Eq.trans (Finset.sum_congr rfl fun t _ => ?_) ((soft_of_exp (J := Finset.univ) Finset.univ_nonempty (s := fun t : Fin 4352 => dotReal q k b (⟨n.val, by omega⟩ : Fin 4352) ⟨c.val / 512, by omega⟩ ⟨c.val % 512 / 128, by omega⟩ t * qScale)
    (t := fun t : Fin 4352 => dotReal q k b (⟨n.val, by omega⟩ : Fin 4352) ⟨c.val / 512, by omega⟩ ⟨c.val % 512 / 128, by omega⟩ t * refScale) (fun t => by rw [qScale_log, mul_assoc]) M
    (fun t : Fin 4352 => v (ix3 b t ⟨c.val / 512 * 128 + c.val % 128, by omega⟩))).trans ?_)
  rotate_left
  · rfl
  · rw [prL_apply, exL_apply, hM, scL_apply hq hk]
    refine congrArg (fun z : EReal => _ * Ideal.div _ (0 + z)) (Finset.sum_congr rfl fun u _ => ?_)
    rw [exL_apply, hM, scL_apply hq hk]

theorem outL_open (q : FVec Ideal S8x4352x1024 .f32) (k v : FVec Ideal S8x4352x256 .f32) (w : FVec Ideal S1024x1024 .f32) (x : FVec Ideal S8x4352x1024 .f32)
    (g : FVec Ideal S8x2x6x1024 .f32) (b : Fin 8) (n : Fin 4096) (c : Fin 1024) :
    outL q k v w x g (ix3 b n c) = x (ix3 b (⟨n.val, by omega⟩ : Fin 4352) c) + g (ix4 b 1 2 c) * ∑ h : Fin 1024, atL q k v (ix3 b n h) * w (ix2 h c) := by
  pointwise [outL]

theorem outL_apply {q : FVec Ideal S8x4352x1024 .f32} {k : FVec Ideal S8x4352x256 .f32} (hq : Real' q) (hk : Real' k)
    (v : FVec Ideal S8x4352x256 .f32) (w : FVec Ideal S1024x1024 .f32) (x : FVec Ideal S8x4352x1024 .f32)
    (g : FVec Ideal S8x2x6x1024 .f32) (b : Fin 8) (n : Fin 4096) (c : Fin 1024) :
    outL q k v w x g (ix3 b n c) = result q k v w x g b (⟨n.val, by omega⟩ : Fin 4352) c 1 Finset.univ := by
  rw [outL_open]
  unfold result
  simp only [atL_apply hq hk]

/-! ### The context -/

/-- The scaled scores. -/
def scC (q : FVec Ideal S8x4352x1024 .f32) (k : FVec Ideal S8x4352x256 .f32) : FVec Ideal S8x2x4x256x256 .f32 :=
  mulf (transpose S8x2x4x256x256 [0, 1, 4, 3, 2] (Host.dotGeneral dot_S8x256x2x128_S8x256x2x4x128_S8x2x256x256x4_3_4_1_13_02_02 none (extractStridedSlice S8x256x2x128 ![0, 4096, 0, 0] (shapeCast S8x4352x2x128 k shapeCasts_S8x4352x256_S8x4352x2x128) slices_S8x4352x2x128_S8x256x2x128_0_4096_0_0)
    (extractStridedSlice S8x256x2x4x128 ![0, 4096, 0, 0, 0] (shapeCast S8x4352x2x4x128 q shapeCasts_S8x4352x1024_S8x4352x2x4x128) slices_S8x4352x2x4x128_S8x256x2x4x128_0_4096_0_0_0)) transposes_S8x2x256x256x4_S8x2x4x256x256_0_1_4_3_2)
    (broadcastInDim S8x2x4x256x256 ![] bcast_S_S8x2x4x256x256 (constant S_ .f32 0x3DB504F3#32))

/-- The greatest score of each row. -/
def mxC (z : FVec Ideal S8x2x4x256x256 .f32) : FVec Ideal S8x2x4x256 .f32 :=
  maximumf (broadcastInDim S8x2x4x256 ![] bcast_S_S8x2x4x256 (constant S_ .f32 0xFF800000#32))
    (Host.reduce FloatOps.maximumf z (constant S_ .f32 0xFF800000#32) reducesTo_S8x2x4x256x256_S8x2x4x256_d4 h_S_)

/-- The exponentials of the scores less the row's greatest. -/
def exC (z : FVec Ideal S8x2x4x256x256 .f32) : FVec Ideal S8x2x4x256x256 .f32 :=
  Host.exp (subf z (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3 (mxC z))))

/-- The exponentials over their row's sum. -/
def prC (z : FVec Ideal S8x2x4x256x256 .f32) : FVec Ideal S8x2x4x256x256 .f32 :=
  Host.divf (exC z) (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3
      (Host.reduceAdd (exC z) (constant S_ .f32 0x00000000#32) reducesTo_S8x2x4x256x256_S8x2x4x256_d4 h_S_)))

/-- The rows of attention, the heads side by side. -/
def atC (q : FVec Ideal S8x4352x1024 .f32) (k v : FVec Ideal S8x4352x256 .f32) : FVec Ideal S8x256x1024 .f32 :=
  shapeCast S8x256x1024 (transpose S8x256x2x4x128 [0, 4, 1, 3, 2] (Host.dotGeneral dot_S8x256x2x128_S8x2x4x256x256_S8x2x128x4x256_1_4_3_23_02_01 none
    (extractStridedSlice S8x256x2x128 ![0, 4096, 0, 0] (shapeCast S8x4352x2x128 v shapeCasts_S8x4352x256_S8x4352x2x128) slices_S8x4352x2x128_S8x256x2x128_0_4096_0_0) (prC (scC q k))) transposes_S8x2x128x4x256_S8x256x2x4x128_0_4_1_3_2) shapeCasts_S8x256x2x4x128_S8x256x1024

/-- The residual plus the gated projection. -/
def outC (q : FVec Ideal S8x4352x1024 .f32) (k v : FVec Ideal S8x4352x256 .f32) (w : FVec Ideal S1024x1024 .f32) (x : FVec Ideal S8x4352x1024 .f32)
    (g : FVec Ideal S8x2x6x1024 .f32) : FVec Ideal S8x256x1024 .f32 :=
  addf (extractStridedSlice S8x256x1024 ![0, 4096, 0] x slices_S8x4352x1024_S8x256x1024_0_4096_0)
    (mulf (broadcastInDim S8x256x1024 ![0, 1, 2] bcast_S8x1x1024_S8x256x1024_0_1_2 (broadcastInDim S8x1x1024 ![0, 2] bcast_S8x1024_S8x1x1024_0_2
      (shapeCast S8x1024 (extractStridedSlice S8x1x1x1024 ![0, 0, 2, 0] g slices_S8x2x6x1024_S8x1x1x1024_0_0_2_0) shapeCasts_S8x1x1x1024_S8x1024)))
      (Host.dotGeneral dot_S8x256x1024_S1024x1024_S8x256x1024_2_0_01_1_n_n none (atC q k v) w))

theorem scC_apply {q : FVec Ideal S8x4352x1024 .f32} {k : FVec Ideal S8x4352x256 .f32} (hq : Real' q) (hk : Real' k)
    (b : Fin 8) (j : Fin 2) (i : Fin 4) (n : Fin 256) (t : Fin 256) :
    scC q k (ix5 b j i n t) = ((dotReal q k b (⟨4096 + n.val, by omega⟩ : Fin 4352) j i (keysFrom 4096 256 (by omega) t) * refScale : ℝ) : EReal) := by
  rw [EReal.coe_mul, ← ofBits_scale, dotReal_coe hq hk]
  pointwise [scC]
  rfl

theorem mxC_real {z : FVec Ideal S8x2x4x256x256 .f32} (hz : Real' z) (i : S8x2x4x256.Idx) : ∃ M : ℝ, mxC z i = (M : EReal) := by
  unfold mxC
  exact max_bot_real _ _ i ofBits_neg_inf
    (hostMax_real hz (constant S_ .f32 0xFF800000#32) (fun _ => ofBits_neg_inf) reducesTo_S8x2x4x256x256_S8x2x4x256_d4 (by decide) h_S_ i (by decide))

theorem exC_apply (z : FVec Ideal S8x2x4x256x256 .f32) (b : Fin 8) (j : Fin 2) (i : Fin 4) (n : Fin 256) (t : Fin 256) :
    exC z (ix5 b j i n t) = Ideal.exp (z (ix5 b j i n t) - mxC z (ix4 b j i n)) := by
  pointwise [exC]

theorem prC_apply (z : FVec Ideal S8x2x4x256x256 .f32) (b : Fin 8) (j : Fin 2) (i : Fin 4) (n : Fin 256) (t : Fin 256) :
    prC z (ix5 b j i n t) = Ideal.div (exC z (ix5 b j i n t)) (0 + ∑ u : Fin 256, exC z (ix5 b j i n u)) := by
  pointwise [prC]

theorem atC_open (q : FVec Ideal S8x4352x1024 .f32) (k v : FVec Ideal S8x4352x256 .f32) (b : Fin 8) (n : Fin 256) (c : Fin 1024) :
    atC q k v (ix3 b n c) = ∑ t : Fin 256, v (ix3 b (keysFrom 4096 256 (by omega) t) ⟨c.val / 512 * 128 + c.val % 128, by omega⟩)
      * prC (scC q k) (ix5 b ⟨c.val / 512, by omega⟩ ⟨c.val % 512 / 128, by omega⟩ n t) := by
  have e : (⟨c.val % 512 / 128, by omega⟩ : Fin 4) = ⟨c.val / 128 % 4, by omega⟩ := Fin.ext (by show c.val % 512 / 128 = c.val / 128 % 4; omega)
  rw [e]
  pointwise [atC]
  rfl

theorem atC_apply {q : FVec Ideal S8x4352x1024 .f32} {k : FVec Ideal S8x4352x256 .f32} (hq : Real' q) (hk : Real' k)
    (v : FVec Ideal S8x4352x256 .f32) (b : Fin 8) (n : Fin 256) (c : Fin 1024) :
    atC q k v (ix3 b n c) = attn q k v b (⟨4096 + n.val, by omega⟩ : Fin 4352) c (seen 0) := by
  have hz : Real' (scC q k) := by
    intro i
    obtain ⟨r, hr⟩ : ∃ r : ℝ, scC q k i = (r : EReal) := by
      obtain ⟨b', j', i', n', t', rfl⟩ : ∃ b' j' i' n' t', i = ix5 b' j' i' n' t' := ⟨i 0, i 1, i 2, i 3, i 4, by funext a; match a with | 0 => rfl | 1 => rfl | 2 => rfl | 3 => rfl | 4 => rfl⟩
      exact ⟨_, scC_apply hq hk b' j' i' n' t'⟩
    rw [hr, EReal.toReal_coe]
  obtain ⟨M, hM⟩ := mxC_real hz (ix4 b ⟨c.val / 512, by omega⟩ ⟨c.val % 512 / 128, by omega⟩ n)
  rw [atC_open]
  refine Eq.trans (Finset.sum_congr rfl fun t _ => ?_) ((soft_of_exp (J := Finset.univ) Finset.univ_nonempty (s := fun t : Fin 256 => dotReal q k b (⟨4096 + n.val, by omega⟩ : Fin 4352) ⟨c.val / 512, by omega⟩ ⟨c.val % 512 / 128, by omega⟩ (keysFrom 4096 256 (by omega) t) * qScale)
    (t := fun t : Fin 256 => dotReal q k b (⟨4096 + n.val, by omega⟩ : Fin 4352) ⟨c.val / 512, by omega⟩ ⟨c.val % 512 / 128, by omega⟩ (keysFrom 4096 256 (by omega) t) * refScale) (fun t => by rw [qScale_log, mul_assoc]) M
    (fun t : Fin 256 => v (ix3 b (keysFrom 4096 256 (by omega) t) ⟨c.val / 512 * 128 + c.val % 128, by omega⟩))).trans ?_)
  rotate_left
  · unfold attn; rw [seen_zero_map, soft_map]
  · rw [prC_apply, exC_apply, hM, scC_apply hq hk]
    refine congrArg (fun z : EReal => _ * Ideal.div _ (0 + z)) (Finset.sum_congr rfl fun u _ => ?_)
    rw [exC_apply, hM, scC_apply hq hk]

theorem outC_open (q : FVec Ideal S8x4352x1024 .f32) (k v : FVec Ideal S8x4352x256 .f32) (w : FVec Ideal S1024x1024 .f32) (x : FVec Ideal S8x4352x1024 .f32)
    (g : FVec Ideal S8x2x6x1024 .f32) (b : Fin 8) (n : Fin 256) (c : Fin 1024) :
    outC q k v w x g (ix3 b n c) = x (ix3 b (⟨4096 + n.val, by omega⟩ : Fin 4352) c) + g (ix4 b 0 2 c) * ∑ h : Fin 1024, atC q k v (ix3 b n h) * w (ix2 h c) := by
  pointwise [outC]

theorem outC_apply {q : FVec Ideal S8x4352x1024 .f32} {k : FVec Ideal S8x4352x256 .f32} (hq : Real' q) (hk : Real' k)
    (v : FVec Ideal S8x4352x256 .f32) (w : FVec Ideal S1024x1024 .f32) (x : FVec Ideal S8x4352x1024 .f32)
    (g : FVec Ideal S8x2x6x1024 .f32) (b : Fin 8) (n : Fin 256) (c : Fin 1024) :
    outC q k v w x g (ix3 b n c) = result q k v w x g b (⟨4096 + n.val, by omega⟩ : Fin 4352) c 0 (seen 0) := by
  rw [outC_open]
  unfold result
  simp only [atC_apply hq hk]

/-- The two parts, the context after the latents. -/
def whole (q : FVec Ideal S8x4352x1024 .f32) (k v : FVec Ideal S8x4352x256 .f32) (w : FVec Ideal S1024x1024 .f32) (x : FVec Ideal S8x4352x1024 .f32)
    (g : FVec Ideal S8x2x6x1024 .f32) : FVec Ideal S8x4352x1024 .f32 :=
  concatenate S8x4352x1024 1 [⟨S8x4096x1024, outL q k v w x g⟩, ⟨S8x256x1024, outC q k v w x g⟩] concatenates_S8x4096x1024_S8x256x1024_S8x4352x1024_d1

theorem whole_latents {q : FVec Ideal S8x4352x1024 .f32} {k : FVec Ideal S8x4352x256 .f32} (hq : Real' q) (hk : Real' k)
    (v : FVec Ideal S8x4352x256 .f32) (w : FVec Ideal S1024x1024 .f32) (x : FVec Ideal S8x4352x1024 .f32)
    (g : FVec Ideal S8x2x6x1024 .f32) (b : Fin 8) (n : Fin 4352) (c : Fin 1024) (hn : n.val < 4096) :
    whole q k v w x g (ix3 b n c) = result q k v w x g b n c 1 Finset.univ := by
  pointwise [whole]
  exact (dif_pos hn).trans (outL_apply hq hk v w x g b ⟨n.val, hn⟩ c)

theorem whole_context {q : FVec Ideal S8x4352x1024 .f32} {k : FVec Ideal S8x4352x256 .f32} (hq : Real' q) (hk : Real' k)
    (v : FVec Ideal S8x4352x256 .f32) (w : FVec Ideal S1024x1024 .f32) (x : FVec Ideal S8x4352x1024 .f32)
    (g : FVec Ideal S8x2x6x1024 .f32) (b : Fin 8) (n : Fin 4352) (c : Fin 1024) (hn : ¬ n.val < 4096) :
    whole q k v w x g (ix3 b n c) = result q k v w x g b n c 0 (seen 0) := by
  pointwise [whole]
  refine (dif_neg hn).trans ((outC_apply hq hk v w x g b ⟨n.val - 4096, by omega⟩ c).trans ?_)
  exact congrArg (fun r => result q k v w x g b r c 0 (seen 0)) (Fin.ext (by show 4096 + (n.val - 4096) = n.val; omega))

theorem res_whole (m : (ℓ : Loc nD τ sig) → Buf (Elt Ideal) ℓ) (c : Dev nD) :
    Value.res_main_v59 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v59 whole outL outC atL atC prL prC exL exC mxL mxC scL scC
  rfl

end
end Cert.Proof.Attn
-- ==== Proof.AttnValue.lean ====
module

public import proofs.«01_k».proof.Proof.AttnPoint
public import proofs.«01_k».proof.Proof.AttnReference
public import proofs.«01_k».proof.Proof.Gen.Kernel2Ideal.Value
public import proofs.«01_k».proof.Defs

/-! # The global attention's array and its reference's are equal

Each grid point's blocks are read at an index of the arrays, so that what the point writes is the reference's
result on its rows; the points' blocks cover the output. -/

@[expose] public section
noncomputable section
namespace Cert.Proof.Attn

open Idealize.ShloMosaic Idealize.ShloMosaic.TcCoe Idealize.SL.Sem
open Cert.Kernel2Ideal Cert.Kernel2Ideal.Gen

section
variable [Cert.Kernel2Ideal.Facts]

/-- The group of the modulation table that a tile takes: the latents' or the context's. -/
def group (t : ℕ) : ℕ := if t % 17 < 16 then 1 else 0

theorem index0 : ∀ t : Fin cfg0.N, win0_0.index t = ![t.val / 17, t.val % 17, 0] :=
  (by decide +kernel : ∀ t : Fin grid0.N, win0_0.index t = ![t.val / 17, t.val % 17, 0])
theorem index1 : ∀ t : Fin cfg0.N, win0_1.index t = ![t.val / 17, 0, 0] :=
  (by decide +kernel : ∀ t : Fin grid0.N, win0_1.index t = ![t.val / 17, 0, 0])
theorem index2 : ∀ t : Fin cfg0.N, win0_2.index t = ![t.val / 17, 0, 0] :=
  (by decide +kernel : ∀ t : Fin grid0.N, win0_2.index t = ![t.val / 17, 0, 0])
theorem index3 : ∀ t : Fin cfg0.N, win0_3.index t = ![0, 0] :=
  (by decide +kernel : ∀ t : Fin grid0.N, win0_3.index t = ![0, 0])
theorem index4 : ∀ t : Fin cfg0.N, win0_4.index t = ![t.val / 17, t.val % 17, 0] :=
  (by decide +kernel : ∀ t : Fin grid0.N, win0_4.index t = ![t.val / 17, t.val % 17, 0])
theorem index5 : ∀ t : Fin cfg0.N, win0_5.index t = ![t.val / 17, group t.val, 0, 0] :=
  (by decide +kernel : ∀ t : Fin grid0.N, win0_5.index t = ![t.val / 17, group t.val, 0, 0])
theorem index6 : ∀ t : Fin cfg0.N, win0_6.index t = ![t.val / 17, t.val % 17, 0] :=
  (by decide +kernel : ∀ t : Fin grid0.N, win0_6.index t = ![t.val / 17, t.val % 17, 0])

theorem points (t : Fin cfg0.N) : t.val < 136 := lt_of_lt_of_eq t.isLt N_0

variable (m : (ℓ : Loc nD τ sig) → Buf (Elt Ideal) ℓ) (c : Dev nD)

theorem V_k : V m c main_v0 = m ((c.tc : Thread nD τ).loc main_arg1) := by
  unfold V
  after_results_simp <;> rfl
theorem V_v : V m c main_v1 = m ((c.tc : Thread nD τ).loc main_arg2) := by
  unfold V
  after_results_simp <;> rfl
theorem V_w : V m c main_v2 = m ((c.tc : Thread nD τ).loc main_arg3) := by
  unfold V
  after_results_simp <;> rfl

theorem block_q (t : Fin cfg0.N) (p : Fin 256) (n : Fin 1024) :
    (iblk m c 0 t : Vec Ideal S1x256x1024 .f32) (ix3 0 p n)
      = (m ((c.tc : Thread nD τ).loc main_arg0) : Vec Ideal S8x4352x1024 .f32) (ix3 ⟨t.val / 17, by have := points t; omega⟩ ⟨t.val % 17 * 256 + p.val, by omega⟩ n) := by
  unfold iblk
  show V m c main_arg0 _ = _
  rw [V_main_arg0]
  refine congrArg (m ((c.tc : Thread nD τ).loc main_arg0)) ?_
  funext a
  apply Fin.ext
  match a with
  | ⟨0, _⟩ => blk_simp [index0]; rfl
  | ⟨1, _⟩ => blk_simp [index0]
  | ⟨2, _⟩ => blk_simp [index0]

theorem block_k (t : Fin cfg0.N) (n : Fin 4352) (d : Fin 256) :
    (iblk m c 1 t : Vec Ideal S1x4352x256 .bf16) (ix3 0 n d)
      = (m ((c.tc : Thread nD τ).loc main_arg1) : Vec Ideal S8x4352x256 .f32) (ix3 ⟨t.val / 17, by have := points t; omega⟩ n d) := by
  unfold iblk
  show V m c main_v0 _ = _
  rw [V_k]
  refine congrArg (m ((c.tc : Thread nD τ).loc main_arg1)) ?_
  funext a
  apply Fin.ext
  match a with
  | ⟨0, _⟩ => blk_simp [index1]; rfl
  | ⟨1, _⟩ => blk_simp [index1]
  | ⟨2, _⟩ => blk_simp [index1]

theorem block_v (t : Fin cfg0.N) (n : Fin 4352) (d : Fin 256) :
    (iblk m c 2 t : Vec Ideal S1x4352x256 .bf16) (ix3 0 n d)
      = (m ((c.tc : Thread nD τ).loc main_arg2) : Vec Ideal S8x4352x256 .f32) (ix3 ⟨t.val / 17, by have := points t; omega⟩ n d) := by
  unfold iblk
  show V m c main_v1 _ = _
  rw [V_v]
  refine congrArg (m ((c.tc : Thread nD τ).loc main_arg2)) ?_
  funext a
  apply Fin.ext
  match a with
  | ⟨0, _⟩ => blk_simp [index2]; rfl
  | ⟨1, _⟩ => blk_simp [index2]
  | ⟨2, _⟩ => blk_simp [index2]

theorem block_w (t : Fin cfg0.N) (h n : Fin 1024) :
    (iblk m c 3 t : Vec Ideal S1024x1024 .bf16) (ix2 h n)
      = (m ((c.tc : Thread nD τ).loc main_arg3) : Vec Ideal S1024x1024 .f32) (ix2 h n) := by
  unfold iblk
  show V m c main_v2 _ = _
  rw [V_w]
  refine congrArg (m ((c.tc : Thread nD τ).loc main_arg3)) ?_
  funext a
  apply Fin.ext
  match a with
  | ⟨0, _⟩ => blk_simp [index3]
  | ⟨1, _⟩ => blk_simp [index3]

theorem block_x (t : Fin cfg0.N) (p : Fin 256) (n : Fin 1024) :
    (iblk m c 4 t : Vec Ideal S1x256x1024 .f32) (ix3 0 p n)
      = (m ((c.tc : Thread nD τ).loc main_arg4) : Vec Ideal S8x4352x1024 .f32) (ix3 ⟨t.val / 17, by have := points t; omega⟩ ⟨t.val % 17 * 256 + p.val, by omega⟩ n) := by
  unfold iblk
  show V m c main_arg4 _ = _
  rw [V_main_arg4]
  refine congrArg (m ((c.tc : Thread nD τ).loc main_arg4)) ?_
  funext a
  apply Fin.ext
  match a with
  | ⟨0, _⟩ => blk_simp [index4]; rfl
  | ⟨1, _⟩ => blk_simp [index4]
  | ⟨2, _⟩ => blk_simp [index4]

theorem block_g (t : Fin cfg0.N) (d : Fin 6) (n : Fin 1024) :
    (iblk m c 5 t : Vec Ideal S1x1x6x1024 .f32) (ix4 0 0 d n)
      = (m ((c.tc : Thread nD τ).loc main_arg5) : Vec Ideal S8x2x6x1024 .f32) (ix4 ⟨t.val / 17, by have := points t; omega⟩ ⟨group t.val, by unfold group; split <;> omega⟩ d n) := by
  unfold iblk
  show V m c main_arg5 _ = _
  rw [V_main_arg5]
  refine congrArg (m ((c.tc : Thread nD τ).loc main_arg5)) ?_
  funext a
  apply Fin.ext
  match a with
  | ⟨0, _⟩ => blk_simp [index5]; rfl
  | ⟨1, _⟩ => blk_simp [index5]; rfl
  | ⟨2, _⟩ => blk_simp [index5]
  | ⟨3, _⟩ => blk_simp [index5]

/-- The queries, the keys, the values, the output projection, the residual and the modulation table. -/
abbrev inQ : FVec Ideal S8x4352x1024 .f32 := m ((c.tc : Thread nD τ).loc main_arg0)
abbrev inK : FVec Ideal S8x4352x256 .f32 := m ((c.tc : Thread nD τ).loc main_arg1)
abbrev inV : FVec Ideal S8x4352x256 .f32 := m ((c.tc : Thread nD τ).loc main_arg2)
abbrev inW : FVec Ideal S1024x1024 .f32 := m ((c.tc : Thread nD τ).loc main_arg3)
abbrev inX : FVec Ideal S8x4352x1024 .f32 := m ((c.tc : Thread nD τ).loc main_arg4)
abbrev inG : FVec Ideal S8x2x6x1024 .f32 := m ((c.tc : Thread nD τ).loc main_arg5)

/-- The scores at a grid point: row `r` of head pair half `j` is query row `r % 256` of the point's tile, head `4 j + r / 256`. -/
def scoreAt (t : Fin cfg0.N) (j : Fin 2) (r : Fin 1024) (k : Fin 4352) : ℝ :=
  dotReal (inQ m c) (inK m c) ⟨t.val / 17, by have := points t; omega⟩ ⟨t.val % 17 * 256 + r.val % 256, by omega⟩ j ⟨r.val / 256, by omega⟩ k * qScale

variable {m c}

theorem scores_at (hq : Real' (inQ m c)) (hk : Real' (inK m c)) (t : Fin cfg0.N) : Scores (iblk m c 0 t) (iblk m c 1 t) (scoreAt m c t) := by
  intro j r k
  unfold scoreAt dotReal
  rw [Finset.sum_mul, ← coe_sum]
  refine Finset.sum_congr rfl fun d _ => ?_
  unfold qAt kAt
  rw [block_q, block_k, EReal.coe_mul, EReal.coe_mul, ← hq, ← hk]
  exact mul_right_comm _ _ _

theorem att_at (t : Fin cfg0.N) (J : Finset (Fin 4352)) (p : Fin 256) (h : Fin 1024) :
    attAt (iblk m c 2 t) (scoreAt m c t) J p h
      = attn (inQ m c) (inK m c) (inV m c) ⟨t.val / 17, by have := points t; omega⟩ ⟨t.val % 17 * 256 + p.val, by omega⟩ h J := by
  unfold attAt attn
  refine congrArg₂ (soft J) ?_ ?_
  · funext k
    unfold scoreAt
    have e1 : (⟨t.val % 17 * 256 + (h.val % 512 / 128 * 256 + p.val) % 256, by omega⟩ : Fin 4352) = ⟨t.val % 17 * 256 + p.val, by omega⟩ := Fin.ext (by simp only []; omega)
    have e2 : (⟨(h.val % 512 / 128 * 256 + p.val) / 256, by omega⟩ : Fin 4) = ⟨h.val % 512 / 128, by omega⟩ := Fin.ext (by simp only []; omega)
    rw [e1, e2]
  · funext k
    unfold kAt
    rw [block_v]

/-- The blocks a point's last step reads. -/
abbrev tileX (m : (ℓ : Loc nD τ sig) → Buf (Elt Ideal) ℓ) (c : Dev nD) (t : Fin cfg0.N) : Vec Ideal S1x256x1024 .f32 := iblk m c 4 t
abbrev tileG (m : (ℓ : Loc nD τ sig) → Buf (Elt Ideal) ℓ) (c : Dev nD) (t : Fin cfg0.N) : Vec Ideal S1x1x6x1024 .f32 := iblk m c 5 t
abbrev tileW (m : (ℓ : Loc nD τ sig) → Buf (Elt Ideal) ℓ) (c : Dev nD) (t : Fin cfg0.N) : Vec Ideal S1024x1024 .bf16 := iblk m c 3 t

theorem point_result (t : Fin cfg0.N) (J : Finset (Fin 4352)) (p : Fin 256) (n : Fin 1024) (o : EReal)
    (ho : o = tileX m c t (ix3 0 p n) + tileG m c t (ix4 0 0 2 n) * ∑ h : Fin 1024, attAt (iblk m c 2 t) (scoreAt m c t) J p h * tileW m c t (ix2 h n)) :
    o = result (inQ m c) (inK m c) (inV m c) (inW m c) (inX m c) (inG m c) ⟨t.val / 17, by have := points t; omega⟩ ⟨t.val % 17 * 256 + p.val, by omega⟩ n
          ⟨group t.val, by unfold group; split <;> omega⟩ J := by
  unfold tileX tileG tileW at ho
  rw [block_x, block_g] at ho
  rw [ho]
  unfold result
  refine congrArg (fun z : EReal => _ + _ * z) (Finset.sum_congr rfl fun h _ => ?_)
  rw [att_at, block_w]

/-- A tile of an array, at an index. -/
theorem read_tile (A : Vec Ideal S8x4352x1024 .f32) (t : Fin cfg0.N) (p : Fin 256) (n : Fin 1024) :
    (((cfg0.win 6).blk t).view.read (Elt Ideal) A : Vec Ideal S1x256x1024 .f32) (ix3 0 p n)
      = A (ix3 ⟨t.val / 17, by have := points t; omega⟩ ⟨t.val % 17 * 256 + p.val, by omega⟩ n) := by
  show A _ = _
  refine congrArg A ?_
  funext a
  apply Fin.ext
  have e : (cfg0.win 6).index t = ![t.val / 17, t.val % 17, 0] := index6 t
  match a with
  | ⟨0, _⟩ => blk_simp [e]; rfl
  | ⟨1, _⟩ => blk_simp [e]
  | ⟨2, _⟩ => blk_simp [e]

theorem cut_tile (t : Fin cfg0.N) (o : Vec Ideal S1x256x1024 .f32) (p : Fin 256) (n : Fin 1024) :
    ((cfg0.win 6).cut (grid0.coords t) o : Vec Ideal S1x256x1024 .f32) (ix3 0 p n) = o (ix3 0 p n) := rfl

/-- What a grid point writes at a row of its tile. -/
theorem flushed_apply (hq : Real' (inQ m c)) (hk : Real' (inK m c)) (t : Fin cfg0.N) (p : Fin 256) (n : Fin 1024) (J : Finset (Fin 4352))
    (hJ : J = if t.val % 17 < 16 then Finset.univ else seen 0) :
    ((dats m 0 c).flushed 6 t : Vec Ideal S1x256x1024 .f32) (ix3 0 p n)
      = result (inQ m c) (inK m c) (inV m c) (inW m c) (inX m c) (inG m c) ⟨t.val / 17, by have := points t; omega⟩ ⟨t.val % 17 * 256 + p.val, by omega⟩ n
          ⟨group t.val, by unfold group; split <;> omega⟩ J := by
  have hs := scores_at hq hk t
  by_cases ht : t.val % 17 < 16
  · rw [if_pos ht] at hJ
    rw [Cert.Kernel2Ideal.Value.flushed6_A m c t (by omega) (by omega), hJ]
    exact (cut_tile t _ p n).trans (point_result t _ p n _ (out_A_apply c (grid0.coords t) _ _ _ _ _ _ _ _ _ _ _ _ _ _ _ _ _ _ _ _ _ _ _ _ hs p n))
  · rw [if_neg ht] at hJ
    rw [Cert.Kernel2Ideal.Value.flushed6_B m c t (by omega) (by omega), hJ]
    exact (cut_tile t _ p n).trans (point_result t _ p n _ (out_B_apply c (grid0.coords t) _ _ _ _ _ _ _ _ _ _ _ _ _ _ _ _ _ _ _ _ _ _ _ _ hs p n))

/-- The output array, at every index. -/
theorem array_apply (hq : Real' (inQ m c)) (hk : Real' (inK m c)) (b : Fin 8) (r : Fin 4352) (n : Fin 1024) (e : Fin 2) (J : Finset (Fin 4352))
    (he : e.val = if r.val < 4096 then 1 else 0) (hJ : J = if r.val < 4096 then Finset.univ else seen 0) :
    ((dats m 0 c).arrAt 6 cfg0.N : Vec Ideal S8x4352x1024 .f32) (ix3 b r n)
      = result (inQ m c) (inK m c) (inV m c) (inW m c) (inX m c) (inG m c) b r n e J := by
  have ht : b.val * 17 + r.val / 256 < 136 := by omega
  let t : Fin cfg0.N := ⟨b.val * 17 + r.val / 256, lt_of_lt_of_eq ht N_0.symm⟩
  have htv : t.val = b.val * 17 + r.val / 256 := rfl
  have hb : (⟨t.val / 17, by have := points t; omega⟩ : Fin 8) = b := Fin.ext (by simp only [htv]; omega)
  have hr : (⟨t.val % 17 * 256 + r.val % 256, by omega⟩ : Fin 4352) = r := Fin.ext (by simp only [htv]; omega)
  have hlt : t.val % 17 < 16 ↔ r.val < 4096 := by rw [htv]; omega
  have hg : (⟨group t.val, by unfold group; split <;> omega⟩ : Fin 2) = e := Fin.ext (by simp only [he, group, hlt])
  have h := (congrFun (Cert.Kernel2Ideal.Value.blocks6 m c t (flush0_6 t)) (ix3 0 ⟨r.val % 256, by omega⟩ n)).trans
    (flushed_apply hq hk t ⟨r.val % 256, by omega⟩ n J (by simp only [hlt, hJ]))
  have h2 := (read_tile _ t ⟨r.val % 256, by omega⟩ n).symm.trans h
  rw [hb, hg] at h2
  simp only [hr] at h2
  exact h2
end
end Cert.Proof.Attn
-- ==== Proof.AttnClaims.lean ====
module

public import proofs.«01_k».proof.Proof.AttnValue
public import Idealize.ShloMosaic.Lib.ReduceAll

/-! # The global attention's claims

The precondition makes every query and key a real; the two runs then end with the same array. -/

@[expose] public section
noncomputable section
namespace Cert.Proof.Attn

open Idealize.ShloMosaic Idealize.ShloMosaic.TcCoe Idealize.SL.Sem
open Cert.Kernel2Ideal Cert.Kernel2Ideal.Gen

theorem ofBits_inf : Ideal.ofBits .f32 0x7F800000#32 = (⊤ : EReal) := by
  simp [Ideal.ofBits, Ideal.ieee]

/-- A number of absolute value below infinity is a real. -/
theorem real_of_abs_lt (x : EReal) (h : Ideal.cmp .olt (max x (-x)) ⊤ = 1#1) : x = (x.toReal : EReal) := by
  have hlt : max x (-x) < ⊤ := by
    by_contra hn
    simp [Ideal.cmp, hn] at h
  induction x using EReal.rec with
  | bot => simp at hlt
  | coe r => rfl
  | top => simp at hlt

theorem real_of_lt {s : Shape} (x y : FVec Ideal s .f32) (hy : ∀ i, y i = (⊤ : EReal)) (h : ∀ i, cmpf .olt (Host.absf x) y i = 1#1) : Real' x := by
  intro i
  have hi : Ideal.cmp .olt (max (x i : EReal) (-(x i : EReal))) (y i) = 1#1 := h i
  rw [hy] at hi
  exact real_of_abs_lt (x i) hi

theorem and_one (a b : BitVec 1) (h : a &&& b = 1#1) : a = 1#1 ∧ b = 1#1 := by
  revert a b
  decide

section
variable [Cert.Kernel2Ideal.Facts] [Cert.Pre_finite_scores.Facts]

theorem real_of_pre {m : (ℓ : Loc nD τ sig) → Buf (Elt Ideal) ℓ} (h : Cert.Pre_Kernel2Ideal_finite_scores m) (c : Dev nD) :
    Real' (inQ m c) ∧ Real' (inK m c) := by
  have hc := h c
  dsimp only [Cert.Pre_finite_scores.fn] at hc
  have h1 := and_one _ _ (congrFun hc fun a => a.elim0)
  exact ⟨real_of_lt _ _ (fun _ => ofBits_inf) (fun i => Host.reduce_andi_all _ _ _ _ _ h1.1 i),
    real_of_lt _ _ (fun _ => ofBits_inf) (fun i => Host.reduce_andi_all _ _ _ _ _ h1.2 i)⟩
end

/-- The precondition's shapes. -/
theorem pre_facts : Cert.Pre_finite_scores.Facts :=
  ⟨by decide, by decide, by decide, by decide, by decide⟩

section
variable [Cert.Kernel2Ideal.Facts] [Cert.Reference2Ideal.Facts]

theorem array_eq {m : (ℓ : Loc nD τ sig) → Buf (Elt Ideal) ℓ} {c : Dev nD} (hq : Real' (inQ m c)) (hk : Real' (inK m c)) :
    whole (inQ m c) (inK m c) (inV m c) (inW m c) (inX m c) (inG m c) = ((dats m 0 c).arrAt 6 cfg0.N : Vec Ideal S8x4352x1024 .f32) := by
  funext i
  obtain ⟨b, r, n, rfl⟩ : ∃ (b : Fin 8) (r : Fin 4352) (n : Fin 1024), i = ix3 b r n :=
    ⟨i 0, i 1, i 2, by funext a; match a with | 0 => rfl | 1 => rfl | 2 => rfl⟩
  by_cases hr : r.val < 4096
  · exact (whole_latents hq hk _ _ _ _ b r n hr).trans (array_apply hq hk b r n 1 Finset.univ (by rw [if_pos hr]; rfl) (by rw [if_pos hr])).symm
  · exact (whole_context hq hk _ _ _ _ b r n hr).trans (array_apply hq hk b r n 0 (seen 0) (by rw [if_neg hr]; rfl) (by rw [if_neg hr])).symm

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

variable [Cert.Pre_finite_scores.Facts]

theorem frame_reference_pre : Cert.quiescent_Reference2Ideal_pre_finite_scores := fun m ρ _ => frame_reference m ρ trivial

theorem algebraic : Cert.algebraic_Kernel2Ideal_Reference2Ideal_pre_finite_scores := fun m g m' g' hp hag =>
  ⟨fun c => (dats m 0 c).arrAt 6 cfg0.N,
    Cert.Kernel2Ideal.Value.run_blocks m g,
    (θ_run _ _ _).mono (fun _ h c => ⟨(h c).1.trans ((res_whole m' c).trans ((by
        rw [(hag c).1, (hag c).2.1, (hag c).2.2.1, (hag c).2.2.2.1, (hag c).2.2.2.2.1, (hag c).2.2.2.2.2] :
        _ = whole (inQ m c) (inK m c) (inV m c) (inW m c) (inX m c) (inG m c)).trans (array_eq (real_of_pre hp c).1 (real_of_pre hp c).2))), (h c).2⟩)
      (Cert.Reference2Ideal.Value.run (F := Ideal) m' g')⟩
end
end Cert.Proof.Attn
-- ==== Proof.lean ====
/- The certificate of two calls of the layer: the expert feed-forward (the kernel's frame for each instance by one development,
   the reference's by its run, and the results equal at the ideal values) and the global attention (the frames of its pipeline,
   the named scale, and the results equal at the ideal values wherever the queries and the keys are reals). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Loops
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.BitsRun
public import proofs.«01_k».proof.Proof.Value
public import proofs.«01_k».proof.Proof.AttnClaims

@[expose] public section

namespace Cert.Proof

open Idealize.ShloMosaic

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Attn.pre_facts,
    FfnBits.frame_kernel, Ffn.frame_ideal, Ffn.frame_reference,
    fun m ρ _ => Cert.Kernel2.Gen.frame m ρ, fun m ρ _ => Cert.Kernel2Ideal.Gen.frame m ρ,
    have := Attn.pre_facts; fun m ρ _ => Cert.Kernel2Ideal.Gen.frame m ρ,
    Attn.frame_reference, have := Attn.pre_facts; Attn.frame_reference_pre,
    trivial, Ffn.algebraic,
    IdealRules.named_const.statement Cert.Kernel2Ideal.κ "q_scale" .f32 0x3E0293EE#32 _ rfl,
    have := Attn.pre_facts; Attn.algebraic⟩

end Cert.Proof

end
